-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  IdealRules.named_const.Statement Cert.KernelIdeal.κ "scale" .f32 0x3DD105EC#32 (((Real.sqrt 96)⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![1024, 64]⟩ ⟨2, ![1024, 512]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![64, 1024]⟩ ⟨2, ![512, 1024]⟩ 0 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![64, 1024]⟩ ⟨2, ![512, 1024]⟩ 0 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)
      ∧ m ((c.tc : Thread Cert.KernelIdeal.nD Cert.KernelIdeal.τ).loc Cert.KernelIdeal.main_arg5) = m' (((0 : Dev Cert.ReferenceIdeal.nD).tc : Thread Cert.ReferenceIdeal.nD Cert.ReferenceIdeal.τ).loc Cert.ReferenceIdeal.main_arg5)
      ∧ m ((c.tc : Thread Cert.KernelIdeal.nD Cert.KernelIdeal.τ).loc Cert.KernelIdeal.main_arg6) = m' (((0 : Dev Cert.ReferenceIdeal.nD).tc : Thread Cert.ReferenceIdeal.nD Cert.ReferenceIdeal.τ).loc Cert.ReferenceIdeal.main_arg6)
      ∧ m ((c.tc : Thread Cert.KernelIdeal.nD Cert.KernelIdeal.τ).loc Cert.KernelIdeal.main_arg7) = m' (((0 : Dev Cert.ReferenceIdeal.nD).tc : Thread Cert.ReferenceIdeal.nD Cert.ReferenceIdeal.τ).loc Cert.ReferenceIdeal.main_arg7)) →
    ∃ (v0 : Buf (Elt Ideal) (((0 : Dev Cert.ReferenceIdeal.nD).tc : Thread Cert.ReferenceIdeal.nD Cert.ReferenceIdeal.τ).loc Cert.ReferenceIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v39) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6)
          ∧ r.2.mem (((0 : Dev Cert.ReferenceIdeal.nD).tc : Thread Cert.ReferenceIdeal.nD Cert.ReferenceIdeal.τ).loc Cert.ReferenceIdeal.main_arg7) = m' (((0 : Dev Cert.ReferenceIdeal.nD).tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x256x1024 : Shape := ⟨3, ![2, 256, 1024]⟩
abbrev S1024x64 : Shape := ⟨2, ![1024, 64]⟩
abbrev S64x1024 : Shape := ⟨2, ![64, 1024]⟩
abbrev S1024x1024 : Shape := ⟨2, ![1024, 1024]⟩
abbrev S1024x512 : Shape := ⟨2, ![1024, 512]⟩
abbrev S1024x32 : Shape := ⟨2, ![1024, 32]⟩
abbrev S_ : Shape := ⟨0, ![]⟩
abbrev S512x1024 : Shape := ⟨2, ![512, 1024]⟩
abbrev S1024x128 : Shape := ⟨2, ![1024, 128]⟩
abbrev S8x128x1024 : Shape := ⟨3, ![8, 128, 1024]⟩
abbrev S512x128 : Shape := ⟨2, ![512, 128]⟩
abbrev S8x64x128 : Shape := ⟨3, ![8, 64, 128]⟩
abbrev S512x64 : Shape := ⟨2, ![512, 64]⟩
abbrev S512x32 : Shape := ⟨2, ![512, 32]⟩
abbrev S8x512x128 : Shape := ⟨3, ![8, 512, 128]⟩
abbrev S4x7 : Shape := ⟨2, ![4, 7]⟩
abbrev S3 : Shape := ⟨1, ![3]⟩
abbrev S64x128 : Shape := ⟨2, ![64, 128]⟩
abbrev S1x64x128 : Shape := ⟨3, ![1, 64, 128]⟩
abbrev S1 : Shape := ⟨1, ![1]⟩
abbrev S1x1 : Shape := ⟨2, ![1, 1]⟩
abbrev S256x32 : Shape := ⟨2, ![256, 32]⟩
abbrev S256x64 : Shape := ⟨2, ![256, 64]⟩
abbrev S256x256 : Shape := ⟨2, ![256, 256]⟩
abbrev S256 : Shape := ⟨1, ![256]⟩
abbrev S256x1 : Shape := ⟨2, ![256, 1]⟩
abbrev S1x256x64 : Shape := ⟨3, ![1, 256, 64]⟩
abbrev S1x512x128 : Shape := ⟨3, ![1, 512, 128]⟩
abbrev S1x128x1024 : Shape := ⟨3, ![1, 128, 1024]⟩
abbrev S128x1024 : Shape := ⟨2, ![128, 1024]⟩

abbrev nBuf : Space → Nat
  | .hbm => 36
  | .vmem => 22
  | .smem => 0
  | _ => 0

abbrev bufTy : (tb : Table) → Fin (tcTables nBuf tb) → BufTy
  | .hbm, ⟨0, _⟩ => ⟨S2x256x1024, .bf16⟩
  | .hbm, ⟨1, _⟩ => ⟨S1024x64, .bf16⟩
  | .hbm, ⟨2, _⟩ => ⟨S64x1024, .bf16⟩
  | .hbm, ⟨3, _⟩ => ⟨S64x1024, .bf16⟩
  | .hbm, ⟨4, _⟩ => ⟨S1024x1024, .bf16⟩
  | .hbm, ⟨5, _⟩ => ⟨S1024x512, .bf16⟩
  | .hbm, ⟨6, _⟩ => ⟨S1024x32, .bf16⟩
  | .hbm, ⟨7, _⟩ => ⟨S1024x1024, .bf16⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S512x1024, .bf16⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i1⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S1024x128, .bf16⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S_, .i1⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S1024x64, .bf16⟩
  | .hbm, ⟨33, _⟩ => ⟨S8x128x1024, .bf16⟩
  | .hbm, ⟨34, _⟩ => ⟨S512x1024, .f32⟩
  | .hbm, ⟨35, _⟩ => ⟨S2x256x1024, .f32⟩
  | .local _ .vmem, ⟨0, _⟩ => ⟨S512x1024, .bf16⟩
  | .local _ .vmem, ⟨1, _⟩ => ⟨S1024x64, .bf16⟩
  | .local _ .vmem, ⟨2, _⟩ => ⟨S64x1024, .bf16⟩
  | .local _ .vmem, ⟨3, _⟩ => ⟨S64x1024, .bf16⟩
  | .local _ .vmem, ⟨4, _⟩ => ⟨S1024x128, .bf16⟩
  | .local _ .vmem, ⟨5, _⟩ => ⟨S1024x64, .bf16⟩
  | .local _ .vmem, ⟨6, _⟩ => ⟨S1024x32, .bf16⟩
  | .local _ .vmem, ⟨7, _⟩ => ⟨S8x128x1024, .bf16⟩
  | .local _ .vmem, ⟨8, _⟩ => ⟨S512x1024, .f32⟩
  | .local _ .vmem, ⟨9, _⟩ => ⟨S512x128, .bf16⟩
  | .local _ .vmem, ⟨10, _⟩ => ⟨S512x1024, .bf16⟩
  | .local _ .vmem, ⟨11, _⟩ => ⟨S8x64x128, .bf16⟩
  | .local _ .vmem, ⟨12, _⟩ => ⟨S8x64x128, .bf16⟩
  | .local _ .vmem, ⟨13, _⟩ => ⟨S1024x128, .bf16⟩
  | .local _ .vmem, ⟨14, _⟩ => ⟨S1024x128, .bf16⟩
  | .local _ .vmem, ⟨15, _⟩ => ⟨S512x128, .bf16⟩
  | .local _ .vmem, ⟨16, _⟩ => ⟨S512x128, .bf16⟩
  | .local _ .vmem, ⟨17, _⟩ => ⟨S512x128, .bf16⟩
  | .local _ .vmem, ⟨18, _⟩ => ⟨S512x64, .bf16⟩
  | .local _ .vmem, ⟨19, _⟩ => ⟨S512x32, .bf16⟩
  | .local _ .vmem, ⟨20, _⟩ => ⟨S8x512x128, .bf16⟩
  | .local _ .vmem, ⟨21, _⟩ => ⟨S8x128x1024, .bf16⟩
  | _, _ => ⟨S2x256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 1 → Bool
  | ⟨0, _⟩ => false
  | _ => false

abbrev dmaSemScoped : Fin 68 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | _ => false

abbrev sig : RefSig :=
  (ofTc nBuf bufTy 1 68 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_c_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_c_1 : Ref sig .tc := ⟨.hbm, 15, rfl⟩
abbrev main_v6 : Ref sig .tc := ⟨.hbm, 16, rfl⟩
abbrev main_c_2 : Ref sig .tc := ⟨.hbm, 17, rfl⟩
abbrev main_v7 : Ref sig .tc := ⟨.hbm, 18, rfl⟩
abbrev main_c_3 : Ref sig .tc := ⟨.hbm, 19, rfl⟩
abbrev main_v8 : Ref sig .tc := ⟨.hbm, 20, rfl⟩
abbrev main_v9 : Ref sig .tc := ⟨.hbm, 21, rfl⟩
abbrev main_c_4 : Ref sig .tc := ⟨.hbm, 22, rfl⟩
abbrev main_v10 : Ref sig .tc := ⟨.hbm, 23, rfl⟩
abbrev main_c_5 : Ref sig .tc := ⟨.hbm, 24, rfl⟩
abbrev main_v11 : Ref sig .tc := ⟨.hbm, 25, rfl⟩
abbrev main_c_6 : Ref sig .tc := ⟨.hbm, 26, rfl⟩
abbrev main_v12 : Ref sig .tc := ⟨.hbm, 27, rfl⟩
abbrev main_c_7 : Ref sig .tc := ⟨.hbm, 28, rfl⟩
abbrev main_v13 : Ref sig .tc := ⟨.hbm, 29, rfl⟩
abbrev main_v14 : Ref sig .tc := ⟨.hbm, 30, rfl⟩
abbrev main_c_8 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_scratch4 : Ref sig .tc := ⟨.vmem, 13, rfl⟩
abbrev cc0_scratch5 : Ref sig .tc := ⟨.vmem, 14, rfl⟩
abbrev cc0_scratch6 : Ref sig .tc := ⟨.vmem, 15, rfl⟩
abbrev cc0_scratch7 : Ref sig .tc := ⟨.vmem, 16, rfl⟩
abbrev cc0_scratch8 : Ref sig .tc := ⟨.vmem, 17, rfl⟩
abbrev cc0_scratch9 : Ref sig .tc := ⟨.vmem, 18, rfl⟩
abbrev cc0_scratch10 : Ref sig .tc := ⟨.vmem, 19, rfl⟩
abbrev cc0_scratch11 : Ref sig .tc := ⟨.vmem, 20, rfl⟩
abbrev cc0_scratch12 : Ref sig .tc := ⟨.vmem, 21, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_7 : BitVec 32 := 1#32
  let v16 : BitVec 32 := Scalar.addi v2 c1_i32_7
  let c8_i32_8 : BitVec 32 := 8#32
  let v17 : BitVec 32 := Scalar.remsi v16 c8_i32_8
  let c1_i32_10 : BitVec 32 := 1#32
  let v18 : BitVec 32 := Scalar.muli v17 c1_i32_10
  let v19 : BitVec 32 := Scalar.addi c0_i32 v18
  v19.toNat
def k0_dev2 (d0 : Dev nD) : Nat :=
  let c0_i32_14 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v20 : BitVec 32 := Scalar.addi v2 c2_i32
  let c8_i32_11 : BitVec 32 := 8#32
  let v21 : BitVec 32 := Scalar.remsi v20 c8_i32_11
  let c1_i32_13 : BitVec 32 := 1#32
  let v22 : BitVec 32 := Scalar.muli v21 c1_i32_13
  let v23 : BitVec 32 := Scalar.addi c0_i32_14 v22
  v23.toNat
def k0_dev3 (d0 : Dev nD) : Nat :=
  let c0_i32_18 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v24 : BitVec 32 := Scalar.addi v2 c3_i32
  let c8_i32_15 : BitVec 32 := 8#32
  let v25 : BitVec 32 := Scalar.remsi v24 c8_i32_15
  let c1_i32_17 : BitVec 32 := 1#32
  let v26 : BitVec 32 := Scalar.muli v25 c1_i32_17
  let v27 : BitVec 32 := Scalar.addi c0_i32_18 v26
  v27.toNat
def k0_dev4 (d0 : Dev nD) : Nat :=
  let c0_i32_22 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v28 : BitVec 32 := Scalar.addi v2 c4_i32
  let c8_i32_19 : BitVec 32 := 8#32
  let v29 : BitVec 32 := Scalar.remsi v28 c8_i32_19
  let c1_i32_21 : BitVec 32 := 1#32
  let v30 : BitVec 32 := Scalar.muli v29 c1_i32_21
  let v31 : BitVec 32 := Scalar.addi c0_i32_22 v30
  v31.toNat
def k0_dev5 (d0 : Dev nD) : Nat :=
  let c0_i32_26 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v32 : BitVec 32 := Scalar.addi v2 c5_i32
  let c8_i32_23 : BitVec 32 := 8#32
  let v33 : BitVec 32 := Scalar.remsi v32 c8_i32_23
  let c1_i32_25 : BitVec 32 := 1#32
  let v34 : BitVec 32 := Scalar.muli v33 c1_i32_25
  let v35 : BitVec 32 := Scalar.addi c0_i32_26 v34
  v35.toNat
def k0_dev6 (d0 : Dev nD) : Nat :=
  let c0_i32_30 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v36 : BitVec 32 := Scalar.addi v2 c6_i32
  let c8_i32_27 : BitVec 32 := 8#32
  let v37 : BitVec 32 := Scalar.remsi v36 c8_i32_27
  let c1_i32_29 : BitVec 32 := 1#32
  let v38 : BitVec 32 := Scalar.muli v37 c1_i32_29
  let v39 : BitVec 32 := Scalar.addi c0_i32_30 v38
  v39.toNat
def k0_dev7 (d0 : Dev nD) : Nat :=
  let c0_i32_34 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v40 : BitVec 32 := Scalar.addi v2 c7_i32
  let c8_i32_31 : BitVec 32 := 8#32
  let v41 : BitVec 32 := Scalar.remsi v40 c8_i32_31
  let c1_i32_33 : BitVec 32 := 1#32
  let v42 : BitVec 32 := Scalar.muli v41 c1_i32_33
  let v43 : BitVec 32 := Scalar.addi c0_i32_34 v42
  v43.toNat
def k0_off1 (d0 : Dev nD) : Fin 2 → Nat :=
  let c0_i32_115 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c128_i32 : BitVec 32 := 128#32
  let v137 : BitVec 32 := Scalar.muli v2 c128_i32
  ![0, v137.toNat]
def k0_off2 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c128_i32_112 : BitVec 32 := 128#32
  let v138 : BitVec 32 := Scalar.muli v2 c128_i32_112
  let c0_i32_117 : BitVec 32 := 0#32
  ![v138.toNat, 0]
def k0_off3 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_118 : BitVec 32 := 0#32
  let c0_i32_119 : BitVec 32 := 0#32
  ![v2.toNat, 0, 0]
def k0_dev8 (d0 : Dev nD) : Nat :=
  let c0_i32_132 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_124 : BitVec 32 := 1#32
  let v153 : BitVec 32 := Scalar.addi v2 c1_i32_124
  let c8_i32_125 : BitVec 32 := 8#32
  let v154 : BitVec 32 := Scalar.remsi v153 c8_i32_125
  let c1_i32_131 : BitVec 32 := 1#32
  let v156 : BitVec 32 := Scalar.muli v154 c1_i32_131
  let v157 : BitVec 32 := Scalar.addi c0_i32_132 v156
  v157.toNat
def k0_off4 (d0 : Dev nD) (c1_i32_124 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v153 : BitVec 32 := Scalar.addi v2 c1_i32_124
  let c8_i32_125 : BitVec 32 := 8#32
  let v154 : BitVec 32 := Scalar.remsi v153 c8_i32_125
  let c0_i32_142 : BitVec 32 := 0#32
  let c0_i32_143 : BitVec 32 := 0#32
  ![v154.toNat, 0, 0]
def k0_dev9 (d0 : Dev nD) : Nat :=
  let c0_i32_140 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_124 : BitVec 32 := 1#32
  let v153 : BitVec 32 := Scalar.addi v2 c1_i32_124
  let c8_i32_125 : BitVec 32 := 8#32
  let v154 : BitVec 32 := Scalar.remsi v153 c8_i32_125
  let c1_i32_139 : BitVec 32 := 1#32
  let v164 : BitVec 32 := Scalar.muli v154 c1_i32_139
  let v165 : BitVec 32 := Scalar.addi c0_i32_140 v164
  v165.toNat
def k0_dev10 (d0 : Dev nD) : Nat :=
  let c0_i32_150 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_124 : BitVec 32 := 1#32
  let v153 : BitVec 32 := Scalar.addi v2 c1_i32_124
  let c8_i32_125 : BitVec 32 := 8#32
  let v154 : BitVec 32 := Scalar.remsi v153 c8_i32_125
  let c1_i32_149 : BitVec 32 := 1#32
  let v174 : BitVec 32 := Scalar.muli v154 c1_i32_149
  let v175 : BitVec 32 := Scalar.addi c0_i32_150 v174
  v175.toNat
def k0_dev11 (d0 : Dev nD) : Nat :=
  let c0_i32_162 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_154 : BitVec 32 := 2#32
  let v183 : BitVec 32 := Scalar.addi v2 c2_i32_154
  let c8_i32_155 : BitVec 32 := 8#32
  let v184 : BitVec 32 := Scalar.remsi v183 c8_i32_155
  let c1_i32_161 : BitVec 32 := 1#32
  let v186 : BitVec 32 := Scalar.muli v184 c1_i32_161
  let v187 : BitVec 32 := Scalar.addi c0_i32_162 v186
  v187.toNat
def k0_dev12 (d0 : Dev nD) : Nat :=
  let c0_i32_170 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_154 : BitVec 32 := 2#32
  let v183 : BitVec 32 := Scalar.addi v2 c2_i32_154
  let c8_i32_155 : BitVec 32 := 8#32
  let v184 : BitVec 32 := Scalar.remsi v183 c8_i32_155
  let c1_i32_169 : BitVec 32 := 1#32
  let v194 : BitVec 32 := Scalar.muli v184 c1_i32_169
  let v195 : BitVec 32 := Scalar.addi c0_i32_170 v194
  v195.toNat
def k0_dev13 (d0 : Dev nD) : Nat :=
  let c0_i32_180 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_154 : BitVec 32 := 2#32
  let v183 : BitVec 32 := Scalar.addi v2 c2_i32_154
  let c8_i32_155 : BitVec 32 := 8#32
  let v184 : BitVec 32 := Scalar.remsi v183 c8_i32_155
  let c1_i32_179 : BitVec 32 := 1#32
  let v204 : BitVec 32 := Scalar.muli v184 c1_i32_179
  let v205 : BitVec 32 := Scalar.addi c0_i32_180 v204
  v205.toNat
def k0_dev14 (d0 : Dev nD) : Nat :=
  let c0_i32_192 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_184 : BitVec 32 := 3#32
  let v213 : BitVec 32 := Scalar.addi v2 c3_i32_184
  let c8_i32_185 : BitVec 32 := 8#32
  let v214 : BitVec 32 := Scalar.remsi v213 c8_i32_185
  let c1_i32_191 : BitVec 32 := 1#32
  let v216 : BitVec 32 := Scalar.muli v214 c1_i32_191
  let v217 : BitVec 32 := Scalar.addi c0_i32_192 v216
  v217.toNat
def k0_dev15 (d0 : Dev nD) : Nat :=
  let c0_i32_200 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_184 : BitVec 32 := 3#32
  let v213 : BitVec 32 := Scalar.addi v2 c3_i32_184
  let c8_i32_185 : BitVec 32 := 8#32
  let v214 : BitVec 32 := Scalar.remsi v213 c8_i32_185
  let c1_i32_199 : BitVec 32 := 1#32
  let v224 : BitVec 32 := Scalar.muli v214 c1_i32_199
  let v225 : BitVec 32 := Scalar.addi c0_i32_200 v224
  v225.toNat
def k0_dev16 (d0 : Dev nD) : Nat :=
  let c0_i32_210 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_184 : BitVec 32 := 3#32
  let v213 : BitVec 32 := Scalar.addi v2 c3_i32_184
  let c8_i32_185 : BitVec 32 := 8#32
  let v214 : BitVec 32 := Scalar.remsi v213 c8_i32_185
  let c1_i32_209 : BitVec 32 := 1#32
  let v234 : BitVec 32 := Scalar.muli v214 c1_i32_209
  let v235 : BitVec 32 := Scalar.addi c0_i32_210 v234
  v235.toNat
def k0_dev17 (d0 : Dev nD) : Nat :=
  let c0_i32_222 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_214 : BitVec 32 := 4#32
  let v243 : BitVec 32 := Scalar.addi v2 c4_i32_214
  let c8_i32_215 : BitVec 32 := 8#32
  let v244 : BitVec 32 := Scalar.remsi v243 c8_i32_215
  let c1_i32_221 : BitVec 32 := 1#32
  let v246 : BitVec 32 := Scalar.muli v244 c1_i32_221
  let v247 : BitVec 32 := Scalar.addi c0_i32_222 v246
  v247.toNat
def k0_dev18 (d0 : Dev nD) : Nat :=
  let c0_i32_230 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_214 : BitVec 32 := 4#32
  let v243 : BitVec 32 := Scalar.addi v2 c4_i32_214
  let c8_i32_215 : BitVec 32 := 8#32
  let v244 : BitVec 32 := Scalar.remsi v243 c8_i32_215
  let c1_i32_229 : BitVec 32 := 1#32
  let v254 : BitVec 32 := Scalar.muli v244 c1_i32_229
  let v255 : BitVec 32 := Scalar.addi c0_i32_230 v254
  v255.toNat
def k0_dev19 (d0 : Dev nD) : Nat :=
  let c0_i32_240 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_214 : BitVec 32 := 4#32
  let v243 : BitVec 32 := Scalar.addi v2 c4_i32_214
  let c8_i32_215 : BitVec 32 := 8#32
  let v244 : BitVec 32 := Scalar.remsi v243 c8_i32_215
  let c1_i32_239 : BitVec 32 := 1#32
  let v264 : BitVec 32 := Scalar.muli v244 c1_i32_239
  let v265 : BitVec 32 := Scalar.addi c0_i32_240 v264
  v265.toNat
def k0_dev20 (d0 : Dev nD) : Nat :=
  let c0_i32_252 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_244 : BitVec 32 := 5#32
  let v273 : BitVec 32 := Scalar.addi v2 c5_i32_244
  let c8_i32_245 : BitVec 32 := 8#32
  let v274 : BitVec 32 := Scalar.remsi v273 c8_i32_245
  let c1_i32_251 : BitVec 32 := 1#32
  let v276 : BitVec 32 := Scalar.muli v274 c1_i32_251
  let v277 : BitVec 32 := Scalar.addi c0_i32_252 v276
  v277.toNat
def k0_dev21 (d0 : Dev nD) : Nat :=
  let c0_i32_260 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_244 : BitVec 32 := 5#32
  let v273 : BitVec 32 := Scalar.addi v2 c5_i32_244
  let c8_i32_245 : BitVec 32 := 8#32
  let v274 : BitVec 32 := Scalar.remsi v273 c8_i32_245
  let c1_i32_259 : BitVec 32 := 1#32
  let v284 : BitVec 32 := Scalar.muli v274 c1_i32_259
  let v285 : BitVec 32 := Scalar.addi c0_i32_260 v284
  v285.toNat
def k0_dev22 (d0 : Dev nD) : Nat :=
  let c0_i32_270 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_244 : BitVec 32 := 5#32
  let v273 : BitVec 32 := Scalar.addi v2 c5_i32_244
  let c8_i32_245 : BitVec 32 := 8#32
  let v274 : BitVec 32 := Scalar.remsi v273 c8_i32_245
  let c1_i32_269 : BitVec 32 := 1#32
  let v294 : BitVec 32 := Scalar.muli v274 c1_i32_269
  let v295 : BitVec 32 := Scalar.addi c0_i32_270 v294
  v295.toNat
def k0_dev23 (d0 : Dev nD) : Nat :=
  let c0_i32_282 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_274 : BitVec 32 := 6#32
  let v303 : BitVec 32 := Scalar.addi v2 c6_i32_274
  let c8_i32_275 : BitVec 32 := 8#32
  let v304 : BitVec 32 := Scalar.remsi v303 c8_i32_275
  let c1_i32_281 : BitVec 32 := 1#32
  let v306 : BitVec 32 := Scalar.muli v304 c1_i32_281
  let v307 : BitVec 32 := Scalar.addi c0_i32_282 v306
  v307.toNat
def k0_dev24 (d0 : Dev nD) : Nat :=
  let c0_i32_290 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_274 : BitVec 32 := 6#32
  let v303 : BitVec 32 := Scalar.addi v2 c6_i32_274
  let c8_i32_275 : BitVec 32 := 8#32
  let v304 : BitVec 32 := Scalar.remsi v303 c8_i32_275
  let c1_i32_289 : BitVec 32 := 1#32
  let v314 : BitVec 32 := Scalar.muli v304 c1_i32_289
  let v315 : BitVec 32 := Scalar.addi c0_i32_290 v314
  v315.toNat
def k0_dev25 (d0 : Dev nD) : Nat :=
  let c0_i32_300 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_274 : BitVec 32 := 6#32
  let v303 : BitVec 32 := Scalar.addi v2 c6_i32_274
  let c8_i32_275 : BitVec 32 := 8#32
  let v304 : BitVec 32 := Scalar.remsi v303 c8_i32_275
  let c1_i32_299 : BitVec 32 := 1#32
  let v324 : BitVec 32 := Scalar.muli v304 c1_i32_299
  let v325 : BitVec 32 := Scalar.addi c0_i32_300 v324
  v325.toNat
def k0_dev26 (d0 : Dev nD) : Nat :=
  let c0_i32_312 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_304 : BitVec 32 := 7#32
  let v333 : BitVec 32 := Scalar.addi v2 c7_i32_304
  let c8_i32_305 : BitVec 32 := 8#32
  let v334 : BitVec 32 := Scalar.remsi v333 c8_i32_305
  let c1_i32_311 : BitVec 32 := 1#32
  let v336 : BitVec 32 := Scalar.muli v334 c1_i32_311
  let v337 : BitVec 32 := Scalar.addi c0_i32_312 v336
  v337.toNat
def k0_dev27 (d0 : Dev nD) : Nat :=
  let c0_i32_320 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_304 : BitVec 32 := 7#32
  let v333 : BitVec 32 := Scalar.addi v2 c7_i32_304
  let c8_i32_305 : BitVec 32 := 8#32
  let v334 : BitVec 32 := Scalar.remsi v333 c8_i32_305
  let c1_i32_319 : BitVec 32 := 1#32
  let v344 : BitVec 32 := Scalar.muli v334 c1_i32_319
  let v345 : BitVec 32 := Scalar.addi c0_i32_320 v344
  v345.toNat
def k0_dev28 (d0 : Dev nD) : Nat :=
  let c0_i32_330 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_304 : BitVec 32 := 7#32
  let v333 : BitVec 32 := Scalar.addi v2 c7_i32_304
  let c8_i32_305 : BitVec 32 := 8#32
  let v334 : BitVec 32 := Scalar.remsi v333 c8_i32_305
  let c1_i32_329 : BitVec 32 := 1#32
  let v354 : BitVec 32 := Scalar.muli v334 c1_i32_329
  let v355 : BitVec 32 := Scalar.addi c0_i32_330 v354
  v355.toNat
def k0_dev29 (d0 : Dev nD) : Nat :=
  let c0_i32_668 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_659 : BitVec 32 := 1#32
  let v640 : BitVec 32 := Scalar.addi v2 c1_i32_659
  let c8_i32_660 : BitVec 32 := 8#32
  let v641 : BitVec 32 := Scalar.remsi v640 c8_i32_660
  let c1_i32_667 : BitVec 32 := 1#32
  let v642 : BitVec 32 := Scalar.muli v641 c1_i32_667
  let v643 : BitVec 32 := Scalar.addi c0_i32_668 v642
  v643.toNat
def k0_dev30 (d0 : Dev nD) : Nat :=
  let c0_i32_682 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_673 : BitVec 32 := 2#32
  let v652 : BitVec 32 := Scalar.addi v2 c2_i32_673
  let c8_i32_674 : BitVec 32 := 8#32
  let v653 : BitVec 32 := Scalar.remsi v652 c8_i32_674
  let c1_i32_681 : BitVec 32 := 1#32
  let v654 : BitVec 32 := Scalar.muli v653 c1_i32_681
  let v655 : BitVec 32 := Scalar.addi c0_i32_682 v654
  v655.toNat
def k0_dev31 (d0 : Dev nD) : Nat :=
  let c0_i32_696 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_687 : BitVec 32 := 3#32
  let v664 : BitVec 32 := Scalar.addi v2 c3_i32_687
  let c8_i32_688 : BitVec 32 := 8#32
  let v665 : BitVec 32 := Scalar.remsi v664 c8_i32_688
  let c1_i32_695 : BitVec 32 := 1#32
  let v666 : BitVec 32 := Scalar.muli v665 c1_i32_695
  let v667 : BitVec 32 := Scalar.addi c0_i32_696 v666
  v667.toNat
def k0_dev32 (d0 : Dev nD) : Nat :=
  let c0_i32_710 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_701 : BitVec 32 := 4#32
  let v676 : BitVec 32 := Scalar.addi v2 c4_i32_701
  let c8_i32_702 : BitVec 32 := 8#32
  let v677 : BitVec 32 := Scalar.remsi v676 c8_i32_702
  let c1_i32_709 : BitVec 32 := 1#32
  let v678 : BitVec 32 := Scalar.muli v677 c1_i32_709
  let v679 : BitVec 32 := Scalar.addi c0_i32_710 v678
  v679.toNat
def k0_dev33 (d0 : Dev nD) : Nat :=
  let c0_i32_724 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_715 : BitVec 32 := 5#32
  let v688 : BitVec 32 := Scalar.addi v2 c5_i32_715
  let c8_i32_716 : BitVec 32 := 8#32
  let v689 : BitVec 32 := Scalar.remsi v688 c8_i32_716
  let c1_i32_723 : BitVec 32 := 1#32
  let v690 : BitVec 32 := Scalar.muli v689 c1_i32_723
  let v691 : BitVec 32 := Scalar.addi c0_i32_724 v690
  v691.toNat
def k0_dev34 (d0 : Dev nD) : Nat :=
  let c0_i32_738 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_729 : BitVec 32 := 6#32
  let v700 : BitVec 32 := Scalar.addi v2 c6_i32_729
  let c8_i32_730 : BitVec 32 := 8#32
  let v701 : BitVec 32 := Scalar.remsi v700 c8_i32_730
  let c1_i32_737 : BitVec 32 := 1#32
  let v702 : BitVec 32 := Scalar.muli v701 c1_i32_737
  let v703 : BitVec 32 := Scalar.addi c0_i32_738 v702
  v703.toNat
def k0_dev35 (d0 : Dev nD) : Nat :=
  let c0_i32_752 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_743 : BitVec 32 := 7#32
  let v712 : BitVec 32 := Scalar.addi v2 c7_i32_743
  let c8_i32_744 : BitVec 32 := 8#32
  let v713 : BitVec 32 := Scalar.remsi v712 c8_i32_744
  let c1_i32_751 : BitVec 32 := 1#32
  let v714 : BitVec 32 := Scalar.muli v713 c1_i32_751
  let v715 : BitVec 32 := Scalar.addi c0_i32_752 v714
  v715.toNat
def k0_off5 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v726 : Index := Scalar.indexCast v2
  let c0_760 : Index := 0#32
  let c0_761 : Index := 0#32
  ![v726.toNat, 0, 0]
def k0_off6 (d0 : Dev nD) (c1_i32_777 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v739 : BitVec 32 := Scalar.addi v2 c1_i32_777
  let c8_i32_778 : BitVec 32 := 8#32
  let v740 : BitVec 32 := Scalar.remsi v739 c8_i32_778
  let v745 : Index := Scalar.indexCast v740
  let c0_784 : Index := 0#32
  let c0_785 : Index := 0#32
  ![v745.toNat, 0, 0]
abbrev stage0_0 : Fin 1 → Memref sig .tc .vmem S512x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x64 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1024x32 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8x128x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S512x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== KernelIdeal.lean ====
variable {F : FTy → Type} [FloatOps F] [Named F]
def κ : String → Option EReal := fun
  | "scale" => some (((Real.sqrt 96)⁻¹ : ℝ) : EReal)
  | _ => none
-- ==== ReferenceIdeal.lean ====
abbrev S2x256x1024 : Shape := ⟨3, ![2, 256, 1024]⟩
abbrev S1024x512 : Shape := ⟨2, ![1024, 512]⟩
abbrev S512x1024 : Shape := ⟨2, ![512, 1024]⟩
abbrev S1024x1024 : Shape := ⟨2, ![1024, 1024]⟩
abbrev S1024x32 : Shape := ⟨2, ![1024, 32]⟩
abbrev S2x256x512 : Shape := ⟨3, ![2, 256, 512]⟩
abbrev S2x256x16x64 : Shape := ⟨4, ![2, 256, 16, 64]⟩
abbrev S2x256x16x32 : Shape := ⟨4, ![2, 256, 16, 32]⟩
abbrev S2x256x32 : Shape := ⟨3, ![2, 256, 32]⟩
abbrev S2x256x1x32 : Shape := ⟨4, ![2, 256, 1, 32]⟩
abbrev S_ : Shape := ⟨0, ![]⟩
abbrev S2x16x256x256 : Shape := ⟨4, ![2, 16, 256, 256]⟩
abbrev S2x16x256 : Shape := ⟨3, ![2, 16, 256]⟩
abbrev S2x16x256x1 : Shape := ⟨4, ![2, 16, 256, 1]⟩
abbrev S2x16x64x256 : Shape := ⟨4, ![2, 16, 64, 256]⟩

abbrev nBuf : Space → Nat
  | .hbm => 52
  | .vmem => 0
  | .smem => 0
  | _ => 0

abbrev bufTy : (tb : Table) → Fin (tcTables nBuf tb) → BufTy
  | .hbm, ⟨0, _⟩ => ⟨S2x256x1024, .bf16⟩
  | .hbm, ⟨1, _⟩ => ⟨S1024x512, .bf16⟩
  | .hbm, ⟨2, _⟩ => ⟨S512x1024, .bf16⟩
  | .hbm, ⟨3, _⟩ => ⟨S512x1024, .bf16⟩
  | .hbm, ⟨4, _⟩ => ⟨S1024x1024, .bf16⟩
  | .hbm, ⟨5, _⟩ => ⟨S1024x512, .bf16⟩
  | .hbm, ⟨6, _⟩ => ⟨S1024x32, .bf16⟩
  | .hbm, ⟨7, _⟩ => ⟨S1024x1024, .bf16⟩
  | .hbm, ⟨8, _⟩ => ⟨S2x256x1024, .f32⟩
  | .hbm, ⟨9, _⟩ => ⟨S1024x512, .f32⟩
  | .hbm, ⟨10, _⟩ => ⟨S512x1024, .f32⟩
  | .hbm, ⟨11, _⟩ => ⟨S512x1024, .f32⟩
  | .hbm, ⟨12, _⟩ => ⟨S1024x1024, .f32⟩
  | .hbm, ⟨13, _⟩ => ⟨S1024x512, .f32⟩
  | .hbm, ⟨14, _⟩ => ⟨S1024x32, .f32⟩
  | .hbm, ⟨15, _⟩ => ⟨S1024x1024, .f32⟩
  | .hbm, ⟨16, _⟩ => ⟨S2x256x512, .f32⟩
  | .hbm, ⟨17, _⟩ => ⟨S2x256x1024, .f32⟩
  | .hbm, ⟨18, _⟩ => ⟨S2x256x16x64, .f32⟩
  | .hbm, ⟨19, _⟩ => ⟨S2x256x1024, .f32⟩
  | .hbm, ⟨20, _⟩ => ⟨S2x256x16x64, .f32⟩
  | .hbm, ⟨21, _⟩ => ⟨S2x256x1024, .f32⟩
  | .hbm, ⟨22, _⟩ => ⟨S2x256x16x64, .f32⟩
  | .hbm, ⟨23, _⟩ => ⟨S2x256x512, .f32⟩
  | .hbm, ⟨24, _⟩ => ⟨S2x256x16x32, .f32⟩
  | .hbm, ⟨25, _⟩ => ⟨S2x256x32, .f32⟩
  | .hbm, ⟨26, _⟩ => ⟨S2x256x1x32, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S2x16x256x256, .f32⟩
  | .hbm, ⟨32, _⟩ => ⟨S2x256x16x32, .f32⟩
  | .hbm, ⟨33, _⟩ => ⟨S2x16x256x256, .f32⟩
  | .hbm, ⟨34, _⟩ => ⟨S2x16x256x256, .f32⟩
  | .hbm, ⟨35, _⟩ => ⟨S2x16x256x256, .f32⟩
  | .hbm, ⟨36, _⟩ => ⟨S2x16x256x256, .f32⟩
  | .hbm, ⟨37, _⟩ => ⟨S_, .f32⟩
  | .hbm, ⟨38, _⟩ => ⟨S2x16x256, .f32⟩
  | .hbm, ⟨39, _⟩ => ⟨S2x16x256x1, .f32⟩
  | .hbm, ⟨40, _⟩ => ⟨S2x16x256x256, .f32⟩
  | .hbm, ⟨41, _⟩ => ⟨S2x16x256x256, .f32⟩
  | .hbm, ⟨42, _⟩ => ⟨S2x16x256x256, .f32⟩
  | .hbm, ⟨43, _⟩ => ⟨S_, .f32⟩
  | .hbm, ⟨44, _⟩ => ⟨S2x16x256, .f32⟩
  | .hbm, ⟨45, _⟩ => ⟨S2x16x256x1, .f32⟩
  | .hbm, ⟨46, _⟩ => ⟨S2x16x256x256, .f32⟩
  | .hbm, ⟨47, _⟩ => ⟨S2x16x256x256, .f32⟩
  | .hbm, ⟨48, _⟩ => ⟨S2x16x64x256, .f32⟩
  | .hbm, ⟨49, _⟩ => ⟨S2x256x16x64, .f32⟩
  | .hbm, ⟨50, _⟩ => ⟨S2x256x1024, .f32⟩
  | .hbm, ⟨51, _⟩ => ⟨S2x256x1024, .f32⟩
  | _, _ => ⟨S2x256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst : Ref sig .tc := ⟨.hbm, 27, rfl⟩
abbrev main_v19 : Ref sig .tc := ⟨.hbm, 28, rfl⟩
abbrev main_cst_0 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_1 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_2 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩

abbrev nD : Nat := 1
abbrev τ : Topo := Topo.v7x

variable {F : FTy → Type} [FloatOps F]
-- ==== Proof.K.Args.lean ====
/-
  The kernel's arguments: nine staged blocks, the scratch buffers and the semaphores.
-/
module

public import proofs.«01_k».proof.Proof.K.Sends

@[expose] public section

noncomputable section

namespace Cert.Kernel.Mla

open Idealize.ShloMosaic Idealize.ShloMosaic.TcCoe
open Cert.Kernel Cert.Kernel.Gen

/-- A function of the kernel's arguments at its staged blocks and its own scratch. -/
abbrev app {β : Type 1} (f : (arg0 : Memref sig .tc .vmem S512x1024 .bf16) → arg0.IsWhole → (arg1 : Memref sig .tc .vmem S1024x64 .bf16) → arg1.IsWhole → (arg2 : Memref sig .tc .vmem S64x1024 .bf16) → arg2.IsWhole → (arg3 : Memref sig .tc .vmem S64x1024 .bf16) → arg3.IsWhole → (arg4 : Memref sig .tc .vmem S1024x128 .bf16) → arg4.IsWhole → (arg5 : Memref sig .tc .vmem S1024x64 .bf16) → arg5.IsWhole → (arg6 : Memref sig .tc .vmem S1024x32 .bf16) → arg6.IsWhole → (arg7 : Memref sig .tc .vmem S8x128x1024 .bf16) → arg7.IsWhole → (arg8 : Memref sig .tc .vmem S512x1024 .f32) → arg8.IsWhole → (arg9 : Memref sig .tc .vmem S512x128 .bf16) → arg9.IsWhole → (arg10 : Memref sig .tc .vmem S512x1024 .bf16) → arg10.IsWhole → (arg11 : Memref sig .tc .vmem S8x64x128 .bf16) → arg11.IsWhole → (arg12 : Memref sig .tc .vmem S8x64x128 .bf16) → arg12.IsWhole → (arg13 : Memref sig .tc .vmem S1024x128 .bf16) → arg13.IsWhole → (arg14 : Memref sig .tc .vmem S1024x128 .bf16) → arg14.IsWhole → (arg15 : Memref sig .tc .vmem S512x128 .bf16) → arg15.IsWhole → (arg16 : Memref sig .tc .vmem S512x128 .bf16) → arg16.IsWhole → (arg17 : Memref sig .tc .vmem S512x128 .bf16) → arg17.IsWhole → (arg18 : Memref sig .tc .vmem S512x64 .bf16) → arg18.IsWhole → (arg19 : Memref sig .tc .vmem S512x32 .bf16) → arg19.IsWhole → (arg20 : Memref sig .tc .vmem S8x512x128 .bf16) → arg20.IsWhole → (arg21 : Memref sig .tc .vmem S8x128x1024 .bf16) → arg21.IsWhole → DmaSems sig S4x7 → DmaSems sig S4x7 → DmaSems sig S3 → β) : β :=
  f (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) cc0_scratch13 cc0_scratch14 cc0_scratch15

end Cert.Kernel.Mla

end
-- ==== Proof.I.Cells.lean ====
/-
  The protocol of the kernel: which device pays which semaphore, in which order, and what the payment hands over.

  Device c talks to the seven others. `peer c i` is the device i + 1 places further on the ring; seen from there, c is `peer _ (rev i)`.
  * The barrier cell of c: seven units, one from every other device. The device paying duty d hands over the four places on itself into which c will write (one column block of the latent matrix, one row block
    of each up-projection, one slot of the attention outputs) and the fact that its four receive cells for c are open.
  * Send cell (b, i): paid by the arrival of c's own copy of kind b to `peer c i`, which hands the source back.
  * Receive cell (b, i): paid by the copy of kind b from `peer c i`; hands over the place it was written to, at the contents named in `Contents`.
  * Local cell l: paid by a copy of c to itself.
  Kinds: 0 latent block, 1 key up-projection, 2 value up-projection, 3 attention output.
-/
module

public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import Idealize.ShloMosaic.Lib.Pipeline.Regions
public import Idealize.ShloMosaic.Lib.Pipeline.Kit
public import Idealize.ShloMosaic.Lib.Pipeline.RegionTalk
public import Idealize.ShloMosaic.Lib.Rounds
public import Idealize.ShloMosaic.Lib.ValueIdxCore
public import Idealize.ShloMosaic.Lib.Tactic

@[expose] public section

noncomputable section

namespace Cert.KernelIdeal.Mla

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.KernelIdeal Cert.KernelIdeal.Gen

/-! ## Peers -/

/-- The device i + 1 places further on the ring of eight. -/
def peer (c : Dev nD) (i : Fin 7) : Dev nD := ⟨(c.val + i.val + 1) % 8, Nat.mod_lt _ (by decide)⟩
/-- The way back: from `peer c i` the device c is the peer with the reversed number. -/
theorem peer_peer : ∀ (c : Dev nD) (i : Fin 7), peer (peer c i) i.rev = c := by decide
theorem peer_rev : ∀ (c : Dev nD) (i : Fin 7), peer (peer c i.rev) i = c := by decide
theorem peer_inj : ∀ (c : Dev nD) (i j : Fin 7), peer c i = peer c j → i = j := by decide
theorem peer_ne : ∀ (c : Dev nD) (i : Fin 7), peer c i ≠ c := by decide

/-- Going i + 1 places further is a permutation of the devices. -/
def peerEquiv (i : Fin 7) : Dev nD ≃ Dev nD where
  toFun c := peer c i
  invFun c := peer c i.rev
  left_inv c := peer_peer c i
  right_inv c := peer_rev c i

/-- The eight devices are c and its peers. -/
theorem univ_peers : ∀ c : Dev nD, (Finset.univ : Finset (Dev nD)) = insert c (Finset.univ.map ⟨peer c, fun _ _ => peer_inj c _ _⟩) := by decide
theorem not_mem_peers (c : Dev nD) : c ∉ (Finset.univ : Finset (Fin 7)).map ⟨peer c, fun _ _ => peer_inj c _ _⟩ := fun h => by
  obtain ⟨i, -, e⟩ := Finset.mem_map.mp h
  exact peer_ne c i e

/-! ## Semaphores -/

/-- The barrier semaphore. -/
abbrev barS : Sem sig := sig.barrier 0 rfl
/-- The semaphore of c's own copy of kind b to its peer i. -/
abbrev sendS (b : Fin 4) (i : Fin 7) : DmaSem sig := ⟨9 + (7 * b.val + i.val), by show _ < 68; omega⟩
/-- The semaphore of the copy of kind b arriving from peer i. -/
abbrev recvS (b : Fin 4) (i : Fin 7) : DmaSem sig := ⟨37 + (7 * b.val + i.val), by show _ < 68; omega⟩
/-- The semaphore of local copy l. -/
abbrev locS (l : Fin 3) : DmaSem sig := ⟨65 + l.val, by show _ < 68; omega⟩

abbrev barCell (c : Dev nD) : GSem nD τ sig := ((c : Thread nD τ), .reg barS)
abbrev sendCell (c : Dev nD) (b : Fin 4) (i : Fin 7) : GSem nD τ sig := ((c : Thread nD τ), .dma (sendS b i))
abbrev recvCell (c : Dev nD) (b : Fin 4) (i : Fin 7) : GSem nD τ sig := ((c : Thread nD τ), .dma (recvS b i))
abbrev locCell (c : Dev nD) (l : Fin 3) : GSem nD τ sig := ((c : Thread nD τ), .dma (locS l))

/-- What a semaphore is for. -/
inductive Role where
  | bar
  | snd (b : Fin 4) (i : Fin 7)
  | rcv (b : Fin 4) (i : Fin 7)
  | loc (l : Fin 3)
  | idle
deriving DecidableEq

/-- The use of each semaphore, read off its number. -/
def role : SemLoc sig → Role
  | .reg _ => .bar
  | .dma n =>
    if h : 9 ≤ n.val ∧ n.val < 37 then .snd ⟨(n.val - 9) / 7, by omega⟩ ⟨(n.val - 9) % 7, by omega⟩
    else if h : 37 ≤ n.val ∧ n.val < 65 then .rcv ⟨(n.val - 37) / 7, by omega⟩ ⟨(n.val - 37) % 7, by omega⟩
    else if h : 65 ≤ n.val ∧ n.val < 68 then .loc ⟨n.val - 65, by omega⟩
    else .idle

theorem role_bar : role (.reg barS) = .bar := rfl
theorem role_send : ∀ (b : Fin 4) (i : Fin 7), role (.dma (sendS b i)) = .snd b i := by decide
theorem role_recv : ∀ (b : Fin 4) (i : Fin 7), role (.dma (recvS b i)) = .rcv b i := by decide
theorem role_loc : ∀ l : Fin 3, role (.dma (locS l)) = .loc l := by decide

/-! ## Places -/

/-- Column block d of the gathered latent matrix. -/
abbrev caM (d : Dev nD) : Memref sig .tc .vmem S512x128 .bf16 :=
  (Memref.whole cc0_scratch1).slice (Rect.unit (k0_off1 d) S512x128.size (k0_off1_inb d)) (fun _ => rfl)
/-- Row block d (64 rows) of the gathered key up-projection. -/
abbrev kaM (d : Dev nD) : Memref sig .tc .vmem S64x128 .bf16 :=
  (Memref.whole cc0_scratch4).slice (Rect.unit (k0_off2 d) S64x128.size (k0_off2_inb d)) (fun _ => rfl)
/-- Row block d (64 rows) of the gathered value up-projection. -/
abbrev vaM (d : Dev nD) : Memref sig .tc .vmem S64x128 .bf16 :=
  (Memref.whole cc0_scratch5).slice (Rect.unit (k0_off2 d) S64x128.size (k0_off2_inb d)) (fun _ => rfl)
/-- Slot d of the key up-projections to send. -/
abbrev ksM (d : Dev nD) : Memref sig .tc .vmem S64x128 .bf16 :=
  ((Memref.whole cc0_scratch2).slice (Rect.unit (k0_off3 d) S1x64x128.size (k0_off3_inb d)) (fun _ => rfl)).squeeze S64x128 squeezes_S1x64x128_S64x128
/-- Slot d of the value up-projections to send. -/
abbrev vsM (d : Dev nD) : Memref sig .tc .vmem S64x128 .bf16 :=
  ((Memref.whole cc0_scratch3).slice (Rect.unit (k0_off3 d) S1x64x128.size (k0_off3_inb d)) (fun _ => rfl)).squeeze S64x128 squeezes_S1x64x128_S64x128

theorem slot_inb (s : Fin 8) : ∀ a, (![s.val, 0, 0] : Fin 3 → ℕ) a + S1x512x128.size a ≤ S8x512x128.size a := by
  revert s; decide
/-- Slot s of the gathered attention outputs. -/
abbrev ogM (s : Fin 8) : Memref sig .tc .vmem S512x128 .bf16 :=
  ((Memref.whole cc0_scratch11).slice (Rect.unit ![s.val, 0, 0] S1x512x128.size (slot_inb s)) (fun _ => rfl)).squeeze S512x128 squeezes_S1x512x128_S512x128
/-- The device's own latent block. -/
abbrev clM : Memref sig .tc .vmem S512x128 .bf16 := Memref.whole cc0_scratch0

/-- The units of a copy of 512 x 128 numbers, and of one of 64 x 128. -/
abbrev nBig : ℕ := 4096
@[inherit_doc nBig] abbrev nSmall : ℕ := 512

/-- The units of a copy of kind b. -/
def units (b : Fin 4) : ℕ := if b = 1 ∨ b = 2 then nSmall else nBig
/-- The units of local copy l. -/
def unitsLoc (l : Fin 3) : ℕ := if l = 0 then nBig else nSmall

theorem amount_big (v : View sig .tc .vmem S512x128 .bf16) (sm : DmaSem sig) : v.amount (.dma sm) = nBig := by
  rw [View.amount_dma]; rfl
theorem amount_small (v : View sig .tc .vmem S64x128 .bf16) (sm : DmaSem sig) : v.amount (.dma sm) = nSmall := by
  rw [View.amount_dma]; rfl

end Cert.KernelIdeal.Mla

end
-- ==== Proof.I.Contents.lean ====
/-
  What the buffers hold after each phase, as functions of what the eight devices' operands hold, and what a copy leaves where it lands.
-/
module

public import proofs.«01_k».proof.Proof.I.Cells
public import Idealize.ShloMosaic.Lib.ValueLayout

@[expose] public section

noncomputable section

namespace Cert.KernelIdeal.Mla

open Idealize.ShloMosaic Idealize.ShloMosaic.TcCoe
open Idealize.SL Idealize.SL.RA Idealize.SL.BI
open Cert.KernelIdeal Cert.KernelIdeal.Gen
open Idealize.ShloMosaic.ValueIdx

variable {F : FTy → Type} [FloatOps F] [Named F]

/-- What the operands of the kernel hold on every device. -/
structure Ins (F : FTy → Type) where
  x : Dev nD → FVec F S512x1024 .bf16
  wd : Dev nD → FVec F S1024x64 .bf16
  uk : Dev nD → FVec F S64x1024 .bf16
  uv : Dev nD → FVec F S64x1024 .bf16
  wq : Dev nD → FVec F S1024x128 .bf16
  wqr : Dev nD → FVec F S1024x64 .bf16
  wkr : Dev nD → FVec F S1024x32 .bf16
  wo : Dev nD → FVec F S8x128x1024 .bf16

variable (I : Ins F) (c : Dev nD)

/-- A column of 1024 from a block of 128 and a place in it. -/
abbrev col (d : Fin 8) (j : Fin 128) : Fin 1024 := ⟨128 * d.val + j.val, by omega⟩

/-- The device's own latent block: the down-projection in the first 64 columns, zero in the others. -/
def CL : FVec F S512x128 .bf16 := fun i =>
  if h : (i 1).val < 64 then k0_pay7 (k0_pay4 (I.x c)) (k0_pay6 (I.wd c)) (ix2 (i 0) (⟨(i 1).val, h⟩ : Fin 64)) else (k0_pay5 : FVec F S512x128 .bf16) i

/-- The gathered latent matrix: column block d is device d's. -/
def CA : FVec F S512x1024 .bf16 := fun i =>
  CL I (⟨(i 1).val / 128, by have := (i 1).isLt; change _ < 1024 at this; omega⟩ : Fin 8) (ix2 (i 0) (⟨(i 1).val % 128, Nat.mod_lt _ (by decide)⟩ : Fin 128))

/-- The up-projection cut into eight column blocks. -/
def cut (w : FVec F S64x1024 .bf16) : FVec F S8x64x128 .bf16 := fun i => w (ix2 (i 1) (col (i 0) (i 2)))

/-- The column block of an up-projection that device c gathers: 64 rows from each device, each followed by 64 rows of `z`. -/
def gath (w : Dev nD → FVec F S64x1024 .bf16) (z : FVec F S1024x128 .bf16) : FVec F S1024x128 .bf16 := fun i =>
  if h : (i 0).val % 128 < 64 then
    cut (w (⟨(i 0).val / 128, by have := (i 0).isLt; change _ < 1024 at this; omega⟩ : Fin 8)) (ix3 c (⟨(i 0).val % 128, h⟩ : Fin 64) (i 1))
  else z i

def KA : FVec F S1024x128 .bf16 := gath c I.uk k0_pay2
def VA : FVec F S1024x128 .bf16 := gath c I.uv k0_pay3

/-- The device's queries, rotary queries, rotary keys, keys and values. -/
def QB : FVec F S512x128 .bf16 := k0_pay26 (k0_pay4 (I.x c)) (I.wq c)
@[inherit_doc QB] def QRB : FVec F S512x64 .bf16 := k0_pay27 (k0_pay4 (I.x c)) (I.wqr c)
@[inherit_doc QB] def KRB : FVec F S512x32 .bf16 := k0_pay28 (k0_pay4 (I.x c)) (I.wkr c)
@[inherit_doc QB] def KB : FVec F S512x128 .bf16 := k0_pay30 (CA I) (KA I c)
@[inherit_doc QB] def VB : FVec F S512x128 .bf16 := k0_pay31 (CA I) (VA I c)

/-- A 256 x 64 block at the offsets o. -/
abbrev at64 (f : FVec F S512x128 .bf16) (o : Fin 2 → ℕ) (h : ∀ a, o a + S256x64.size a ≤ S512x128.size a) : FVec F S256x64 .bf16 :=
  fun x => f ((Rect.unit (s := S512x128) o S256x64.size h).emb x)
/-- A 256 x 32 block of the rotary queries. -/
abbrev at32q (f : FVec F S512x64 .bf16) (o : Fin 2 → ℕ) (h : ∀ a, o a + S256x32.size a ≤ S512x64.size a) : FVec F S256x32 .bf16 :=
  fun x => f ((Rect.unit (s := S512x64) o S256x32.size h).emb x)
/-- A 256 x 32 block of the rotary keys. -/
abbrev at32k (f : FVec F S512x32 .bf16) (o : Fin 2 → ℕ) (h : ∀ a, o a + S256x32.size a ≤ S512x32.size a) : FVec F S256x32 .bf16 :=
  fun x => f ((Rect.unit (s := S512x32) o S256x32.size h).emb x)

/-- Batch 0, head 0 of the device's attention. -/
def H00 : FVec F S1x256x64 .bf16 :=
  k0_pay33 (at32k (KRB I c) ![0, 0] (by decide)) (at32q (QRB I c) ![0, 0] (by decide)) (at64 (VB I c) ![0, 0] (by decide))
    (k0_pay32 (at64 (QB I c) ![0, 0] (by decide)) (at64 (KB I c) ![0, 0] (by decide))) (constant S256x256 .f32 0x00000000#32)
/-- Batch 0, head 1. -/
def H01 : FVec F S1x256x64 .bf16 :=
  k0_pay35 (at64 (VB I c) ![0, 64] (by decide))
    (k0_pay34 (at32k (KRB I c) ![0, 0] (by decide)) (at64 (QB I c) ![0, 64] (by decide)) (at64 (KB I c) ![0, 64] (by decide)) (at32q (QRB I c) ![0, 32] (by decide)))
    (constant S256x64 .f32 0x00000000#32)
/-- Batch 1, head 0. -/
def H10 : FVec F S1x256x64 .bf16 :=
  k0_pay36 (at32k (KRB I c) ![256, 0] (by decide)) (at64 (QB I c) ![256, 0] (by decide)) (at64 (KB I c) ![256, 0] (by decide)) (at32q (QRB I c) ![256, 0] (by decide))
    (at64 (VB I c) ![256, 0] (by decide))
/-- Batch 1, head 1. -/
def H11 : FVec F S1x256x64 .bf16 :=
  k0_pay37 (at32k (KRB I c) ![256, 0] (by decide)) (at64 (QB I c) ![256, 64] (by decide)) (at64 (KB I c) ![256, 64] (by decide)) (at32q (QRB I c) ![256, 32] (by decide))
    (at64 (VB I c) ![256, 64] (by decide))

/-- The device's attention output: rows by batch, columns by head. -/
def OL : FVec F S512x128 .bf16 := fun i =>
  (if (i 0).val < 256 then (if (i 1).val < 64 then H00 I c else H01 I c) else (if (i 1).val < 64 then H10 I c else H11 I c))
    (ix3 (0 : Fin 1) (⟨(i 0).val % 256, Nat.mod_lt _ (by decide)⟩ : Fin 256) (⟨(i 1).val % 64, Nat.mod_lt _ (by decide)⟩ : Fin 64))

/-- Device c, or the one s places further. -/
def ahead (s : Fin 8) : Dev nD := ⟨(c.val + s.val) % 8, Nat.mod_lt _ (by decide)⟩
theorem ahead_zero : ∀ c : Dev nD, ahead c 0 = c := by decide
theorem ahead_succ : ∀ (c : Dev nD) (i : Fin 7), ahead c i.succ = peer c i := by decide

/-- The gathered attention outputs: slot s holds those of the device s places further. -/
def OG : FVec F S8x512x128 .bf16 := fun i => OL I (ahead c (i 0)) (ix2 (i 1) (i 2))

/-- Slot s of the gathered attention outputs, as loaded. -/
abbrev ogAt (s : Fin 8) : FVec F S1x512x128 .bf16 := fun x => OG I c ((Rect.unit (s := S8x512x128) ![s.val, 0, 0] S1x512x128.size (slot_inb s)).emb x)
/-- The row block of the output projection of the device itself, as loaded. -/
abbrev woAt0 : FVec F S1x128x1024 .bf16 := fun x => k0_pay29 (I.wo c) ((Rect.unit (s := S8x128x1024) (k0_off5 c) S1x128x1024.size (k0_off5_inb c)).emb x)
/-- The row block of the output projection of peer i, as loaded. -/
abbrev woAt (i : Fin 7) : FVec F S1x128x1024 .bf16 :=
  fun x => k0_pay29 (I.wo c) ((Rect.unit (s := S8x128x1024) (k0_off6 c (BitVec.ofNat 32 (1 + i.val))) S1x128x1024.size (k0_off6_inb c i)).emb x)

/-- The result after the device's own block and those of its first n peers. -/
def AC0 : FVec F S512x1024 .f32 := k0_pay38 (ogAt I c 0) (woAt0 I c)
@[inherit_doc AC0] def AC1 : FVec F S512x1024 .f32 := k0_pay39 (AC0 I c) (ogAt I c 1) (woAt I c 0)
@[inherit_doc AC0] def AC2 : FVec F S512x1024 .f32 := k0_pay40 (AC1 I c) (ogAt I c 2) (woAt I c 1)
@[inherit_doc AC0] def AC3 : FVec F S512x1024 .f32 := k0_pay41 (AC2 I c) (ogAt I c 3) (woAt I c 2)
@[inherit_doc AC0] def AC4 : FVec F S512x1024 .f32 := k0_pay44 (k0_pay42 (AC3 I c)) (k0_pay43 (ogAt I c 4) (woAt I c 3))
@[inherit_doc AC0] def AC5 : FVec F S512x1024 .f32 := k0_pay45 (AC4 I c) (ogAt I c 5) (woAt I c 4)
@[inherit_doc AC0] def AC6 : FVec F S512x1024 .f32 := k0_pay46 (AC5 I c) (ogAt I c 6) (woAt I c 5)
@[inherit_doc AC0] def AC7 : FVec F S512x1024 .f32 := k0_pay47 (AC6 I c) (ogAt I c 7) (woAt I c 6)

/-! ## Where the places lie -/

theorem off1_eq : ∀ c : Dev nD, k0_off1 c = ![0, 128 * c.val] := by decide +kernel
theorem off2_eq : ∀ c : Dev nD, k0_off2 c = ![128 * c.val, 0] := by decide +kernel
theorem off3_eq : ∀ c : Dev nD, k0_off3 c = ![c.val, 0, 0] := by decide +kernel
theorem off4_eq : ∀ (c : Dev nD) (i : Fin 7), k0_off4 c (BitVec.ofNat 32 (1 + i.val)) = k0_off3 (peer c i) := by decide +kernel
theorem off5_eq : ∀ c : Dev nD, k0_off5 c = ![c.val, 0, 0] := by decide +kernel
theorem off6_eq : ∀ (c : Dev nD) (i : Fin 7), k0_off6 c (BitVec.ofNat 32 (1 + i.val)) = ![(peer c i).val, 0, 0] := by decide +kernel

theorem ca_emb (d : Dev nD) (i : Fin 512) (j : Fin 128) : (caM d).view.emb (ix2 i j) = ix2 i (col d j) := by
  have h := off1_eq d
  funext a
  refine Fin.ext ?_
  show k0_off1 d a + 1 * (ix2 i j a).val = _
  rw [h]
  fin_cases a
  · show 0 + 1 * i.val = i.val; omega
  · show 128 * d.val + 1 * j.val = 128 * d.val + j.val; omega

/-- A row of 1024 from a block of 128 and a place in its first half. -/
abbrev row (d : Fin 8) (r : Fin 64) : Fin 1024 := ⟨128 * d.val + r.val, by omega⟩

theorem ka_emb (d : Dev nD) (i : Fin 64) (j : Fin 128) : (kaM d).view.emb (ix2 i j) = ix2 (row d i) j := by
  have h := off2_eq d
  funext a
  refine Fin.ext ?_
  show k0_off2 d a + 1 * (ix2 i j a).val = _
  rw [h]
  fin_cases a
  · show 128 * d.val + 1 * i.val = 128 * d.val + i.val; omega
  · show 0 + 1 * j.val = j.val; omega
theorem va_emb (d : Dev nD) (i : Fin 64) (j : Fin 128) : (vaM d).view.emb (ix2 i j) = ix2 (row d i) j := ka_emb d i j

theorem ks_emb (d : Dev nD) (i : Fin 64) (j : Fin 128) : (ksM d).view.emb (ix2 i j) = ix3 d i j := by
  show (Rect.unit (s := S8x64x128) (k0_off3 d) S1x64x128.size (k0_off3_inb d)).emb (Shape.reshapeEquiv _ (ix2 i j)) = _
  rw [reshapeEquiv_ix2_1ab]
  have h := off3_eq d
  funext a
  refine Fin.ext ?_
  show k0_off3 d a + 1 * (ix3 (⟨0, Nat.one_pos⟩ : Fin 1) i j a).val = _
  rw [h]
  fin_cases a
  · show d.val + 1 * 0 = d.val; omega
  · show 0 + 1 * i.val = i.val; omega
  · show 0 + 1 * j.val = j.val; omega
theorem vs_emb (d : Dev nD) (i : Fin 64) (j : Fin 128) : (vsM d).view.emb (ix2 i j) = ix3 d i j := ks_emb d i j

theorem og_emb (s : Fin 8) (i : Fin 512) (j : Fin 128) : (ogM s).view.emb (ix2 i j) = ix3 s i j := by
  show (Rect.unit (s := S8x512x128) ![s.val, 0, 0] S1x512x128.size (slot_inb s)).emb (Shape.reshapeEquiv _ (ix2 i j)) = _
  rw [reshapeEquiv_ix2_1ab]
  funext a
  refine Fin.ext ?_
  show (![s.val, 0, 0] : Fin 3 → ℕ) a + 1 * (ix3 (⟨0, Nat.one_pos⟩ : Fin 1) i j a).val = _
  fin_cases a
  · show s.val + 1 * 0 = s.val; omega
  · show 0 + 1 * i.val = i.val; omega
  · show 0 + 1 * j.val = j.val; omega

/-! ## What a copy leaves -/

theorem CA_col (d : Fin 8) (i : Fin 512) (j : Fin 128) : CA I (ix2 i (col d j)) = CL I d (ix2 i j) := by
  have h1 : (128 * d.val + j.val) / 128 = d.val := by omega
  have h2 : (128 * d.val + j.val) % 128 = j.val := by omega
  have e1 : (⟨(128 * d.val + j.val) / 128, by omega⟩ : Fin 8) = d := Fin.ext h1
  have e2 : (⟨(128 * d.val + j.val) % 128, by omega⟩ : Fin 128) = j := Fin.ext h2
  exact congrArg₂ (fun a b => CL I a (ix2 i b)) e1 e2

theorem gath_row (w : Dev nD → FVec F S64x1024 .bf16) (z : FVec F S1024x128 .bf16) (d : Fin 8) (i : Fin 64) (j : Fin 128) :
    gath c w z (ix2 (row d i) j) = cut (w d) (ix3 c i j) := by
  have h1 : (128 * d.val + i.val) / 128 = d.val := by omega
  have h2 : (128 * d.val + i.val) % 128 = i.val := by omega
  have h3 : ((ix2 (row d i) j : S1024x128.Idx) 0).val % 128 < 64 := by show (128 * d.val + i.val) % 128 < 64; omega
  unfold gath
  rw [dif_pos h3]
  have e1 : (⟨(128 * d.val + i.val) / 128, by omega⟩ : Fin 8) = d := Fin.ext h1
  have e2 : (⟨(128 * d.val + i.val) % 128, by omega⟩ : Fin 64) = i := Fin.ext h2
  exact congrArg₂ (fun a b => cut (w a) (ix3 c b j)) e1 e2

/-- Device d's latent block, copied into block d. -/
theorem land_ca (d : Dev nD) (fd : FVec F S512x1024 .bf16) : ∀ i ∈ (caM d).view.set,
    (caM d).view.write (Elt F) fd (clM.view.read (Elt F) (CL I d)) Finset.univ i = CA I i := by
  intro i hi
  obtain ⟨x, -, rfl⟩ := Finset.mem_map.mp hi
  obtain ⟨p, q, rfl⟩ : ∃ (p : Fin 512) (q : Fin 128), x = ix2 p q := ⟨x 0, x 1, eq_ix2 x⟩
  rw [View.write_emb_of_mem _ _ (Finset.mem_univ _)]
  rw [ca_emb, CA_col]
  rfl

/-- Slot c of device d's key up-projection, copied into row block d of device c. -/
theorem land_ka (d : Dev nD) (fd : FVec F S1024x128 .bf16) : ∀ i ∈ (kaM d).view.set,
    (kaM d).view.write (Elt F) fd ((ksM c).view.read (Elt F) (cut (I.uk d))) Finset.univ i = KA I c i := by
  intro i hi
  obtain ⟨x, -, rfl⟩ := Finset.mem_map.mp hi
  obtain ⟨p, q, rfl⟩ : ∃ (p : Fin 64) (q : Fin 128), x = ix2 p q := ⟨x 0, x 1, eq_ix2 x⟩
  rw [View.write_emb_of_mem _ _ (Finset.mem_univ _)]
  rw [ka_emb, KA, gath_row, ← ks_emb]
  rfl
@[inherit_doc land_ka] theorem land_va (d : Dev nD) (fd : FVec F S1024x128 .bf16) : ∀ i ∈ (vaM d).view.set,
    (vaM d).view.write (Elt F) fd ((vsM c).view.read (Elt F) (cut (I.uv d))) Finset.univ i = VA I c i := by
  intro i hi
  obtain ⟨x, -, rfl⟩ := Finset.mem_map.mp hi
  obtain ⟨p, q, rfl⟩ : ∃ (p : Fin 64) (q : Fin 128), x = ix2 p q := ⟨x 0, x 1, eq_ix2 x⟩
  rw [View.write_emb_of_mem _ _ (Finset.mem_univ _)]
  rw [va_emb, VA, gath_row, ← vs_emb]
  rfl

/-- Device d's own attention output, copied into slot s of the device s places before it. -/
theorem land_og (d : Dev nD) (s : Fin 8) (h : ahead c s = d) (fd : FVec F S8x512x128 .bf16) : ∀ i ∈ (ogM s).view.set,
    (ogM s).view.write (Elt F) fd ((ogM 0).view.read (Elt F) (OG I d)) Finset.univ i = OG I c i := by
  intro i hi
  obtain ⟨x, -, rfl⟩ := Finset.mem_map.mp hi
  obtain ⟨p, q, rfl⟩ : ∃ (p : Fin 512) (q : Fin 128), x = ix2 p q := ⟨x 0, x 1, eq_ix2 x⟩
  rw [View.write_emb_of_mem _ _ (Finset.mem_univ _), View.read_apply]
  rw [og_emb, og_emb]
  show OL I (ahead d 0) (ix2 p q) = OL I (ahead c s) (ix2 p q)
  rw [ahead_zero, h]

end Cert.KernelIdeal.Mla

end
-- ==== Proof.I.Sched.lean ====
/-
  The protocol as a schedule: duties, amounts, payloads; what a device owes and in which order it pays; the levels that order the waits.
-/
module

public import proofs.«01_k».proof.Proof.I.Contents
public import Idealize.ShloMosaic.Lib.Transfers

@[expose] public section

noncomputable section

namespace Cert.KernelIdeal.Mla

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen
open Idealize.ShloMosaic.ValueIdx

variable {F : FTy → Type} [FloatOps F] [Named F]

/-- The resource algebra: the pipeline's copy, and the protocol's, whose duties are numbered 0 to 6. -/
abbrev UU : Type := UR sig nD τ × URounds (GSem nD τ sig) (Fin 7)

local notation "𝕄" => MT nD τ sig Unit (Elt F) ℕ UU ℕ

abbrev EP : Emb (UR sig nD τ) (MT nD τ sig Unit (Elt F) ℕ UU ℕ) := embL
abbrev ER : Emb (URounds (GSem nD τ sig) (Fin 7)) (MT nD τ sig Unit (Elt F) ℕ UU ℕ) := embR

variable (I : Ins F)

/-- A place on device c, owned at the share q, holding f. -/
abbrev own {sp : Space} {s : Shape} {e : EltTy} (M : Memref sig .tc sp s e) (c : Dev nD) (q : PosShare TreeShare) (f : Buf (Elt F) (M.view.loc (c : Thread nD τ))) : sProp 𝕄 :=
  M.view.loc (c : Thread nD τ) ↦[M.view.set]{q} f

/-- A place on device c owned whole, at contents not chosen. -/
def anyOwn {sp : Space} {s : Shape} {e : EltTy} (M : Memref sig .tc sp s e) (c : Dev nD) : sProp 𝕄 :=
  iprop(∃ f, own (F := F) M c fullShare f)

instance anyOwn_storable {sp : Space} {s : Shape} {e : EltTy} (M : Memref sig .tc sp s e) (c : Dev nD) :
    BI.Storable (upEmb : UEmb _ 𝕄) (anyOwn (F := F) M c) := by
  unfold anyOwn; infer_instance

/-- Share i of a source that is read by seven copies at once. -/
abbrev tok (i : Fin 7) : PosShare TreeShare := Transfers.shareTok fullShare 7 i
/-- What is left of it for the device's own use. -/
abbrev rest : PosShare TreeShare := Transfers.shareDrop fullShare 7

/-- The source of c's copy of kind b to peer i. -/
def srcPts (c : Dev nD) (b : Fin 4) (i : Fin 7) : sProp 𝕄 := match b with
  | 0 => own clM c (tok i) (CL I c)
  | 1 => own (ksM (peer c i)) c fullShare (cut (I.uk c))
  | 2 => own (vsM (peer c i)) c fullShare (cut (I.uv c))
  | 3 => own (ogM 0) c (tok i) (OG I c)

/-- The place on c where the copy of kind b from peer i lands, as it is handed over: at contents not chosen. -/
def landAny (c : Dev nD) (b : Fin 4) (i : Fin 7) : sProp 𝕄 := match b with
  | 0 => anyOwn (F := F) (caM (peer c i)) c
  | 1 => anyOwn (F := F) (kaM (peer c i)) c
  | 2 => anyOwn (F := F) (vaM (peer c i)) c
  | 3 => anyOwn (F := F) (ogM i.succ) c

/-- The same place once the copy has landed. -/
def landed (c : Dev nD) (b : Fin 4) (i : Fin 7) : sProp 𝕄 := match b with
  | 0 => own (caM (peer c i)) c fullShare (CA I)
  | 1 => own (kaM (peer c i)) c fullShare (KA I c)
  | 2 => own (vaM (peer c i)) c fullShare (VA I c)
  | 3 => own (ogM i.succ) c fullShare (OG I c)

/-- What local copy l leaves: the device's own block where the gathered matrix is read, and the source back. -/
def copied (c : Dev nD) (l : Fin 3) : sProp 𝕄 := match l with
  | 0 => iprop(own (caM c) c fullShare (CA I) ∗ own clM c rest (CL I c))
  | 1 => iprop(own (kaM c) c fullShare (KA I c) ∗ own (ksM c) c fullShare (cut (I.uk c)))
  | 2 => iprop(own (vaM c) c fullShare (VA I c) ∗ own (vsM c) c fullShare (cut (I.uv c)))

/-- What the device paying duty d of c's barrier cell hands over: its four landing places for c, and that its receive cells for c are open. -/
def barPay (c : Dev nD) (d : Fin 7) : sProp 𝕄 :=
  iprop((landAny (F := F) (peer c d.rev) 0 d ∗ landAny (F := F) (peer c d.rev) 1 d ∗ landAny (F := F) (peer c d.rev) 2 d ∗ landAny (F := F) (peer c d.rev) 3 d)
    ∗ reached ER (recvCell (peer c d.rev) 0 d) 0 ∗ reached ER (recvCell (peer c d.rev) 1 d) 0 ∗ reached ER (recvCell (peer c d.rev) 2 d) 0
    ∗ reached ER (recvCell (peer c d.rev) 3 d) 0)

instance srcPts_storable (c : Dev nD) (b : Fin 4) (i : Fin 7) : BI.Storable (upEmb : UEmb _ 𝕄) (srcPts I c b i) := by
  unfold srcPts; split <;> infer_instance
instance landAny_storable (c : Dev nD) (b : Fin 4) (i : Fin 7) : BI.Storable (upEmb : UEmb _ 𝕄) (landAny (F := F) c b i) := by
  unfold landAny; split <;> infer_instance
instance landed_storable (c : Dev nD) (b : Fin 4) (i : Fin 7) : BI.Storable (upEmb : UEmb _ 𝕄) (landed I c b i) := by
  unfold landed; split <;> infer_instance
instance copied_storable (c : Dev nD) (l : Fin 3) : BI.Storable (upEmb : UEmb _ 𝕄) (copied I c l) := by
  unfold copied; split <;> infer_instance
instance barPay_storable (c : Dev nD) (d : Fin 7) : BI.Storable (upEmb : UEmb _ 𝕄) (barPay (F := F) c d) := by
  unfold barPay; infer_instance

/-- The duties of a cell by its role. -/
def dutiesOf : Role → Finset (Fin 7)
  | .bar => Finset.univ
  | .idle => ∅
  | _ => {0}

/-- The units of a duty by the cell's role. -/
def amountOf : Role → ℕ
  | .bar => 1
  | .snd b _ => units b
  | .rcv b _ => units b
  | .loc l => unitsLoc l
  | .idle => 1

theorem units_pos : ∀ b : Fin 4, 0 < units b := by decide
theorem unitsLoc_pos : ∀ l : Fin 3, 0 < unitsLoc l := by decide
theorem amountOf_pos : ∀ r : Role, 0 < amountOf r
  | .bar => Nat.one_pos
  | .snd b _ => units_pos b
  | .rcv b _ => units_pos b
  | .loc l => unitsLoc_pos l
  | .idle => Nat.one_pos

/-- What a duty hands over by the cell's role. -/
def payOf (c : Dev nD) (d : Fin 7) : Role → sProp 𝕄
  | .bar => barPay c d
  | .snd b i => srcPts I c b i
  | .rcv b i => landed I c b i
  | .loc l => copied I c l
  | .idle => iprop(emp)

/-- The schedule: one round on every cell of a TensorCore. -/
def sched : Rounds.Schedule (GSem nD τ sig) (Fin 7) 𝕄 where
  duties g r := if r = 0 ∧ g.1.2 = .tc then dutiesOf (role g.2) else ∅
  amount g _ _ := amountOf (role g.2)
  payload g _ d := payOf I g.1.1 d (role g.2)
  amount_pos g _ _ _ := amountOf_pos _

instance sched_payload_storable (g : GSem nD τ sig) (r : ℕ) (d : Fin 7) : BI.Storable (upEmb : UEmb _ 𝕄) ((sched I).payload g r d) := by
  show BI.Storable upEmb (payOf I g.1.1 d (role g.2))
  unfold payOf; split <;> infer_instance

section Tables
variable (c : Dev nD)

theorem duties_later (g : GSem nD τ sig) : ∀ r, 1 ≤ r → (sched I).duties g r = ∅ := fun r hr => by
  dsimp only [sched]; exact if_neg fun h => by omega
theorem duties_tc (sm : SemLoc sig) : (sched I).duties ((c : Thread nD τ), sm) 0 = dutiesOf (role sm) := by
  dsimp only [sched]; exact if_pos ⟨rfl, rfl⟩
theorem duties_bar : (sched I).duties (barCell c) 0 = Finset.univ := duties_tc I c _
theorem duties_send (b : Fin 4) (i : Fin 7) : (sched I).duties (sendCell c b i) 0 = {0} := by rw [duties_tc, role_send]; rfl
theorem duties_recv (b : Fin 4) (i : Fin 7) : (sched I).duties (recvCell c b i) 0 = {0} := by rw [duties_tc, role_recv]; rfl
theorem duties_loc (l : Fin 3) : (sched I).duties (locCell c l) 0 = {0} := by rw [duties_tc, role_loc]; rfl

theorem amount_bar (d : Fin 7) : (sched I).amount (barCell c) 0 d = 1 := rfl
theorem amount_send (b : Fin 4) (i d : Fin 7) : (sched I).amount (sendCell c b i) 0 d = units b := by dsimp only [sched]; rw [role_send]; rfl
theorem amount_recv (b : Fin 4) (i d : Fin 7) : (sched I).amount (recvCell c b i) 0 d = units b := by dsimp only [sched]; rw [role_recv]; rfl
theorem amount_loc (l : Fin 3) (d : Fin 7) : (sched I).amount (locCell c l) 0 d = unitsLoc l := by dsimp only [sched]; rw [role_loc]; rfl

theorem payload_bar (d : Fin 7) : (sched I).payload (barCell c) 0 d = barPay c d := rfl
theorem payload_send (b : Fin 4) (i d : Fin 7) : (sched I).payload (sendCell c b i) 0 d = srcPts I c b i := by dsimp only [sched]; rw [role_send]; rfl
theorem payload_recv (b : Fin 4) (i d : Fin 7) : (sched I).payload (recvCell c b i) 0 d = landed I c b i := by dsimp only [sched]; rw [role_recv]; rfl
theorem payload_loc (l : Fin 3) (d : Fin 7) : (sched I).payload (locCell c l) 0 d = copied I c l := by dsimp only [sched]; rw [role_loc]; rfl

theorem expect_bar : (sched I).expect (barCell c) 0 = 7 := by
  unfold Schedule.expect Schedule.amountOf; rw [duties_bar]; rfl
theorem expect_send (b : Fin 4) (i : Fin 7) : (sched I).expect (sendCell c b i) 0 = units b := by
  unfold Schedule.expect Schedule.amountOf; rw [duties_send, Finset.sum_singleton, amount_send]
theorem expect_recv (b : Fin 4) (i : Fin 7) : (sched I).expect (recvCell c b i) 0 = units b := by
  unfold Schedule.expect Schedule.amountOf; rw [duties_recv, Finset.sum_singleton, amount_recv]
theorem expect_loc (l : Fin 3) : (sched I).expect (locCell c l) 0 = unitsLoc l := by
  unfold Schedule.expect Schedule.amountOf; rw [duties_loc, Finset.sum_singleton, amount_loc]

theorem rest_bar : bigSep ((sched I).duties (barCell c) 0 \ ∅) (fun d => (sched I).payload (barCell c) 0 d) = bigSep Finset.univ fun d => barPay (F := F) c d := by
  rw [Finset.sdiff_empty, duties_bar]; rfl
theorem rest_send (b : Fin 4) (i : Fin 7) : bigSep ((sched I).duties (sendCell c b i) 0 \ ∅) (fun d => (sched I).payload (sendCell c b i) 0 d) = srcPts I c b i := by
  rw [Finset.sdiff_empty, duties_send, bigSep_singleton, payload_send]
theorem rest_recv (b : Fin 4) (i : Fin 7) : bigSep ((sched I).duties (recvCell c b i) 0 \ ∅) (fun d => (sched I).payload (recvCell c b i) 0 d) = landed I c b i := by
  rw [Finset.sdiff_empty, duties_recv, bigSep_singleton, payload_recv]
theorem rest_loc (l : Fin 3) : bigSep ((sched I).duties (locCell c l) 0 \ ∅) (fun d => (sched I).payload (locCell c l) 0 d) = copied I c l := by
  rw [Finset.sdiff_empty, duties_loc, bigSep_singleton, payload_loc]

end Tables

/-! ## What a device owes, in the order it pays -/

/-- The payment of a copy of kind b from c to peer i. -/
abbrev payR (c : Dev nD) (b : Fin 4) (i : Fin 7) : GSem nD τ sig × ℕ := (recvCell (peer c i) b i.rev, units b)
/-- The payment of the signal to peer i. -/
abbrev payB (c : Dev nD) (i : Fin 7) : GSem nD τ sig × ℕ := (barCell (peer c i), 1)

/-- Everything c pays to other devices, in program order. -/
abbrev pays (c : Dev nD) : List (GSem nD τ sig × ℕ) :=
  [payB c 0, payB c 1, payB c 2, payB c 3, payB c 4, payB c 5, payB c 6,
   payR c 0 0, payR c 1 0, payR c 2 0, payR c 0 1, payR c 1 1, payR c 2 1, payR c 0 2, payR c 1 2, payR c 2 2, payR c 0 3, payR c 1 3, payR c 2 3,
   payR c 0 4, payR c 1 4, payR c 2 4, payR c 0 5, payR c 1 5, payR c 2 5, payR c 0 6, payR c 1 6, payR c 2 6,
   payR c 3 0, payR c 3 1, payR c 3 2, payR c 3 3, payR c 3 4, payR c 3 5, payR c 3 6]

/-- The tally of a list of payments. -/
def tal : List (GSem nD τ sig × ℕ) → CellTallies nD τ sig Unit
  | [] => 0
  | x :: l => tal l + tallyAt x.1 () x.2

theorem tal_pos {l : List (GSem nD τ sig × ℕ)} {g : GSem nD τ sig} {u : Unit} (h : 0 < tal l g u) : ∃ x ∈ l, g = x.1 := by
  induction l with
  | nil => exact absurd h (Nat.lt_irrefl 0)
  | cons x l ih =>
    rw [tal, Pi.add_apply, Finsupp.add_apply] at h
    rcases Nat.add_pos_iff_pos_or_pos.mp h with h | h
    · obtain ⟨y, hy, e⟩ := ih h
      exact ⟨y, List.mem_cons_of_mem _ hy, e⟩
    · rw [tallyAt_apply] at h
      by_cases hg : g = x.1 ∧ u = ()
      · exact ⟨x, List.mem_cons_self, hg.1⟩
      · rw [if_neg hg] at h; exact absurd h (Nat.lt_irrefl 0)

/-- What c still owes once it has made its first k payments. -/
def owed (c : Dev nD) (k : ℕ) : CellTallies nD τ sig Unit := tal ((pays c).drop k)

/-- The levels: 0 for send and local cells, 1 for the barrier, 2 for the first three kinds of copies, 3 for the last. -/
def rank : Role → ℕ
  | .bar => 1
  | .rcv b _ => if b = 3 then 3 else 2
  | _ => 0

def L (g : GSem nD τ sig) : Finset Unit := if g.1.2 = .tc then {()} else ∅
def lv (g : GSem nD τ sig) (_ : Unit) : ℕ := rank (role g.2)

theorem L_of_ne (g : GSem nD τ sig) (h : g.1.2 ≠ .tc) : L g = ∅ := if_neg h
theorem L_tc (c : Dev nD) (sm : SemLoc sig) : L ((c : Thread nD τ), sm) = {()} := if_pos rfl

/-- A wait on a cell below every cell still owed. -/
theorem mayWait_of (c : Dev nD) (sm : SemLoc sig) (l : List (GSem nD τ sig × ℕ)) (b : ℕ) (hs : rank (role sm) ≤ b)
    (hl : ∀ x ∈ l, x.1.1.2 = .tc ∧ b < rank (role x.1.2)) : (levAts L lv : sProp 𝕄) ⊢ MayWait (c : Thread nD τ) sm () (tal l) :=
  MayOwe.of_cut (L := L) (lev := lv) b (fun p hp => by rw [Finset.mem_singleton.mp hp, L_tc]; exact Finset.mem_singleton_self _)
    (fun g u hg => by
      obtain ⟨x, hx, rfl⟩ := tal_pos hg
      unfold L; rw [if_pos (hl x hx).1]; exact Finset.mem_singleton_self _)
    (fun p hp => by rw [Finset.mem_singleton.mp hp]; exact hs)
    (fun g u hg => by
      obtain ⟨x, hx, rfl⟩ := tal_pos hg
      exact (hl x hx).2)

theorem pays_tc (c : Dev nD) : ∀ x ∈ pays c, x.1.1.2 = .tc := by
  intro x hx
  simp only [pays, List.mem_cons, List.not_mem_nil, or_false] at hx
  rcases hx with h | h | h | h | h | h | h | h | h | h | h | h | h | h | h | h | h | h | h | h | h | h | h | h | h | h | h | h | h | h | h | h | h | h | h <;> (subst h; rfl)

theorem rank_send (b : Fin 4) (i : Fin 7) : rank (role (.dma (sendS b i))) = 0 := by rw [role_send]; rfl
theorem rank_loc (l : Fin 3) : rank (role (.dma (locS l))) = 0 := by rw [role_loc]; rfl
theorem rank_payR (c : Dev nD) (b : Fin 4) (i : Fin 7) : rank (role (payR c b i).1.2) = if b = 3 then 3 else 2 := by
  show rank (role (.dma (recvS b i.rev))) = _; rw [role_recv]; rfl

/-- The barrier is waited for with only the copies still owed. -/
theorem mayWait_bar (c : Dev nD) : (levAts L lv : sProp 𝕄) ⊢ MayWait (c : Thread nD τ) (.reg barS) () (owed c 7) :=
  mayWait_of c _ _ 1 (Nat.le_refl 1) fun x hx => ⟨pays_tc c x (List.mem_of_mem_drop hx), by
    simp only [pays, List.drop_succ_cons, List.drop_zero, List.mem_cons, List.not_mem_nil, or_false] at hx
    rcases hx with h | h | h | h | h | h | h | h | h | h | h | h | h | h | h | h | h | h | h | h | h | h | h | h | h | h | h | h <;>
      (subst h; rw [rank_payR]; decide)⟩

/-- The local copies and the first three kinds of copies are waited for with only the attention outputs still owed. -/
theorem mayWait_early (c : Dev nD) (sm : SemLoc sig) (h : rank (role sm) ≤ 2) : (levAts L lv : sProp 𝕄) ⊢ MayWait (c : Thread nD τ) sm () (owed c 28) :=
  mayWait_of c _ _ 2 h fun x hx => ⟨pays_tc c x (List.mem_of_mem_drop hx), by
    simp only [pays, List.drop_succ_cons, List.drop_zero, List.mem_cons, List.not_mem_nil, or_false] at hx
    rcases hx with h | h | h | h | h | h | h <;> (subst h; rw [rank_payR]; decide)⟩

/-- At the end nothing is owed. -/
theorem owed_end (c : Dev nD) : owed c 35 = 0 := rfl

end Cert.KernelIdeal.Mla

end
-- ==== Proof.I.Steps.lean ====
/-
  One rule per kind of protocol step: signal, barrier wait, copy to a peer, local copy, the waits.
-/
module

public import proofs.«01_k».proof.Proof.I.Sched
public import Idealize.SL.ProofMode

@[expose] public section

noncomputable section

namespace Cert.KernelIdeal.Mla

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen
open Idealize.ShloMosaic.ValueIdx

variable {F : FTy → Type} [FloatOps F] [Named F]

local notation "𝕄" => MT nD τ sig Unit (Elt F) ℕ UU ℕ

/-- The kernels' variants: none. -/
abbrev 𝒱₀ : Variants := Variants.none

variable (I : Ins F) (K : GSem nD τ sig → ℕ) (c : Dev nD)

/-- The invariants of every device's cells under the names K, that every barrier cell is open, and the levels. -/
def recs : sProp 𝕄 :=
  iprop((bigSep (Finset.univ : Finset (Dev nD)) fun c => iprop(cellInv ER (sched I) (K (barCell c)) (barCell c) ∗ reached ER (barCell c) 0))
    ∗ (bigSep (Finset.univ : Finset (Dev nD × Fin 4 × Fin 7)) fun p =>
        iprop(cellInv ER (sched I) (K (sendCell p.1 p.2.1 p.2.2)) (sendCell p.1 p.2.1 p.2.2) ∗ cellInv ER (sched I) (K (recvCell p.1 p.2.1 p.2.2)) (recvCell p.1 p.2.1 p.2.2)))
    ∗ (bigSep (Finset.univ : Finset (Dev nD × Fin 3)) fun p => cellInv ER (sched I) (K (locCell p.1 p.2)) (locCell p.1 p.2))
    ∗ levAts L lv)

instance recs_persistent : Persistent (recs I K) := by unfold recs; infer_instance

theorem recs_bar : recs I K ⊢ iprop(cellInv ER (sched I) (K (barCell c)) (barCell c) ∗ reached ER (barCell c) 0) := by
  unfold recs
  exact sep_elim_left.trans (bigSep_elim (i := c) (Finset.mem_univ _))
theorem recs_sr (b : Fin 4) (i : Fin 7) : recs I K ⊢ iprop(cellInv ER (sched I) (K (sendCell c b i)) (sendCell c b i) ∗ cellInv ER (sched I) (K (recvCell c b i)) (recvCell c b i)) := by
  unfold recs
  exact (sep_elim_right.trans sep_elim_left).trans (bigSep_elim (i := (c, b, i)) (Finset.mem_univ _))
theorem recs_loc (l : Fin 3) : recs I K ⊢ cellInv ER (sched I) (K (locCell c l)) (locCell c l) := by
  unfold recs
  exact (sep_elim_right.trans (sep_elim_right.trans sep_elim_left)).trans (bigSep_elim (i := (c, l)) (Finset.mem_univ _))
theorem recs_lev : recs I K ⊢ levAts L lv := by
  unfold recs; iintro ⟨-, -, -, H⟩; iexact H

/-- c has made its first k payments. -/
def Owe (k : ℕ) : sProp 𝕄 := iprop(∃ W, owes (c : Thread nD τ) (owed c k) W)

/-- What c needs to copy kind b to peer i, apart from the places. -/
def sendTok (b : Fin 4) (i : Fin 7) : sProp 𝕄 :=
  iprop(dutyTok ER (sendCell c b i) 0 0 ∗ reached ER (sendCell c b i) 0 ∗ atPos ER (sendCell c b i) 0 ∅ 0 ∗ dutyTok ER (recvCell (peer c i) b i.rev) 0 0)
/-- The landing place of that copy, and that its receive cell is open. -/
def slot (b : Fin 4) (i : Fin 7) : sProp 𝕄 :=
  iprop(landAny (F := F) (peer c i) b i.rev ∗ reached ER (recvCell (peer c i) b i.rev) 0)
/-- That copy under way: what c needs to wait for it. -/
def flying (b : Fin 4) (i : Fin 7) : sProp 𝕄 :=
  iprop(cred (tallyAt (sendCell c b i) () (units b)) ∗ atPos ER (sendCell c b i) 0 ∅ 0)
/-- What c needs to wait for the copy of kind b from peer i. -/
def rcvTok (b : Fin 4) (i : Fin 7) : sProp 𝕄 :=
  iprop(cred (tallyAt (recvCell c b i) () (units b)) ∗ atPos ER (recvCell c b i) 0 ∅ 0)
/-- What c needs to start local copy l, and to wait for it. -/
def locTok (l : Fin 3) : sProp 𝕄 :=
  iprop(dutyTok ER (locCell c l) 0 0 ∗ reached ER (locCell c l) 0 ∗ atPos ER (locCell c l) 0 ∅ 0)
@[inherit_doc locTok] def locFly (l : Fin 3) : sProp 𝕄 :=
  iprop(cred (tallyAt (locCell c l) () (unitsLoc l)) ∗ atPos ER (locCell c l) 0 ∅ 0)
/-- A cell past its one round. -/
def past (sm : SemLoc sig) : sProp 𝕄 := atPos ER ((c : Thread nD τ), sm) 1 ∅ 0

section
variable {α : Type} {Q : α → sProp (MT nD τ sig Unit (Elt F) ℕ UU ℕ)} {k : PUnit → Prog (TpuEff nD τ sig (Elt F) Λ₀ .tc) α}

/-- The signal to peer i: c hands over its four landing places for that peer. -/
theorem wp_sig (i : Fin 7) (n : Dev nD) (hn : n = peer c i) (j : ℕ) (hO : owed c j = owed c (j + 1) + tallyAt (barCell (peer c i)) () 1) {z : ℤ} (hz : z = ((1 : ℕ) : ℤ)) :
    iprop(recs I K ∗ dutyTok ER (barCell (peer c i)) 0 i
        ∗ (landAny (F := F) c 0 i ∗ landAny (F := F) c 1 i ∗ landAny (F := F) c 2 i ∗ landAny (F := F) c 3 i)
        ∗ (reached ER (recvCell c 0 i) 0 ∗ reached ER (recvCell c 1 i) 0 ∗ reached ER (recvCell c 2 i) 0 ∗ reached ER (recvCell c 3 i) 0) ∗ Owe c j)
      ⊢ iprop((Owe c (j + 1) -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (Dev.tc n : Thread nD τ) barS z) k) Q) := by
  subst hn hz
  unfold Owe
  iintro ⟨#HR, Ht, Hp, Hr, ⟨%W, HO⟩⟩ Hk
  ihave #HB := (recs_bar I K (peer c i)) $$ HR
  icases HB with ⟨HI, Hre⟩
  iapply (Rounds.wp_signal 𝒱₀ ER (sched I) (c : Thread nD τ) none (dst := (peer c i : Thread nD τ)) (κ := K (barCell (peer c i))) (r := 0) (d := i)
      (by rw [duties_bar]; exact Finset.mem_univ _) (amount_bar I (peer c i) i) () (owed c (j + 1)) hO (W := W)) $$ [Ht Hp Hr HO]
  · rw [payload_bar]; unfold barPay; rw [peer_peer]
    iframe ∗ #
  iintro HO
  iapply Hk
  iexists W; iexact HO

/-- The wait for all seven peers' signals: their landing places for c. -/
theorem wp_bar {z : ℤ} (hz : z = ((7 : ℕ) : ℤ)) :
    iprop(recs I K ∗ cred (tallyAt (barCell c) () 7) ∗ atPos ER (barCell c) 0 ∅ 0 ∗ Owe c 7)
      ⊢ iprop(((Owe c 7 ∗ past c (.reg barS) ∗ bigSep (Finset.univ : Finset (Fin 7)) fun d => barPay (F := F) c d)
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS z) k) Q) := by
  subst hz
  unfold Owe
  iintro ⟨#HR, Hc, Ha, ⟨%W, HO⟩⟩ Hk
  ihave #HB := (recs_bar I K c) $$ HR
  icases HB with ⟨HI, Hre⟩
  iapply (Rounds.wp_wait_rest_token 𝒱₀ ER (sched I) (c : Thread nD τ) none (κ := K (barCell c))
      (wpE_semWait_eq 𝒱₀ (c : Thread nD τ) none Set.univ) (Set.mem_univ _) () (O := owed c 7) (W := W) (R := 0) (m := 0) (T := ∅)
      (by rw [expect_bar])) $$ [Hc HO Ha]
  · isplitr; · iexact HI
    isplitl [Hc]; · iexact Hc
    isplitl [HO]; · iexact HO
    isplitr; · iapply (mayWait_bar c); iapply (recs_lev I K); iexact HR
    iexact Ha
  iintro ⟨HO, Ha, -, Hp⟩
  ihave Hp := (Entails.of_eq (rest_bar I c)) $$ Hp
  iapply Hk
  isplitl [HO]; · iexists _; iexact HO
  unfold past
  iframe

/-- A wait for a DMA semaphore of c, whose round hands over P. -/
theorem wp_dmaWait {sp sp' : Space} {s s' : Shape} {e e' : EltTy} {src : Memref sig .tc sp s e} {dst : Memref sig .tc sp' s' e'} (sm sm' : DmaSem sig) (hsm : sm' = sm) (N : ℕ) (P : sProp 𝕄)
    (hE : (sched I).expect ((c : Thread nD τ), .dma sm) 0 = N)
    (hP : bigSep ((sched I).duties ((c : Thread nD τ), .dma sm) 0 \ ∅) (fun d => (sched I).payload ((c : Thread nD τ), .dma sm) 0 d) = P)
    (hN : dst.view.dmaCredit = N) (j : ℕ) (hW : (levAts L lv : sProp 𝕄) ⊢ MayWait (c : Thread nD τ) (.dma sm) () (owed c j)) {ho ho'} :
    iprop(recs I K ∗ cellInv ER (sched I) (K ((c : Thread nD τ), .dma sm)) ((c : Thread nD τ), .dma sm)
        ∗ (cred (tallyAt ((c : Thread nD τ), .dma sm) () N) ∗ atPos ER ((c : Thread nD τ), .dma sm) 0 ∅ 0) ∗ Owe c j)
      ⊢ iprop(((Owe c j ∗ past c (.dma sm) ∗ P) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sm' src dst ho ho') k) Q) := by
  subst hsm
  unfold Owe
  iintro ⟨#HR, #HI, ⟨Hc, Ha⟩, ⟨%W, HO⟩⟩ Hk
  iapply (Rounds.wp_wait_rest_token 𝒱₀ ER (sched I) (c : Thread nD τ) none (κ := K ((c : Thread nD τ), .dma sm'))
      (wpE_waitDma2_eq 𝒱₀ (c : Thread nD τ) none Set.univ) (Set.mem_univ _) () (O := owed c j) (W := W) (R := 0) (m := 0) (T := ∅)
      (by rw [hE, hN, Nat.zero_add])) $$ [Hc HO Ha]
  · isplitr; · iexact HI
    isplitl [Hc]; · rw [hN]; iexact Hc
    isplitl [HO]; · iexact HO
    isplitr; · iapply hW; iapply (recs_lev I K); iexact HR
    iexact Ha
  iintro ⟨HO, Ha, -, Hp⟩
  ihave Hp := (Entails.of_eq hP) $$ Hp
  iapply Hk
  isplitl [HO]; · iexists _; iexact HO
  unfold past
  iframe

/-- A copy of kind b to peer i: it takes the source, which the send wait gives back, and the landing place, which the peer's wait gets. -/
theorem wp_sendG {sp sp' : Space} {s : Shape} {e : EltTy} (src : Memref sig .tc sp s e) (dst : Memref sig .tc sp' s e) (b : Fin 4) (i : Fin 7) (n : Dev nD) (hn : n = peer c i)
    {sS sR : DmaSem sig} (hsS : sS = sendS b i) (hsR : sR = recvS b i.rev) (q : PosShare TreeShare) (fs : Buf (Elt F) (src.view.loc (c : Thread nD τ)))
    (hN : dst.view.amount (.dma (recvS b i.rev)) = units b) (j : ℕ) (hO : owed c j = owed c (j + 1) + tallyAt (recvCell (peer c i) b i.rev) () (units b))
    (hsrcEq : srcPts I c b i = own src c q fs) (hany : landAny (F := F) (peer c i) b i.rev = anyOwn (F := F) dst (peer c i))
    (hland : ∀ fd : Buf (Elt F) (dst.view.loc (peer c i : Thread nD τ)), own dst (peer c i) fullShare (dst.view.write (Elt F) fd (src.view.read (Elt F) fs) Finset.univ) ⊢ landed I (peer c i) b i.rev)
    {hsc : (dst : Memref sig (Dev.tc n : Thread nD τ).2.kind sp' s e).view.ref.isScScratch = false} {hw : src.view.WordExact} {hw' : dst.view.WordExact}
    {hT : DmaTarget.Typed sp (.dma sR) (.remote (Dev.tc n : Thread nD τ) dst (.dma sS) hsc)} :
    iprop(recs I K ∗ sendTok c b i ∗ slot (F := F) c b i ∗ srcPts I c b i ∗ Owe c j)
      ⊢ iprop(((flying c b i ∗ Owe c (j + 1)) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dst (.dma sS) hsc) (.dma sR) hw hw' hT) k) Q) := by
  subst hn hsS hsR
  unfold Owe sendTok slot flying
  rw [hsrcEq, hany]
  unfold anyOwn
  iintro ⟨#HR, ⟨Ht, #Hre, Ha, Ht'⟩, ⟨⟨%fd, Hd⟩, #Hre'⟩, Hs, ⟨%W, HO⟩⟩ Hk
  ihave #HB := (recs_sr I K c b i) $$ HR
  icases HB with ⟨HI, -⟩
  ihave #HB' := (recs_sr I K (peer c i) b i.rev) $$ HR
  icases HB' with ⟨-, HI'⟩
  iapply (Rounds.wp_send_pointsTo 𝒱₀ ER (sched I) (c : Thread nD τ) none (c' := (peer c i : Thread nD τ)) (src := src) (dst := dst) (κ₁ := K (sendCell c b i)) (κ₂ := K (recvCell (peer c i) b i.rev))
    (q := q) (fs := fs) (fd := fd) (r₁ := 0) (r₂ := 0) (d₁ := 0) (d₂ := 0)
    (by rw [duties_send]; exact Finset.mem_singleton_self _) (by rw [duties_recv]; exact Finset.mem_singleton_self _)
    () () (units b) hN (amount_send I c b i 0) (amount_recv I (peer c i) b i.rev 0) (owed c (j + 1)) hO (W := W)
    (by rw [payload_send, hsrcEq])
    (by rw [payload_recv]; exact hland fd)) $$ [Ht Ht' Hd Hs HO]
  · iframe ∗ #
  iintro ⟨Hc, HO⟩
  iapply Hk
  iframe Hc Ha
  iexists W; iexact HO

/-- Local copy l: it takes the source and the landing place, and its wait gives both back. -/
theorem wp_copyG {sp sp' : Space} {s : Shape} {e : EltTy} (src : Memref sig .tc sp s e) (dst : Memref sig .tc sp' s e) (l : Fin 3)
    {sm : DmaSem sig} (hsm : sm = locS l) (q : PosShare TreeShare) (fs : Buf (Elt F) (src.view.loc (c : Thread nD τ)))
    (hN : dst.view.amount (.dma (locS l)) = unitsLoc l)
    (hland : ∀ fd : Buf (Elt F) (dst.view.loc (c : Thread nD τ)), iprop(own dst c fullShare (dst.view.write (Elt F) fd (src.view.read (Elt F) fs) Finset.univ) ∗ own src c q fs) ⊢ copied I c l)
    {hw : src.view.WordExact} {hw' : dst.view.WordExact} {hT : DmaTarget.Typed (nD := nD) (τ := τ) (p := (c : Thread nD τ).2) sp (.dma sm) (.here dst)} :
    iprop(recs I K ∗ locTok c l ∗ anyOwn (F := F) dst c ∗ own src c q fs)
      ⊢ iprop((locFly c l -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma src (.here dst) (.dma sm) hw hw' hT) k) Q) := by
  subst hsm
  unfold locTok locFly anyOwn
  iintro ⟨#HR, ⟨Ht, #Hre, Ha⟩, ⟨%fd, Hd⟩, Hs⟩ Hk
  ihave #HI := (recs_loc I K c l) $$ HR
  iapply (Rounds.wp_copy_pointsTo 𝒱₀ ER (sched I) (c : Thread nD τ) none (src := src) (dst := dst) (κ := K (locCell c l))
    (q := q) (fs := fs) (fd := fd) (r := 0) (d := 0)
    (by rw [duties_loc]; exact Finset.mem_singleton_self _) () (unitsLoc l) hN (amount_loc I c l 0)
    (by rw [payload_loc]; exact hland fd)) $$ [Ht Hd Hs]
  · iframe ∗ #
  iintro Hc
  iapply Hk
  iframe

variable {sp sp' : Space} {s s' : Shape} {e e' : EltTy} {src : Memref sig .tc sp s e} {dst : Memref sig .tc sp' s' e'}

/-- The wait for c's own copy of kind b to peer i: the source comes back. -/
theorem wp_sendWait (b : Fin 4) (i : Fin 7) {sm : DmaSem sig} (hsm : sm = sendS b i) (hN : dst.view.dmaCredit = units b) {ho ho'} :
    iprop(recs I K ∗ flying (F := F) c b i ∗ Owe c 35)
      ⊢ iprop(((Owe c 35 ∗ past c (.dma (sendS b i)) ∗ srcPts I c b i) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sm src dst ho ho') k) Q) := by
  unfold flying
  iintro ⟨#HR, HF, HO⟩
  ihave #HB := (recs_sr I K c b i) $$ HR
  icases HB with ⟨HI, -⟩
  iapply (wp_dmaWait I K c (sendS b i) sm hsm (units b) (srcPts I c b i) (expect_send I c b i) (rest_send I c b i) hN 35
    (by rw [owed_end, MayWait_zero]; exact BI.affine)) $$ [HF HO]
  iframe ∗ #

/-- The wait for a copy of one of the first three kinds from peer i, made before the attention outputs are sent. -/
theorem wp_recvWait (b : Fin 4) (hb : b ≠ 3) (i : Fin 7) {sm : DmaSem sig} (hsm : sm = recvS b i) (hN : dst.view.dmaCredit = units b) {ho ho'} :
    iprop(recs I K ∗ rcvTok (F := F) c b i ∗ Owe c 28)
      ⊢ iprop(((Owe c 28 ∗ past c (.dma (recvS b i)) ∗ landed I c b i) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sm src dst ho ho') k) Q) := by
  unfold rcvTok
  iintro ⟨#HR, HF, HO⟩
  ihave #HB := (recs_sr I K c b i) $$ HR
  icases HB with ⟨-, HI⟩
  iapply (wp_dmaWait I K c (recvS b i) sm hsm (units b) (landed I c b i) (expect_recv I c b i) (rest_recv I c b i) hN 28
    (mayWait_early c _ (by rw [role_recv]; show (if b = 3 then 3 else 2) ≤ 2; rw [if_neg hb]))) $$ [HF HO]
  iframe ∗ #

/-- The wait for the attention output of peer i. -/
theorem wp_recvWait3 (i : Fin 7) {sm : DmaSem sig} (hsm : sm = recvS 3 i) (hN : dst.view.dmaCredit = units 3) {ho ho'} :
    iprop(recs I K ∗ rcvTok (F := F) c 3 i ∗ Owe c 35)
      ⊢ iprop(((Owe c 35 ∗ past c (.dma (recvS 3 i)) ∗ landed I c 3 i) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sm src dst ho ho') k) Q) := by
  unfold rcvTok
  iintro ⟨#HR, HF, HO⟩
  ihave #HB := (recs_sr I K c 3 i) $$ HR
  icases HB with ⟨-, HI⟩
  iapply (wp_dmaWait I K c (recvS 3 i) sm hsm (units 3) (landed I c 3 i) (expect_recv I c 3 i) (rest_recv I c 3 i) hN 35
    (by rw [owed_end, MayWait_zero]; exact BI.affine)) $$ [HF HO]
  iframe ∗ #

/-- The wait for local copy l. -/
theorem wp_locWait (l : Fin 3) {sm : DmaSem sig} (hsm : sm = locS l) (hN : dst.view.dmaCredit = unitsLoc l) {ho ho'} :
    iprop(recs I K ∗ locFly (F := F) c l ∗ Owe c 28)
      ⊢ iprop(((Owe c 28 ∗ past c (.dma (locS l)) ∗ copied I c l) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sm src dst ho ho') k) Q) := by
  unfold locFly
  iintro ⟨#HR, HF, HO⟩
  ihave #HI := (recs_loc I K c l) $$ HR
  iapply (wp_dmaWait I K c (locS l) sm hsm (unitsLoc l) (copied I c l) (expect_loc I c l) (rest_loc I c l) hN 28
    (mayWait_early c _ (by rw [rank_loc]; exact Nat.zero_le _))) $$ [HF HO]
  iframe ∗ #

end

end Cert.KernelIdeal.Mla

end
-- ==== Proof.I.Sends.lean ====
/-
  The four kinds of copies to a peer and the three local copies, at the places the kernel names.
-/
module

public import proofs.«01_k».proof.Proof.I.Steps

@[expose] public section

noncomputable section

namespace Cert.KernelIdeal.Mla

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen
open Idealize.ShloMosaic.ValueIdx

variable {F : FTy → Type} [FloatOps F] [Named F]

local notation "𝕄" => MT nD τ sig Unit (Elt F) ℕ UU ℕ

variable (I : Ins F) (K : GSem nD τ sig → ℕ) (c : Dev nD)

theorem landed0 (i : Fin 7) : landed I (peer c i) 0 i.rev = own (caM c) (peer c i) fullShare (CA I) := by
  show own (caM (peer (peer c i) i.rev)) (peer c i) fullShare (CA I) = _
  rw [peer_peer]
theorem landed1 (i : Fin 7) : landed I (peer c i) 1 i.rev = own (kaM c) (peer c i) fullShare (KA I (peer c i)) := by
  show own (kaM (peer (peer c i) i.rev)) (peer c i) fullShare (KA I (peer c i)) = _
  rw [peer_peer]
theorem landed2 (i : Fin 7) : landed I (peer c i) 2 i.rev = own (vaM c) (peer c i) fullShare (VA I (peer c i)) := by
  show own (vaM (peer (peer c i) i.rev)) (peer c i) fullShare (VA I (peer c i)) = _
  rw [peer_peer]
theorem any0 (i : Fin 7) : landAny (F := F) (peer c i) 0 i.rev = anyOwn (F := F) (caM c) (peer c i) := by
  show anyOwn (F := F) (caM (peer (peer c i) i.rev)) (peer c i) = _
  rw [peer_peer]
theorem any1 (i : Fin 7) : landAny (F := F) (peer c i) 1 i.rev = anyOwn (F := F) (kaM c) (peer c i) := by
  show anyOwn (F := F) (kaM (peer (peer c i) i.rev)) (peer c i) = _
  rw [peer_peer]
theorem any2 (i : Fin 7) : landAny (F := F) (peer c i) 2 i.rev = anyOwn (F := F) (vaM c) (peer c i) := by
  show anyOwn (F := F) (vaM (peer (peer c i) i.rev)) (peer c i) = _
  rw [peer_peer]

section
variable {α : Type} {Q : α → sProp (MT nD τ sig Unit (Elt F) ℕ UU ℕ)} {k : PUnit → Prog (TpuEff nD τ sig (Elt F) Λ₀ .tc) α}

/-- The copy of the latent block to peer i. -/
theorem wp_send0 (i : Fin 7) (j : ℕ) (hO : owed c j = owed c (j + 1) + tallyAt (recvCell (peer c i) 0 i.rev) () (units 0))
    {n : Dev nD} (hn : n = peer c i) {sS sR : DmaSem sig} (hsS : sS = sendS 0 i) (hsR : sR = recvS 0 i.rev) {hsc hw hw' hT} :
    iprop(recs I K ∗ sendTok c 0 i ∗ slot (F := F) c 0 i ∗ srcPts I c 0 i ∗ Owe c j)
      ⊢ iprop(((flying c 0 i ∗ Owe c (j + 1)) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma clM (.remote (Dev.tc n : Thread nD τ) (caM c) (.dma sS) hsc) (.dma sR) hw hw' hT) k) Q) :=
  wp_sendG I K c clM (caM c) 0 i n hn hsS hsR (tok i) (CL I c) (amount_big _ _) j hO rfl (any0 c i)
    (fun fd => Entails.of_eq ((pointsTo_congr (land_ca I c fd)).trans (landed0 I c i).symm))

/-- The copy of the key up-projection's column block for peer i. -/
theorem wp_send1 (i : Fin 7) (j : ℕ) (hO : owed c j = owed c (j + 1) + tallyAt (recvCell (peer c i) 1 i.rev) () (units 1))
    {n : Dev nD} (hn : n = peer c i) {sS sR : DmaSem sig} (hsS : sS = sendS 1 i) (hsR : sR = recvS 1 i.rev)
    {o : Fin 3 → ℕ} (ho : o = k0_off3 (peer c i)) {hi : ∀ a, o a + S1x64x128.size a ≤ S8x64x128.size a} {hsc hw hw' hT} :
    iprop(recs I K ∗ sendTok c 1 i ∗ slot (F := F) c 1 i ∗ srcPts I c 1 i ∗ Owe c j)
      ⊢ iprop(((flying c 1 i ∗ Owe c (j + 1)) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (((Memref.whole cc0_scratch2).slice (Rect.unit o S1x64x128.size hi) (fun _ => rfl)).squeeze S64x128 squeezes_S1x64x128_S64x128)
                (.remote (Dev.tc n : Thread nD τ) (kaM c) (.dma sS) hsc) (.dma sR) hw hw' hT) k) Q) := by
  subst ho
  exact wp_sendG I K c (ksM (peer c i)) (kaM c) 1 i n hn hsS hsR fullShare (cut (I.uk c)) (amount_small _ _) j hO rfl (any1 c i)
    (fun fd => Entails.of_eq ((pointsTo_congr (land_ka I (peer c i) c fd)).trans (landed1 I c i).symm))

/-- The copy of the value up-projection's column block for peer i. -/
theorem wp_send2 (i : Fin 7) (j : ℕ) (hO : owed c j = owed c (j + 1) + tallyAt (recvCell (peer c i) 2 i.rev) () (units 2))
    {n : Dev nD} (hn : n = peer c i) {sS sR : DmaSem sig} (hsS : sS = sendS 2 i) (hsR : sR = recvS 2 i.rev)
    {o : Fin 3 → ℕ} (ho : o = k0_off3 (peer c i)) {hi : ∀ a, o a + S1x64x128.size a ≤ S8x64x128.size a} {hsc hw hw' hT} :
    iprop(recs I K ∗ sendTok c 2 i ∗ slot (F := F) c 2 i ∗ srcPts I c 2 i ∗ Owe c j)
      ⊢ iprop(((flying c 2 i ∗ Owe c (j + 1)) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (((Memref.whole cc0_scratch3).slice (Rect.unit o S1x64x128.size hi) (fun _ => rfl)).squeeze S64x128 squeezes_S1x64x128_S64x128)
                (.remote (Dev.tc n : Thread nD τ) (vaM c) (.dma sS) hsc) (.dma sR) hw hw' hT) k) Q) := by
  subst ho
  exact wp_sendG I K c (vsM (peer c i)) (vaM c) 2 i n hn hsS hsR fullShare (cut (I.uv c)) (amount_small _ _) j hO rfl (any2 c i)
    (fun fd => Entails.of_eq ((pointsTo_congr (land_va I (peer c i) c fd)).trans (landed2 I c i).symm))

/-- The copy of the attention output to peer i, into the slot d. -/
theorem wp_send3 (i : Fin 7) (j : ℕ) (hO : owed c j = owed c (j + 1) + tallyAt (recvCell (peer c i) 3 i.rev) () (units 3))
    {n : Dev nD} (hn : n = peer c i) {sS sR : DmaSem sig} (hsS : sS = sendS 3 i) (hsR : sR = recvS 3 i.rev) {hsc hw hw' hT} :
    iprop(recs I K ∗ sendTok c 3 i ∗ slot (F := F) c 3 i ∗ srcPts I c 3 i ∗ Owe c j)
      ⊢ iprop(((flying c 3 i ∗ Owe c (j + 1)) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (ogM 0) (.remote (Dev.tc n : Thread nD τ) (ogM i.rev.succ) (.dma sS) hsc) (.dma sR) hw hw' hT) k) Q) :=
  wp_sendG I K c (ogM 0) (ogM i.rev.succ) 3 i n hn hsS hsR (tok i) (OG I c) (amount_big _ _) j hO rfl rfl
    (fun fd => Entails.of_eq (pointsTo_congr (land_og I (peer c i) c i.rev.succ (by rw [ahead_succ, peer_peer]) fd)))

/-- The local copy of the latent block. -/
theorem wp_copy0 {sm : DmaSem sig} (hsm : sm = locS 0) {hw hw' hT} :
    iprop(recs I K ∗ locTok c 0 ∗ anyOwn (F := F) (caM c) c ∗ own clM c rest (CL I c))
      ⊢ iprop((locFly c 0 -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma clM (.here (caM c)) (.dma sm) hw hw' hT) k) Q) :=
  wp_copyG I K c clM (caM c) 0 hsm rest (CL I c) (amount_big _ _) (fun fd => sep_mono_left (Entails.of_eq (pointsTo_congr (land_ca I c fd))))

/-- The local copy of the key up-projection's column block. -/
theorem wp_copy1 {sm : DmaSem sig} (hsm : sm = locS 1) {hw hw' hT} :
    iprop(recs I K ∗ locTok c 1 ∗ anyOwn (F := F) (kaM c) c ∗ own (ksM c) c fullShare (cut (I.uk c)))
      ⊢ iprop((locFly c 1 -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma (ksM c) (.here (kaM c)) (.dma sm) hw hw' hT) k) Q) :=
  wp_copyG I K c (ksM c) (kaM c) 1 hsm fullShare (cut (I.uk c)) (amount_small _ _) (fun fd => sep_mono_left (Entails.of_eq (pointsTo_congr (land_ka I c c fd))))

/-- The local copy of the value up-projection's column block. -/
theorem wp_copy2 {sm : DmaSem sig} (hsm : sm = locS 2) {hw hw' hT} :
    iprop(recs I K ∗ locTok c 2 ∗ anyOwn (F := F) (vaM c) c ∗ own (vsM c) c fullShare (cut (I.uv c)))
      ⊢ iprop((locFly c 2 -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma (vsM c) (.here (vaM c)) (.dma sm) hw hw' hT) k) Q) :=
  wp_copyG I K c (vsM c) (vaM c) 2 hsm fullShare (cut (I.uv c)) (amount_small _ _) (fun fd => sep_mono_left (Entails.of_eq (pointsTo_congr (land_va I c c fd))))

end

/-- The landing places that come with the barrier, by peer. -/
theorem slots_of_bar : (bigSep (Finset.univ : Finset (Fin 7)) fun d => barPay (F := F) c d)
    ⊢ bigSep (Finset.univ : Finset (Fin 7)) fun i => iprop(slot (F := F) c 0 i ∗ slot (F := F) c 1 i ∗ slot (F := F) c 2 i ∗ slot (F := F) c 3 i) := by
  rw [bigSep_univ_equiv Fin.revPerm]
  refine bigSep_mono fun i _ => ?_
  show barPay (F := F) c i.rev ⊢ _
  unfold barPay slot
  rw [Fin.rev_rev]
  iintro ⟨⟨A0, A1, A2, A3⟩, R0, R1, R2, R3⟩
  iframe

/-! ## The devices the kernel names -/

theorem dev1_eq : ∀ c : Dev nD, (⟨k0_dev1 c, k0_dev1_lt c⟩ : Dev nD) = peer c 0 := by decide +kernel
theorem dev2_eq : ∀ c : Dev nD, (⟨k0_dev2 c, k0_dev2_lt c⟩ : Dev nD) = peer c 1 := by decide +kernel
theorem dev3_eq : ∀ c : Dev nD, (⟨k0_dev3 c, k0_dev3_lt c⟩ : Dev nD) = peer c 2 := by decide +kernel
theorem dev4_eq : ∀ c : Dev nD, (⟨k0_dev4 c, k0_dev4_lt c⟩ : Dev nD) = peer c 3 := by decide +kernel
theorem dev5_eq : ∀ c : Dev nD, (⟨k0_dev5 c, k0_dev5_lt c⟩ : Dev nD) = peer c 4 := by decide +kernel
theorem dev6_eq : ∀ c : Dev nD, (⟨k0_dev6 c, k0_dev6_lt c⟩ : Dev nD) = peer c 5 := by decide +kernel
theorem dev7_eq : ∀ c : Dev nD, (⟨k0_dev7 c, k0_dev7_lt c⟩ : Dev nD) = peer c 6 := by decide +kernel
theorem dev8_eq : ∀ c : Dev nD, (⟨k0_dev8 c, k0_dev8_lt c⟩ : Dev nD) = peer c 0 := by decide +kernel
theorem dev9_eq : ∀ c : Dev nD, (⟨k0_dev9 c, k0_dev9_lt c⟩ : Dev nD) = peer c 0 := by decide +kernel
theorem dev10_eq : ∀ c : Dev nD, (⟨k0_dev10 c, k0_dev10_lt c⟩ : Dev nD) = peer c 0 := by decide +kernel
theorem dev11_eq : ∀ c : Dev nD, (⟨k0_dev11 c, k0_dev11_lt c⟩ : Dev nD) = peer c 1 := by decide +kernel
theorem dev12_eq : ∀ c : Dev nD, (⟨k0_dev12 c, k0_dev12_lt c⟩ : Dev nD) = peer c 1 := by decide +kernel
theorem dev13_eq : ∀ c : Dev nD, (⟨k0_dev13 c, k0_dev13_lt c⟩ : Dev nD) = peer c 1 := by decide +kernel
theorem dev14_eq : ∀ c : Dev nD, (⟨k0_dev14 c, k0_dev14_lt c⟩ : Dev nD) = peer c 2 := by decide +kernel
theorem dev15_eq : ∀ c : Dev nD, (⟨k0_dev15 c, k0_dev15_lt c⟩ : Dev nD) = peer c 2 := by decide +kernel
theorem dev16_eq : ∀ c : Dev nD, (⟨k0_dev16 c, k0_dev16_lt c⟩ : Dev nD) = peer c 2 := by decide +kernel
theorem dev17_eq : ∀ c : Dev nD, (⟨k0_dev17 c, k0_dev17_lt c⟩ : Dev nD) = peer c 3 := by decide +kernel
theorem dev18_eq : ∀ c : Dev nD, (⟨k0_dev18 c, k0_dev18_lt c⟩ : Dev nD) = peer c 3 := by decide +kernel
theorem dev19_eq : ∀ c : Dev nD, (⟨k0_dev19 c, k0_dev19_lt c⟩ : Dev nD) = peer c 3 := by decide +kernel
theorem dev20_eq : ∀ c : Dev nD, (⟨k0_dev20 c, k0_dev20_lt c⟩ : Dev nD) = peer c 4 := by decide +kernel
theorem dev21_eq : ∀ c : Dev nD, (⟨k0_dev21 c, k0_dev21_lt c⟩ : Dev nD) = peer c 4 := by decide +kernel
theorem dev22_eq : ∀ c : Dev nD, (⟨k0_dev22 c, k0_dev22_lt c⟩ : Dev nD) = peer c 4 := by decide +kernel
theorem dev23_eq : ∀ c : Dev nD, (⟨k0_dev23 c, k0_dev23_lt c⟩ : Dev nD) = peer c 5 := by decide +kernel
theorem dev24_eq : ∀ c : Dev nD, (⟨k0_dev24 c, k0_dev24_lt c⟩ : Dev nD) = peer c 5 := by decide +kernel
theorem dev25_eq : ∀ c : Dev nD, (⟨k0_dev25 c, k0_dev25_lt c⟩ : Dev nD) = peer c 5 := by decide +kernel
theorem dev26_eq : ∀ c : Dev nD, (⟨k0_dev26 c, k0_dev26_lt c⟩ : Dev nD) = peer c 6 := by decide +kernel
theorem dev27_eq : ∀ c : Dev nD, (⟨k0_dev27 c, k0_dev27_lt c⟩ : Dev nD) = peer c 6 := by decide +kernel
theorem dev28_eq : ∀ c : Dev nD, (⟨k0_dev28 c, k0_dev28_lt c⟩ : Dev nD) = peer c 6 := by decide +kernel
theorem dev29_eq : ∀ c : Dev nD, (⟨k0_dev29 c, k0_dev29_lt c⟩ : Dev nD) = peer c 0 := by decide +kernel
theorem dev30_eq : ∀ c : Dev nD, (⟨k0_dev30 c, k0_dev30_lt c⟩ : Dev nD) = peer c 1 := by decide +kernel
theorem dev31_eq : ∀ c : Dev nD, (⟨k0_dev31 c, k0_dev31_lt c⟩ : Dev nD) = peer c 2 := by decide +kernel
theorem dev32_eq : ∀ c : Dev nD, (⟨k0_dev32 c, k0_dev32_lt c⟩ : Dev nD) = peer c 3 := by decide +kernel
theorem dev33_eq : ∀ c : Dev nD, (⟨k0_dev33 c, k0_dev33_lt c⟩ : Dev nD) = peer c 4 := by decide +kernel
theorem dev34_eq : ∀ c : Dev nD, (⟨k0_dev34 c, k0_dev34_lt c⟩ : Dev nD) = peer c 5 := by decide +kernel
theorem dev35_eq : ∀ c : Dev nD, (⟨k0_dev35 c, k0_dev35_lt c⟩ : Dev nD) = peer c 6 := by decide +kernel

end Cert.KernelIdeal.Mla

end
-- ==== Proof.I.Args.lean ====
/-
  The kernel's arguments: nine staged blocks, the scratch buffers and the semaphores.
-/
module

public import proofs.«01_k».proof.Proof.I.Sends

@[expose] public section

noncomputable section

namespace Cert.KernelIdeal.Mla

open Idealize.ShloMosaic Idealize.ShloMosaic.TcCoe
open Cert.KernelIdeal Cert.KernelIdeal.Gen

/-- A function of the kernel's arguments at its staged blocks and its own scratch. -/
abbrev app {β : Type 1} (f : (arg0 : Memref sig .tc .vmem S512x1024 .bf16) → arg0.IsWhole → (arg1 : Memref sig .tc .vmem S1024x64 .bf16) → arg1.IsWhole → (arg2 : Memref sig .tc .vmem S64x1024 .bf16) → arg2.IsWhole → (arg3 : Memref sig .tc .vmem S64x1024 .bf16) → arg3.IsWhole → (arg4 : Memref sig .tc .vmem S1024x128 .bf16) → arg4.IsWhole → (arg5 : Memref sig .tc .vmem S1024x64 .bf16) → arg5.IsWhole → (arg6 : Memref sig .tc .vmem S1024x32 .bf16) → arg6.IsWhole → (arg7 : Memref sig .tc .vmem S8x128x1024 .bf16) → arg7.IsWhole → (arg8 : Memref sig .tc .vmem S512x1024 .f32) → arg8.IsWhole → (arg9 : Memref sig .tc .vmem S512x128 .bf16) → arg9.IsWhole → (arg10 : Memref sig .tc .vmem S512x1024 .bf16) → arg10.IsWhole → (arg11 : Memref sig .tc .vmem S8x64x128 .bf16) → arg11.IsWhole → (arg12 : Memref sig .tc .vmem S8x64x128 .bf16) → arg12.IsWhole → (arg13 : Memref sig .tc .vmem S1024x128 .bf16) → arg13.IsWhole → (arg14 : Memref sig .tc .vmem S1024x128 .bf16) → arg14.IsWhole → (arg15 : Memref sig .tc .vmem S512x128 .bf16) → arg15.IsWhole → (arg16 : Memref sig .tc .vmem S512x128 .bf16) → arg16.IsWhole → (arg17 : Memref sig .tc .vmem S512x128 .bf16) → arg17.IsWhole → (arg18 : Memref sig .tc .vmem S512x64 .bf16) → arg18.IsWhole → (arg19 : Memref sig .tc .vmem S512x32 .bf16) → arg19.IsWhole → (arg20 : Memref sig .tc .vmem S8x512x128 .bf16) → arg20.IsWhole → (arg21 : Memref sig .tc .vmem S8x128x1024 .bf16) → arg21.IsWhole → DmaSems sig S4x7 → DmaSems sig S4x7 → DmaSems sig S3 → β) : β :=
  f (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) cc0_scratch13 cc0_scratch14 cc0_scratch15

end Cert.KernelIdeal.Mla

end
-- ==== Proof.I.Loads.lean ====
/-
  Vector loads and stores of the kernel's buffers, and what a run of stores leaves.
-/
module

public import proofs.«01_k».proof.Proof.I.Args

@[expose] public section

noncomputable section

namespace Cert.KernelIdeal.Mla

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen
open Idealize.ShloMosaic.ValueIdx

variable {F : FTy → Type} [FloatOps F] [Named F]

local notation "𝕄" => MT nD τ sig Unit (Elt F) ℕ UU ℕ

variable (I : Ins F) (c : Dev nD)

section
variable {α : Type} {Q : α → sProp (MT nD τ sig Unit (Elt F) ℕ UU ℕ)} {sp : CoreSpace} {s : Shape} {e : EltTy} {m : Memref sig .tc (.core sp) s e} {q : PosShare TreeShare}
  {f : Buf (Elt F) (m.view.loc (c : Thread nD τ))} {S : Finset (Idx (m.view.loc (c : Thread nD τ)))}

/-- A load from a buffer of which the part S is owned. -/
theorem wp_ldS {r : Rect s} (v : r.shape.Idx → Elt F e) (hS : (m.access r).set ⊆ S)
    (hv : (m.access r).read (Elt F) f = v) {hl : m.view.LoadsAt r.toLoadRect} {k : (r.shape.Idx → Elt F e) → Prog (TpuEff nD τ sig (Elt F) Λ₀ .tc) α} :
    (m.view.loc (c : Thread nD τ) ↦[S]{q} f : sProp 𝕄)
      ⊢ iprop(((m.view.loc (c : Thread nD τ) ↦[S]{q} f) -∗ wp frame (wpE (defs₀ (F := F)) 𝒱₀ (c : Thread nD τ) none) Set.univ (k v) Q)
          -∗ wp frame (wpE (defs₀ (F := F)) 𝒱₀ (c : Thread nD τ) none) Set.univ (.op (.load m r.toLoadRect hl) k) Q) := by
  subst hv
  exact wp_load_rect (c := (c : Thread nD τ)) (m := m) (r := r) (S := S) (f := f) (q := q) (hl := hl) (k := k) 𝒱₀ none Set.univ hS

/-- A store into a buffer of which the part S is owned. -/
theorem wp_stS {r : Rect s} {w : r.shape.Idx → Elt F e} (g : Buf (Elt F) (m.view.loc (c : Thread nD τ))) (hS : (m.access r).set ⊆ S)
    (hg : (m.access r).write (Elt F) f w Finset.univ = g) {hx : (m.access r).Stores Finset.univ} {hm : (Finset.univ : Finset r.shape.Idx) = Finset.univ ∨ ∀ a, r.stride a = 1}
    {k : PUnit → Prog (TpuEff nD τ sig (Elt F) Λ₀ .tc) α} :
    (m.view.loc (c : Thread nD τ) ↦[S]{fullShare} f : sProp 𝕄)
      ⊢ iprop(((m.view.loc (c : Thread nD τ) ↦[S]{fullShare} g) -∗ wp frame (wpE (defs₀ (F := F)) 𝒱₀ (c : Thread nD τ) none) Set.univ (k ⟨⟩) Q)
          -∗ wp frame (wpE (defs₀ (F := F)) 𝒱₀ (c : Thread nD τ) none) Set.univ (.op (.store m r w Finset.univ hx hm) k) Q) := by
  subst hg
  exact wp_store (c := (c : Thread nD τ)) (m := m) (r := r) (S := S) (f := f) (w := w) (hx := hx) (hm := hm) (k := k) 𝒱₀ none Set.univ hS

/-- A load from a buffer owned whole. -/
theorem wp_ld {r : Rect s} (v : r.shape.Idx → Elt F e)
    (hv : (m.access r).read (Elt F) f = v) {hl : m.view.LoadsAt r.toLoadRect} {k : (r.shape.Idx → Elt F e) → Prog (TpuEff nD τ sig (Elt F) Λ₀ .tc) α} :
    (own m c q f : sProp 𝕄)
      ⊢ iprop((own m c q f -∗ wp frame (wpE (defs₀ (F := F)) 𝒱₀ (c : Thread nD τ) none) Set.univ (k v) Q)
          -∗ wp frame (wpE (defs₀ (F := F)) 𝒱₀ (c : Thread nD τ) none) Set.univ (.op (.load m r.toLoadRect hl) k) Q) :=
  wp_ldS c v (View.set_slice_subset _ _) hv

/-- A store into a buffer owned whole. -/
theorem wp_st {r : Rect s} {w : r.shape.Idx → Elt F e} (g : Buf (Elt F) (m.view.loc (c : Thread nD τ)))
    (hg : (m.access r).write (Elt F) f w Finset.univ = g) {hx : (m.access r).Stores Finset.univ} {hm : (Finset.univ : Finset r.shape.Idx) = Finset.univ ∨ ∀ a, r.stride a = 1}
    {k : PUnit → Prog (TpuEff nD τ sig (Elt F) Λ₀ .tc) α} :
    (own m c fullShare f : sProp 𝕄)
      ⊢ iprop((own m c fullShare g -∗ wp frame (wpE (defs₀ (F := F)) 𝒱₀ (c : Thread nD τ) none) Set.univ (k ⟨⟩) Q)
          -∗ wp frame (wpE (defs₀ (F := F)) 𝒱₀ (c : Thread nD τ) none) Set.univ (.op (.store m r w Finset.univ hx hm) k) Q) :=
  wp_stS c g (View.set_slice_subset _ _) hg

end

/-- A store leaves g when g holds the stored values inside the rectangle and the old ones outside. -/
theorem write_eq {b : Ref sig .tc} (r : Rect b.ty.shape) (f g : b.ty.Contents (Elt F)) (v : r.shape.Idx → Elt F b.ty.elt)
    (hin : ∀ x, g (r.emb x) = v x) (hout : ∀ i, (∀ x, r.emb x ≠ i) → g i = f i) :
    ((Memref.whole b).access r).write (Elt F) f v Finset.univ = g := by
  funext i
  by_cases h : ∃ x, r.emb x = i
  · obtain ⟨x, rfl⟩ := h
    exact (View.write_emb_of_mem (v := ((Memref.whole b).access r)) f v (Finset.mem_univ x)).trans (hin x).symm
  · refine (View.write_of_not_mem (v := ((Memref.whole b).access r)) f v Finset.univ ?_).trans (hout i fun x hx => h ⟨x, hx⟩).symm
    intro hm
    obtain ⟨x, -, hx⟩ := Finset.mem_map.mp hm
    exact h ⟨x, hx⟩

/-- The first n slots filled with an up-projection's column blocks. -/
def upto (n : ℕ) (w : FVec F S64x1024 .bf16) (f : FVec F S8x64x128 .bf16) : FVec F S8x64x128 .bf16 := fun i => if (i 0).val < n then cut w i else f i

theorem upto_zero (w : FVec F S64x1024 .bf16) (f : FVec F S8x64x128 .bf16) : upto 0 w f = f := funext fun i => if_neg (Nat.not_lt_zero _)
theorem upto_all (w : FVec F S64x1024 .bf16) (f : FVec F S8x64x128 .bf16) : upto 8 w f = cut w := funext fun i => if_pos (i 0).isLt

theorem fill_in (n : Fin 8) (w : FVec F S64x1024 .bf16) (f : FVec F S8x64x128 .bf16) (v : FVec F S1x64x128 .bf16)
    (hv : ∀ p q, v (ix3 0 p q) = w (ix2 p (col n q))) {inb} (x : S1x64x128.Idx) :
    upto (n.val + 1) w f ((Rect.unit (s := S8x64x128) ![n.val, 0, 0] S1x64x128.size inb).emb x) = v x := by
  obtain ⟨a, p, q, rfl⟩ : ∃ (a : Fin 1) (p : Fin 64) (q : Fin 128), x = ix3 a p q := ⟨x 0, x 1, x 2, eq_ix3 x⟩
  have e : (Rect.unit (s := S8x64x128) ![n.val, 0, 0] S1x64x128.size inb).emb (ix3 a p q) = ix3 n p q := by
    funext j
    refine Fin.ext ?_
    show (![n.val, 0, 0] : Fin 3 → ℕ) j + 1 * (ix3 a p q j).val = _
    have := a.isLt
    fin_cases j
    · show n.val + 1 * a.val = n.val; omega
    · show 0 + 1 * p.val = p.val; omega
    · show 0 + 1 * q.val = q.val; omega
  rw [e]
  obtain rfl : a = 0 := Subsingleton.elim _ _
  rw [hv]
  exact if_pos (Nat.lt_succ_self n.val)

theorem fill_out (n : Fin 8) (w : FVec F S64x1024 .bf16) (f : FVec F S8x64x128 .bf16) {inb} (i : S8x64x128.Idx)
    (h : ∀ x, (Rect.unit (s := S8x64x128) ![n.val, 0, 0] S1x64x128.size inb).emb x ≠ i) : upto (n.val + 1) w f i = upto n.val w f i := by
  unfold upto
  by_cases h0 : (i 0).val = n.val
  · refine absurd ?_ (h (ix3 0 (i 1) (i 2)))
    funext j
    refine Fin.ext ?_
    show (![n.val, 0, 0] : Fin 3 → ℕ) j + 1 * (ix3 (0 : Fin 1) (i 1) (i 2) j).val = _
    fin_cases j
    · show n.val + 1 * 0 = (i 0).val; omega
    · show 0 + 1 * (i 1).val = (i 1).val; omega
    · show 0 + 1 * (i 2).val = (i 2).val; omega
  · by_cases h1 : (i 0).val < n.val
    · rw [if_pos h1, if_pos (Nat.lt_succ_of_lt h1)]
    · rw [if_neg h1, if_neg (by omega)]

/-- Filling slot n of the key up-projections to send. -/
theorem fillK (n : Fin 8) (w : FVec F S64x1024 .bf16) (f : FVec F S8x64x128 .bf16) (v : FVec F S1x64x128 .bf16) (hv : ∀ p q, v (ix3 0 p q) = w (ix2 p (col n q))) {inb} :
    ((Memref.whole cc0_scratch2).access (Rect.unit (s := S8x64x128) ![n.val, 0, 0] S1x64x128.size inb)).write (Elt F) (upto n.val w f) v Finset.univ = upto (n.val + 1) w f :=
  write_eq (b := cc0_scratch2) _ _ _ _ (fill_in n w f v hv) (fill_out n w f)
/-- Filling slot n of the value up-projections to send. -/
theorem fillV (n : Fin 8) (w : FVec F S64x1024 .bf16) (f : FVec F S8x64x128 .bf16) (v : FVec F S1x64x128 .bf16) (hv : ∀ p q, v (ix3 0 p q) = w (ix2 p (col n q))) {inb} :
    ((Memref.whole cc0_scratch3).access (Rect.unit (s := S8x64x128) ![n.val, 0, 0] S1x64x128.size inb)).write (Elt F) (upto n.val w f) v Finset.univ = upto (n.val + 1) w f :=
  write_eq (b := cc0_scratch3) _ _ _ _ (fill_in n w f v hv) (fill_out n w f)

/-- Column block n of an up-projection, as loaded. -/
abbrev blk (w : FVec F S64x1024 .bf16) (n : Fin 8) : FVec F S64x128 .bf16 := fun x => w (ix2 (x 0) (col n (x 1)))
theorem blk_load (w : FVec F S64x1024 .bf16) (n : Fin 8) {inb} :
    (fun x => w ((Rect.unit (s := S64x1024) ![0, 128 * n.val] S64x128.size inb).emb x)) = blk w n := by
  funext x
  refine congrArg w ?_
  funext a
  refine Fin.ext ?_
  show (![0, 128 * n.val] : Fin 2 → ℕ) a + 1 * (x a).val = _
  fin_cases a
  · show 0 + 1 * (x 0).val = (x 0).val; omega
  · show 128 * n.val + 1 * (x 1).val = 128 * n.val + (x 1).val; omega

/-- The latent block after both stores. -/
theorem cl_store {inb} :
    ((Memref.whole cc0_scratch0).access (Rect.unit (s := S512x128) ![0, 0] S512x64.size inb)).write (Elt F) (k0_pay5 : FVec F S512x128 .bf16) (k0_pay7 (k0_pay4 (I.x c)) (k0_pay6 (I.wd c))) Finset.univ = CL I c := by
  have em : ∀ (p : Fin 512) (q : Fin 64), (Rect.unit (s := S512x128) ![0, 0] S512x64.size inb).emb (ix2 p q) = ix2 p (⟨q.val, by omega⟩ : Fin 128) := by
    intro p q
    funext a
    refine Fin.ext ?_
    show (![0, 0] : Fin 2 → ℕ) a + 1 * (ix2 p q a).val = _
    fin_cases a
    · show 0 + 1 * p.val = p.val; omega
    · show 0 + 1 * q.val = q.val; omega
  refine write_eq (b := cc0_scratch0) _ _ _ _ ?_ ?_
  · intro x
    obtain ⟨p, q, rfl⟩ : ∃ (p : Fin 512) (q : Fin 64), x = ix2 p q := ⟨x 0, x 1, eq_ix2 x⟩
    rw [em]
    exact dif_pos q.isLt
  · intro i h
    refine dif_neg fun h1 => h (ix2 (i 0) (⟨(i 1).val, h1⟩ : Fin 64)) ?_
    exact (em (i 0) ⟨(i 1).val, h1⟩).trans (eq_ix2 i).symm

end Cert.KernelIdeal.Mla

end
-- ==== Proof.I.Places.lean ====
/-
  Whole buffers as their blocks: the block of every device, and back.
-/
module

public import proofs.«01_k».proof.Proof.I.Loads

@[expose] public section

noncomputable section

namespace Cert.KernelIdeal.Mla

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen
open Idealize.ShloMosaic.ValueIdx

variable {F : FTy → Type} [FloatOps F] [Named F]

local notation "𝕄" => MT nD τ sig Unit (Elt F) ℕ UU ℕ

variable (c : Dev nD)

theorem bigSep_fin7 (Φ : Fin 7 → sProp (MT nD τ sig Unit (Elt F) ℕ UU ℕ)) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

/-- A family over the devices is c's member and its peers' members. -/
theorem bigSep_dev (Φ : Dev nD → sProp (MT nD τ sig Unit (Elt F) ℕ UU ℕ)) :
    bigSep Finset.univ Φ = iprop(Φ c ∗ bigSep (Finset.univ : Finset (Fin 7)) fun i => Φ (peer c i)) := by
  rw [univ_peers c, bigSep_insert (not_mem_peers c), bigSep_map]
  rfl
theorem bigSep_slot (Φ : Fin 8 → sProp (MT nD τ sig Unit (Elt F) ℕ UU ℕ)) :
    bigSep Finset.univ Φ = iprop(Φ 0 ∗ bigSep (Finset.univ : Finset (Fin 7)) fun i => Φ i.succ) := by
  rw [Fin.univ_succ, Finset.cons_eq_insert, bigSep_insert (by simp), bigSep_map]
  rfl

/-! ## Which elements a block has -/

theorem mem_ca (d : Dev nD) (i : S512x1024.Idx) : i ∈ (caM d).view.set ↔ (i 1).val / 128 = d.val := by
  constructor
  · intro h
    obtain ⟨x, -, rfl⟩ := Finset.mem_map.mp h
    obtain ⟨p, q, rfl⟩ : ∃ (p : Fin 512) (q : Fin 128), x = ix2 p q := ⟨x 0, x 1, eq_ix2 x⟩
    rw [ca_emb]
    show (128 * d.val + q.val) / 128 = d.val
    omega
  · intro h
    have h1 : (i 1).val < 1024 := (i 1).isLt
    refine Finset.mem_map.mpr ⟨ix2 (i 0) (⟨(i 1).val % 128, Nat.mod_lt _ (by decide)⟩ : Fin 128), Finset.mem_univ _, (ca_emb d _ _).trans ?_⟩
    refine (congrArg (ix2 (i 0)) (Fin.ext ?_)).trans (eq_ix2 i).symm
    show 128 * d.val + (i 1).val % 128 = (i 1).val
    omega

theorem mem_rows (E : S64x128.Idx ↪ S1024x128.Idx) (d : Dev nD) (hE : ∀ p q, E (ix2 p q) = ix2 (row d p) q) (i : S1024x128.Idx) :
    i ∈ Finset.univ.map E ↔ (i 0).val / 128 = d.val ∧ (i 0).val % 128 < 64 := by
  constructor
  · intro h
    obtain ⟨x, -, rfl⟩ := Finset.mem_map.mp h
    obtain ⟨p, q, rfl⟩ : ∃ (p : Fin 64) (q : Fin 128), x = ix2 p q := ⟨x 0, x 1, eq_ix2 x⟩
    rw [hE]
    show (128 * d.val + p.val) / 128 = d.val ∧ (128 * d.val + p.val) % 128 < 64
    omega
  · rintro ⟨h, h'⟩
    have h1 : (i 0).val < 1024 := (i 0).isLt
    refine Finset.mem_map.mpr ⟨ix2 (⟨(i 0).val % 128, h'⟩ : Fin 64) (i 1), Finset.mem_univ _, (hE _ _).trans ?_⟩
    refine (congrArg (fun t => ix2 t (i 1)) (Fin.ext ?_)).trans (eq_ix2 i).symm
    show 128 * d.val + (i 0).val % 128 = (i 0).val
    omega
theorem mem_ka (d : Dev nD) (i : S1024x128.Idx) : i ∈ (kaM d).view.set ↔ (i 0).val / 128 = d.val ∧ (i 0).val % 128 < 64 := mem_rows (kaM d).view.emb d (ka_emb d) i
theorem mem_va (d : Dev nD) (i : S1024x128.Idx) : i ∈ (vaM d).view.set ↔ (i 0).val / 128 = d.val ∧ (i 0).val % 128 < 64 := mem_rows (vaM d).view.emb d (va_emb d) i

theorem mem_cuts (E : S64x128.Idx ↪ S8x64x128.Idx) (d : Dev nD) (hE : ∀ p q, E (ix2 p q) = ix3 d p q) (i : S8x64x128.Idx) : i ∈ Finset.univ.map E ↔ i 0 = d := by
  constructor
  · intro h
    obtain ⟨x, -, rfl⟩ := Finset.mem_map.mp h
    obtain ⟨p, q, rfl⟩ : ∃ (p : Fin 64) (q : Fin 128), x = ix2 p q := ⟨x 0, x 1, eq_ix2 x⟩
    rw [hE]
  · rintro rfl
    exact Finset.mem_map.mpr ⟨ix2 (i 1) (i 2), Finset.mem_univ _, (hE _ _).trans (eq_ix3 i).symm⟩
theorem mem_ks (d : Dev nD) (i : S8x64x128.Idx) : i ∈ (ksM d).view.set ↔ i 0 = d := mem_cuts (ksM d).view.emb d (ks_emb d) i
theorem mem_vs (d : Dev nD) (i : S8x64x128.Idx) : i ∈ (vsM d).view.set ↔ i 0 = d := mem_cuts (vsM d).view.emb d (vs_emb d) i

theorem mem_og (d : Fin 8) (i : S8x512x128.Idx) : i ∈ (ogM d).view.set ↔ i 0 = d := by
  constructor
  · intro h
    obtain ⟨x, -, rfl⟩ := Finset.mem_map.mp h
    obtain ⟨p, q, rfl⟩ : ∃ (p : Fin 512) (q : Fin 128), x = ix2 p q := ⟨x 0, x 1, eq_ix2 x⟩
    rw [og_emb]
  · rintro rfl
    exact Finset.mem_map.mpr ⟨ix2 (i 1) (i 2), Finset.mem_univ _, (og_emb _ _ _).trans (eq_ix3 i).symm⟩

/-! ## A buffer as its blocks -/

/-- A buffer cut into disjoint parts that cover it. -/
theorem cut_pts {b : Ref sig .tc} {T : Type} [Fintype T] [DecidableEq T] (q : PosShare TreeShare) (f : Buf (Elt F) ((c : Thread nD τ).loc b)) (S : T → Finset (Idx ((c : Thread nD τ).loc b)))
    (key : Idx ((c : Thread nD τ).loc b) → T) (hm : ∀ t i, i ∈ S t ↔ key i = t) :
    (own (Memref.whole b) c q f : sProp 𝕄) = bigSep (Finset.univ : Finset T) fun t => (c : Thread nD τ).loc b ↦[S t]{q} f := by
  rw [← pointsTo_biUnion]
  · refine congrArg (fun s => ((c : Thread nD τ).loc b ↦[s]{q} f : sProp 𝕄)) ?_
    rw [View.set_whole]
    ext i
    exact ⟨fun _ => Finset.mem_biUnion.mpr ⟨key i, Finset.mem_univ _, (hm _ _).mpr rfl⟩, fun _ => Finset.mem_univ _⟩
  · intro t _ t' _ h
    exact Finset.disjoint_left.mpr fun i h1 h2 => h (((hm _ _).mp h1).symm.trans ((hm _ _).mp h2))

theorem blocks_ca (q : PosShare TreeShare) (f : FVec F S512x1024 .bf16) :
    (own (Memref.whole cc0_scratch1) c q f : sProp 𝕄) = iprop(own (caM c) c q f ∗ bigSep (Finset.univ : Finset (Fin 7)) fun i => own (caM (peer c i)) c q f) := by
  refine (cut_pts c (b := cc0_scratch1) (T := Dev nD) q f (fun d => (caM d).view.set)
    (fun i : S512x1024.Idx => (⟨(i 1).val / 128, by have h : (i 1).val < 1024 := (i 1).isLt; show _ < 8; omega⟩ : Dev nD)) fun t i => ?_).trans (bigSep_dev c _)
  exact (mem_ca t i).trans ⟨fun h => Fin.ext h, fun h => congrArg Fin.val h⟩

theorem blocks_ks (q : PosShare TreeShare) (f : FVec F S8x64x128 .bf16) :
    (own (Memref.whole cc0_scratch2) c q f : sProp 𝕄) = iprop(own (ksM c) c q f ∗ bigSep (Finset.univ : Finset (Fin 7)) fun i => own (ksM (peer c i)) c q f) :=
  (cut_pts c (b := cc0_scratch2) (T := Dev nD) q f (fun d => (ksM d).view.set) (fun i : S8x64x128.Idx => (i 0 : Fin 8)) fun t i => mem_ks t i).trans (bigSep_dev c _)
theorem blocks_vs (q : PosShare TreeShare) (f : FVec F S8x64x128 .bf16) :
    (own (Memref.whole cc0_scratch3) c q f : sProp 𝕄) = iprop(own (vsM c) c q f ∗ bigSep (Finset.univ : Finset (Fin 7)) fun i => own (vsM (peer c i)) c q f) :=
  (cut_pts c (b := cc0_scratch3) (T := Dev nD) q f (fun d => (vsM d).view.set) (fun i : S8x64x128.Idx => (i 0 : Fin 8)) fun t i => mem_vs t i).trans (bigSep_dev c _)
theorem blocks_og (q : PosShare TreeShare) (f : FVec F S8x512x128 .bf16) :
    (own (Memref.whole cc0_scratch11) c q f : sProp 𝕄) = iprop(own (ogM 0) c q f ∗ bigSep (Finset.univ : Finset (Fin 7)) fun i => own (ogM i.succ) c q f) :=
  (cut_pts c (b := cc0_scratch11) (T := Fin 8) q f (fun d => (ogM d).view.set) (fun i : S8x512x128.Idx => (i 0 : Fin 8)) fun t i => mem_og t i).trans (bigSep_slot _)

/-- The rows of a gathered up-projection that no device writes after the zero fill. -/
def pad : Finset S1024x128.Idx := Finset.univ.filter fun i => ¬ (i 0).val % 128 < 64

/-- The block of a row of a gathered up-projection, if it has one. -/
def rowKey (i : S1024x128.Idx) : Option (Dev nD) :=
  if (i 0).val % 128 < 64 then some (⟨(i 0).val / 128, by have h : (i 0).val < 1024 := (i 0).isLt; show _ < 8; omega⟩ : Dev nD) else none

theorem rowKey_some (d : Dev nD) (i : S1024x128.Idx) : rowKey i = some d ↔ (i 0).val / 128 = d.val ∧ (i 0).val % 128 < 64 := by
  unfold rowKey
  by_cases h : (i 0).val % 128 < 64
  · rw [if_pos h]
    exact ⟨fun e => ⟨congrArg Fin.val (Option.some.inj e), h⟩, fun e => congrArg some (Fin.ext e.1)⟩
  · rw [if_neg h]
    exact ⟨fun e => (nomatch e), fun e => absurd e.2 h⟩
theorem rowKey_none (i : S1024x128.Idx) : rowKey i = none ↔ i ∈ pad := by
  unfold rowKey pad
  rw [Finset.mem_filter]
  by_cases h : (i 0).val % 128 < 64
  · rw [if_pos h]; exact ⟨fun e => (nomatch e), fun e => absurd h e.2⟩
  · rw [if_neg h]; exact ⟨fun _ => ⟨Finset.mem_univ _, h⟩, fun _ => rfl⟩

theorem bigSep_option (Φ : Option (Dev nD) → sProp (MT nD τ sig Unit (Elt F) ℕ UU ℕ)) :
    bigSep Finset.univ Φ = iprop(Φ none ∗ Φ (some c) ∗ bigSep (Finset.univ : Finset (Fin 7)) fun i => Φ (some (peer c i))) := by
  rw [show (Finset.univ : Finset (Option (Dev nD))) = insert none (Finset.univ.map Function.Embedding.some) from by decide, bigSep_insert (by simp), bigSep_map,
    bigSep_dev c]
  rfl

theorem blocks_ka (q : PosShare TreeShare) (f : FVec F S1024x128 .bf16) :
    (own (Memref.whole cc0_scratch4) c q f : sProp 𝕄)
      = iprop(((c : Thread nD τ).loc cc0_scratch4 ↦[pad]{q} f) ∗ own (kaM c) c q f ∗ bigSep (Finset.univ : Finset (Fin 7)) fun i => own (kaM (peer c i)) c q f) :=
  (cut_pts c (b := cc0_scratch4) (T := Option (Dev nD)) q f (fun o => o.elim pad fun d => (kaM d).view.set) rowKey fun t i => by
    cases t
    · exact (rowKey_none i).symm
    · exact (mem_ka _ i).trans (rowKey_some _ i).symm).trans (bigSep_option c _)
theorem blocks_va (q : PosShare TreeShare) (f : FVec F S1024x128 .bf16) :
    (own (Memref.whole cc0_scratch5) c q f : sProp 𝕄)
      = iprop(((c : Thread nD τ).loc cc0_scratch5 ↦[pad]{q} f) ∗ own (vaM c) c q f ∗ bigSep (Finset.univ : Finset (Fin 7)) fun i => own (vaM (peer c i)) c q f) :=
  (cut_pts c (b := cc0_scratch5) (T := Option (Dev nD)) q f (fun o => o.elim pad fun d => (vaM d).view.set) rowKey fun t i => by
    cases t
    · exact (rowKey_none i).symm
    · exact (mem_va _ i).trans (rowKey_some _ i).symm).trans (bigSep_option c _)

theorem bigSep_sep_join {T : Type} (s : Finset T) (Φ Ψ : T → sProp (MT nD τ sig Unit (Elt F) ℕ UU ℕ)) :
    iprop(bigSep s Φ ∗ bigSep s Ψ) ⊢ bigSep s fun i => iprop(Φ i ∗ Ψ i) := Entails.of_eq (bigSep_sep (s := s) (Φ := Φ) (Ψ := Ψ)).symm

/-- The landing places of one peer's four copies. -/
def places (i : Fin 7) : sProp 𝕄 := iprop(landAny (F := F) c 0 i ∗ landAny (F := F) c 1 i ∗ landAny (F := F) c 2 i ∗ landAny (F := F) c 3 i)
/-- What c keeps of the buffers its peers write into. -/
def kept : sProp 𝕄 := iprop(anyOwn (F := F) (caM c) c ∗ anyOwn (F := F) (kaM c) c ∗ anyOwn (F := F) (vaM c) c ∗ anyOwn (F := F) (ogM 0) c
  ∗ ((c : Thread nD τ).loc cc0_scratch4 ↦[pad]{fullShare} (k0_pay2 : FVec F S1024x128 .bf16)) ∗ ((c : Thread nD τ).loc cc0_scratch5 ↦[pad]{fullShare} (k0_pay3 : FVec F S1024x128 .bf16)))

theorem own_any {sp : Space} {s : Shape} {e : EltTy} (M : Memref sig .tc sp s e) (f : Buf (Elt F) (M.view.loc (c : Thread nD τ))) : own M c fullShare f ⊢ anyOwn (F := F) M c := by
  unfold anyOwn
  iintro H
  iexists f
  iexact H

/-- The four buffers the peers write into, after the zero fill, as their landing places. -/
theorem split_places (f : FVec F S512x1024 .bf16) (g : FVec F S8x512x128 .bf16) :
    iprop(own (Memref.whole cc0_scratch1) c fullShare f ∗ own (Memref.whole cc0_scratch4) c fullShare (k0_pay2 : FVec F S1024x128 .bf16)
        ∗ own (Memref.whole cc0_scratch5) c fullShare (k0_pay3 : FVec F S1024x128 .bf16) ∗ own (Memref.whole cc0_scratch11) c fullShare g)
      ⊢ iprop(kept (F := F) c ∗ bigSep (Finset.univ : Finset (Fin 7)) fun i => places (F := F) c i) := by
  rw [blocks_ca, blocks_ka, blocks_va, blocks_og]
  unfold kept places
  iintro ⟨⟨A, AS⟩, ⟨KP, B, BS⟩, ⟨VP, C, CS⟩, D, DS⟩
  ihave A := own_any c (caM c) f $$ A
  ihave B := own_any c (kaM c) _ $$ B
  ihave C := own_any c (vaM c) _ $$ C
  ihave D := own_any c (ogM 0) g $$ D
  isplitl [A B C D KP VP]
  · iframe
  ihave CS := (bigSep_sep_join _ _ _) $$ [CS DS]
  · iframe
  ihave BS := (bigSep_sep_join _ _ _) $$ [BS CS]
  · iframe
  ihave AS := (bigSep_sep_join _ _ _) $$ [AS BS]
  · iframe
  have h : (bigSep (Finset.univ : Finset (Fin 7)) fun i => iprop(own (caM (peer c i)) c fullShare f ∗ own (kaM (peer c i)) c fullShare (k0_pay2 : FVec F S1024x128 .bf16)
        ∗ own (vaM (peer c i)) c fullShare (k0_pay3 : FVec F S1024x128 .bf16) ∗ own (ogM i.succ) c fullShare g))
      ⊢ bigSep (Finset.univ : Finset (Fin 7)) fun i => iprop(landAny (F := F) c 0 i ∗ landAny (F := F) c 1 i ∗ landAny (F := F) c 2 i ∗ landAny (F := F) c 3 i) :=
    bigSep_mono fun i _ => BI.sep_mono (own_any c (caM (peer c i)) f) (BI.sep_mono (own_any c (kaM (peer c i)) _) (BI.sep_mono (own_any c (vaM (peer c i)) _) (own_any c (ogM i.succ) g)))
  iapply h
  iexact AS

end Cert.KernelIdeal.Mla

end
-- ==== Proof.I.Body0.lean ====
/-
  The kernel's first half, part by part: zero fill, barrier, the device's own blocks.
-/
module

public import proofs.«01_k».proof.Proof.I.Places

@[expose] public section

noncomputable section

namespace Cert.KernelIdeal.Mla

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen
open Idealize.ShloMosaic.ValueIdx

variable {F : FTy → Type} [FloatOps F] [Named F]

local notation "𝕄" => MT nD τ sig Unit (Elt F) ℕ UU ℕ

variable (I : Ins F) (K : GSem nD τ sig → ℕ) (c : Dev nD)

theorem z2 : (![0, 0] : Fin 2 → ℕ) = fun _ => 0 := by decide
theorem z3 : (![0, 0, 0] : Fin 3 → ℕ) = fun _ => 0 := by decide

/-- What c needs for its signal to peer i, apart from the landing places. -/
def sigTok (i : Fin 7) : sProp 𝕄 :=
  iprop(dutyTok ER (barCell (peer c i)) 0 i ∗ (reached ER (recvCell c 0 i) 0 ∗ reached ER (recvCell c 1 i) 0 ∗ reached ER (recvCell c 2 i) 0 ∗ reached ER (recvCell c 3 i) 0))

/-- The places of the peers after the first two. -/
def places2 : sProp 𝕄 := iprop(places (F := F) c 2 ∗ places (F := F) c 3 ∗ places (F := F) c 4 ∗ places (F := F) c 5 ∗ places (F := F) c 6)

theorem part1_run (f1 : FVec F S512x1024 .bf16) (f4 f5 : FVec F S1024x128 .bf16) (g : FVec F S8x512x128 .bf16)
    (Kt : (Σ' (d0 : Dev nD) (v2 : BitVec 32), Sems sig S_) → sProp (MT nD τ sig Unit (Elt F) ℕ UU ℕ)) :
    iprop((recs I K ∗ own (Memref.whole cc0_scratch1) c fullShare f1 ∗ own (Memref.whole cc0_scratch4) c fullShare f4 ∗ own (Memref.whole cc0_scratch5) c fullShare f5
        ∗ own (Memref.whole cc0_scratch11) c fullShare g ∗ sigTok (F := F) c 0 ∗ sigTok (F := F) c 1 ∗ Owe c 0)
        ∗ (∀ v2, kept (F := F) c ∗ places2 (F := F) c ∗ Owe c 2 -∗ Kt ⟨c, v2, SemArray.scalar (sig.barrier 0 rfl)⟩))
      ⊢ wp frame (wpE (defs₀ (F := F)) 𝒱₀ (c : Thread nD τ) none) Set.univ (app (k0_part1 (F := F))) Kt := by
  simp only [app, k0_part1_eq_skeleton]; unfold k0_part1_skel
  simp only [Prog.lift, Prog.bind_op, Prog.bind_ret, Prog.pure_eq_ret, semSignalWord, semWaitWord, wp_deviceId]
  unfold sigTok
  iintro ⟨⟨#HR, A, B, C, D, ⟨T0, R0⟩, ⟨T1, R1⟩, HO⟩, Hk⟩
  iapply (wp_ld c f1 (Memref.read_access_unit_zero _ _ z2 _ _)) $$ [A]
  · iframe
  iintro A
  iapply (wp_st c (k0_pay1 : FVec F S512x1024 .bf16) (Memref.write_access_unit_zero_univ _ _ z2 _ _ _)) $$ [A]
  · iframe
  iintro A
  iapply (wp_ld c f4 (Memref.read_access_unit_zero _ _ z2 _ _)) $$ [B]
  · iframe
  iintro B
  iapply (wp_st c (k0_pay2 : FVec F S1024x128 .bf16) (Memref.write_access_unit_zero_univ _ _ z2 _ _ _)) $$ [B]
  · iframe
  iintro B
  iapply (wp_ld c f5 (Memref.read_access_unit_zero _ _ z2 _ _)) $$ [C]
  · iframe
  iintro C
  iapply (wp_st c (k0_pay3 : FVec F S1024x128 .bf16) (Memref.write_access_unit_zero_univ _ _ z2 _ _ _)) $$ [C]
  · iframe
  iintro C
  ihave H := (split_places c _ g) $$ [A B C D]
  · iframe
  icases H with ⟨HK, HP⟩
  ihave HP := (Entails.of_eq (bigSep_fin7 _)) $$ HP
  icases HP with ⟨P0, P1, P⟩
  unfold places
  iapply (wp_sig I K c 0 _ (dev1_eq c) 0 rfl rfl) $$ [T0 R0 P0 HO]
  · iframe ∗ #
  iintro HO
  iapply (wp_sig I K c 1 _ (dev2_eq c) 1 rfl rfl) $$ [T1 R1 P1 HO]
  · iframe ∗ #
  iintro HO
  rw [wp_ret]; imodintro; iapply Hk; unfold places2 places; iframe

/-- What the barrier hands over: the landing places on the peers. -/
def slots : sProp 𝕄 := bigSep (Finset.univ : Finset (Fin 7)) fun i => iprop(slot (F := F) c 0 i ∗ slot (F := F) c 1 i ∗ slot (F := F) c 2 i ∗ slot (F := F) c 3 i)

theorem part2_run (v2 : BitVec 32) (f0 : FVec F S512x128 .bf16) (Kt : (Σ' (v45 : FVec F S512x1024 .bf16), FVec F S1024x64 .bf16) → sProp (MT nD τ sig Unit (Elt F) ℕ UU ℕ)) :
    iprop((recs I K ∗ places2 (F := F) c ∗ (sigTok (F := F) c 2 ∗ sigTok (F := F) c 3 ∗ sigTok (F := F) c 4 ∗ sigTok (F := F) c 5 ∗ sigTok (F := F) c 6)
        ∗ (cred (tallyAt (barCell c) () 7) ∗ atPos ER (barCell c) 0 ∅ 0) ∗ own (Memref.whole cc0_stg0_0) c fullShare (I.x c) ∗ own (Memref.whole cc0_stg1_0) c fullShare (I.wd c)
        ∗ own clM c fullShare f0 ∗ Owe c 2)
        ∗ (past (F := F) c (.reg barS) ∗ slots (F := F) c ∗ own (Memref.whole cc0_stg0_0) c fullShare (I.x c) ∗ own (Memref.whole cc0_stg1_0) c fullShare (I.wd c)
          ∗ own clM c fullShare (k0_pay5 : FVec F S512x128 .bf16) ∗ Owe c 7 -∗ Kt ⟨k0_pay4 (I.x c), k0_pay6 (I.wd c)⟩))
      ⊢ wp frame (wpE (defs₀ (F := F)) 𝒱₀ (c : Thread nD τ) none) Set.univ (app (k0_part2 (F := F)) c v2 (SemArray.scalar (sig.barrier 0 rfl))) Kt := by
  simp only [app, k0_part2_eq_skeleton]; unfold k0_part2_skel
  simp only [Prog.lift, Prog.bind_op, Prog.bind_ret, Prog.pure_eq_ret, semSignalWord, semWaitWord]
  unfold sigTok places2 places
  iintro ⟨⟨#HR, ⟨P2, P3, P4, P5, P6⟩, ⟨⟨T2, R2⟩, ⟨T3, R3⟩, ⟨T4, R4⟩, ⟨T5, R5⟩, ⟨T6, R6⟩⟩, ⟨HC, HA⟩, X, W, C, HO⟩, Hk⟩
  iapply (wp_sig I K c 2 _ (dev3_eq c) 2 rfl rfl) $$ [T2 R2 P2 HO]
  · iframe ∗ #
  iintro HO
  iapply (wp_sig I K c 3 _ (dev4_eq c) 3 rfl rfl) $$ [T3 R3 P3 HO]
  · iframe ∗ #
  iintro HO
  iapply (wp_sig I K c 4 _ (dev5_eq c) 4 rfl rfl) $$ [T4 R4 P4 HO]
  · iframe ∗ #
  iintro HO
  iapply (wp_sig I K c 5 _ (dev6_eq c) 5 rfl rfl) $$ [T5 R5 P5 HO]
  · iframe ∗ #
  iintro HO
  iapply (wp_sig I K c 6 _ (dev7_eq c) 6 rfl rfl) $$ [T6 R6 P6 HO]
  · iframe ∗ #
  iintro HO
  iapply (wp_bar I K c rfl) $$ [HC HA HO]
  · iframe ∗ #
  iintro ⟨HO, HB, HP⟩
  ihave HP := (slots_of_bar c) $$ HP
  iapply (wp_ld c (I.x c) (Memref.read_access_unit_zero _ _ z2 _ _)) $$ [X]
  · iframe
  iintro X
  iapply (wp_ld c f0 (Memref.read_access_unit_zero _ _ z2 _ _)) $$ [C]
  · iframe
  iintro C
  iapply (wp_st c (k0_pay5 : FVec F S512x128 .bf16) (Memref.write_access_unit_zero_univ _ _ z2 _ _ _)) $$ [C]
  · iframe
  iintro C
  iapply (wp_ld c (I.wd c) (Memref.read_access_unit_zero _ _ z2 _ _)) $$ [W]
  · iframe
  iintro W
  rw [wp_ret]; imodintro; iapply Hk; unfold slots; iframe

end Cert.KernelIdeal.Mla

end
-- ==== Proof.I.Body1.lean ====
/-
  The kernel's first half, part by part: cutting the up-projections, and the copies of the first three kinds.
-/
module

public import proofs.«01_k».proof.Proof.I.Body0

@[expose] public section

noncomputable section

namespace Cert.KernelIdeal.Mla

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen
open Idealize.ShloMosaic.ValueIdx

variable {F : FTy → Type} [FloatOps F] [Named F]

local notation "𝕄" => MT nD τ sig Unit (Elt F) ℕ UU ℕ

variable (I : Ins F) (K : GSem nD τ sig → ℕ) (c : Dev nD)

/-! ## Cutting the up-projections into slots -/

theorem cast_slot (w : FVec F S64x128 .bf16) (p : Fin 64) (q : Fin 128) :
    shapeCast S1x64x128 (shapeCast S64x128 w shapeCasts_S64x128_S64x128) shapeCasts_S64x128_S1x64x128 (ix3 (0 : Fin 1) p q) = w (ix2 p q) := by
  rw [shapeCast_self]
  exact shapeCast_ab_1ab_apply _ _ _ _ _

abbrev ukM : Memref sig .tc (.core .vmem) S64x1024 .bf16 := Memref.whole cc0_stg2_0
abbrev uvM : Memref sig .tc (.core .vmem) S64x1024 .bf16 := Memref.whole cc0_stg3_0
abbrev ukS : Memref sig .tc (.core .vmem) S8x64x128 .bf16 := Memref.whole cc0_scratch2
abbrev uvS : Memref sig .tc (.core .vmem) S8x64x128 .bf16 := Memref.whole cc0_scratch3

section
variable {α : Type} {Q : α → sProp (MT nD τ sig Unit (Elt F) ℕ UU ℕ)} {k : PUnit → Prog (TpuEff nD τ sig (Elt F) Λ₀ .tc) α}

/-- Slot n of the key up-projections to send: its columns are loaded, the slot is read, and the columns are stored there. -/
theorem wp_fillK (n : ℕ) (hn : n < 8) {o : Fin 2 → ℕ} (ho : o = ![0, 128 * n]) {o' : Fin 3 → ℕ} (ho' : o' = ![n, 0, 0]) (pay : FVec F S64x128 .bf16 → FVec F S1x64x128 .bf16)
    (hp : ∀ w p q, pay w (ix3 (0 : Fin 1) p q) = w (ix2 p q)) (f : FVec F S8x64x128 .bf16) {i1 : ∀ a, o a + S64x128.size a ≤ S64x1024.size a} {i2 : ∀ a, o' a + S1x64x128.size a ≤ S8x64x128.size a}
    {h1 : ukM.view.LoadsAt (Rect.unit (s := S64x1024) o S64x128.size i1).toLoadRect} {h2 : ukS.view.LoadsAt (Rect.unit (s := S8x64x128) o' S1x64x128.size i2).toLoadRect}
    {h3 : (ukS.access (Rect.unit (s := S8x64x128) o' S1x64x128.size i2)).Stores Finset.univ} {h4 : (Finset.univ : Finset (Rect.unit (s := S8x64x128) o' S1x64x128.size i2).shape.Idx) = Finset.univ ∨ ∀ a, (Rect.unit (s := S8x64x128) o' S1x64x128.size i2).stride a = 1} :
    iprop(own (Memref.whole cc0_stg2_0) c fullShare (I.uk c) ∗ own (Memref.whole cc0_scratch2) c fullShare (upto n (I.uk c) f))
      ⊢ iprop(((own (Memref.whole cc0_stg2_0) c fullShare (I.uk c) ∗ own (Memref.whole cc0_scratch2) c fullShare (upto (n + 1) (I.uk c) f))
            -∗ wp frame (wpE (defs₀ (F := F)) 𝒱₀ (c : Thread nD τ) none) Set.univ (k ⟨⟩) Q)
          -∗ wp frame (wpE (defs₀ (F := F)) 𝒱₀ (c : Thread nD τ) none) Set.univ
              ((.op (.load (e := .bf16) ukM (Rect.unit (s := S64x1024) o S64x128.size i1).toLoadRect h1) fun v : FVec F S64x128 .bf16 =>
                .op (.load ukS (Rect.unit (s := S8x64x128) o' S1x64x128.size i2).toLoadRect h2) fun _ =>
                .op (.store ukS (Rect.unit (s := S8x64x128) o' S1x64x128.size i2) (pay v) Finset.univ h3 h4) k : Prog (TpuEff nD τ sig (Elt F) Λ₀ .tc) α)) Q) := by
  subst ho ho'
  iintro ⟨U, S⟩ Hk
  iapply (wp_ld c (blk (I.uk c) ⟨n, hn⟩) (blk_load (I.uk c) ⟨n, hn⟩)) $$ [U]
  · iframe
  iintro U
  iapply (wp_ld c _ rfl) $$ [S]
  · iframe
  iintro S
  iapply (wp_st c (upto (n + 1) (I.uk c) f) (fillK ⟨n, hn⟩ (I.uk c) f _ fun p q => hp _ p q)) $$ [S]
  · iframe
  iintro S
  iapply Hk
  iframe
/-- Slot n of the value up-projections to send, likewise. -/
theorem wp_fillV (n : ℕ) (hn : n < 8) {o : Fin 2 → ℕ} (ho : o = ![0, 128 * n]) {o' : Fin 3 → ℕ} (ho' : o' = ![n, 0, 0]) (pay : FVec F S64x128 .bf16 → FVec F S1x64x128 .bf16)
    (hp : ∀ w p q, pay w (ix3 (0 : Fin 1) p q) = w (ix2 p q)) (f : FVec F S8x64x128 .bf16) {i1 : ∀ a, o a + S64x128.size a ≤ S64x1024.size a} {i2 : ∀ a, o' a + S1x64x128.size a ≤ S8x64x128.size a}
    {h1 : uvM.view.LoadsAt (Rect.unit (s := S64x1024) o S64x128.size i1).toLoadRect} {h2 : uvS.view.LoadsAt (Rect.unit (s := S8x64x128) o' S1x64x128.size i2).toLoadRect}
    {h3 : (uvS.access (Rect.unit (s := S8x64x128) o' S1x64x128.size i2)).Stores Finset.univ} {h4 : (Finset.univ : Finset (Rect.unit (s := S8x64x128) o' S1x64x128.size i2).shape.Idx) = Finset.univ ∨ ∀ a, (Rect.unit (s := S8x64x128) o' S1x64x128.size i2).stride a = 1} :
    iprop(own (Memref.whole cc0_stg3_0) c fullShare (I.uv c) ∗ own (Memref.whole cc0_scratch3) c fullShare (upto n (I.uv c) f))
      ⊢ iprop(((own (Memref.whole cc0_stg3_0) c fullShare (I.uv c) ∗ own (Memref.whole cc0_scratch3) c fullShare (upto (n + 1) (I.uv c) f))
            -∗ wp frame (wpE (defs₀ (F := F)) 𝒱₀ (c : Thread nD τ) none) Set.univ (k ⟨⟩) Q)
          -∗ wp frame (wpE (defs₀ (F := F)) 𝒱₀ (c : Thread nD τ) none) Set.univ
              ((.op (.load (e := .bf16) uvM (Rect.unit (s := S64x1024) o S64x128.size i1).toLoadRect h1) fun v : FVec F S64x128 .bf16 =>
                .op (.load uvS (Rect.unit (s := S8x64x128) o' S1x64x128.size i2).toLoadRect h2) fun _ =>
                .op (.store uvS (Rect.unit (s := S8x64x128) o' S1x64x128.size i2) (pay v) Finset.univ h3 h4) k : Prog (TpuEff nD τ sig (Elt F) Λ₀ .tc) α)) Q) := by
  subst ho ho'
  iintro ⟨U, S⟩ Hk
  iapply (wp_ld c (blk (I.uv c) ⟨n, hn⟩) (blk_load (I.uv c) ⟨n, hn⟩)) $$ [U]
  · iframe
  iintro U
  iapply (wp_ld c _ rfl) $$ [S]
  · iframe
  iintro S
  iapply (wp_st c (upto (n + 1) (I.uv c) f) (fillV ⟨n, hn⟩ (I.uv c) f _ fun p q => hp _ p q)) $$ [S]
  · iframe
  iintro S
  iapply Hk
  iframe
end

/-- The staged up-projections and the slots of both, n of the first and m of the second filled. -/
def cuts (n m : ℕ) (f g : FVec F S8x64x128 .bf16) : sProp 𝕄 :=
  iprop(own (Memref.whole cc0_stg2_0) c fullShare (I.uk c) ∗ own (Memref.whole cc0_scratch2) c fullShare (upto n (I.uk c) f)
    ∗ own (Memref.whole cc0_stg3_0) c fullShare (I.uv c) ∗ own (Memref.whole cc0_scratch3) c fullShare (upto m (I.uv c) g))

theorem part3_run (f g : FVec F S8x64x128 .bf16) (Kt : FVec F S64x128 .bf16 → sProp (MT nD τ sig Unit (Elt F) ℕ UU ℕ)) :
    iprop((own clM c fullShare (k0_pay5 : FVec F S512x128 .bf16) ∗ cuts I c 0 0 f g)
        ∗ (own clM c fullShare (CL I c) ∗ cuts I c 2 2 f g -∗ Kt (k0_pay12 (blk (I.uk c) 2))))
      ⊢ wp frame (wpE (defs₀ (F := F)) 𝒱₀ (c : Thread nD τ) none) Set.univ (app (k0_part3 (F := F)) (k0_pay4 (I.x c)) (k0_pay6 (I.wd c))) Kt := by
  simp only [app, k0_part3_eq_skeleton]; unfold k0_part3_skel
  simp only [Prog.lift, Prog.bind_op, Prog.bind_ret, Prog.pure_eq_ret]
  unfold cuts
  iintro ⟨⟨C, UK, SK, UV, SV⟩, Hk⟩
  iapply (wp_ld c _ rfl) $$ [C]
  · iframe
  iintro C
  iapply (wp_st c (CL I c) (cl_store I c)) $$ [C]
  · iframe
  iintro C
  iapply (wp_fillK I c 0 (by decide) rfl rfl k0_pay8 (fun w p q => cast_slot w p q) f) $$ [UK SK]
  · iframe
  iintro ⟨UK, SK⟩
  iapply (wp_fillV I c 0 (by decide) rfl rfl k0_pay9 (fun w p q => cast_slot w p q) g) $$ [UV SV]
  · iframe
  iintro ⟨UV, SV⟩
  iapply (wp_fillK I c 1 (by decide) rfl rfl k0_pay10 (fun w p q => cast_slot w p q) f) $$ [UK SK]
  · iframe
  iintro ⟨UK, SK⟩
  iapply (wp_fillV I c 1 (by decide) rfl rfl k0_pay11 (fun w p q => cast_slot w p q) g) $$ [UV SV]
  · iframe
  iintro ⟨UV, SV⟩
  iapply (wp_ld c (blk (I.uk c) 2) (blk_load (I.uk c) 2)) $$ [UK]
  · iframe
  iintro UK
  rw [wp_ret]; imodintro; iapply Hk; iframe

theorem part4_run (f g : FVec F S8x64x128 .bf16) (Kt : PUnit → sProp (MT nD τ sig Unit (Elt F) ℕ UU ℕ)) :
    iprop(cuts I c 2 2 f g ∗ (cuts I c 5 5 f g -∗ Kt ⟨⟩))
      ⊢ wp frame (wpE (defs₀ (F := F)) 𝒱₀ (c : Thread nD τ) none) Set.univ (app (k0_part4 (F := F)) (k0_pay12 (blk (I.uk c) 2))) Kt := by
  simp only [app, k0_part4_eq_skeleton]; unfold k0_part4_skel
  simp only [Prog.lift, Prog.bind_op, Prog.bind_ret, Prog.pure_eq_ret]
  unfold cuts
  iintro ⟨⟨UK, SK, UV, SV⟩, Hk⟩
  iapply (wp_ld c _ rfl) $$ [SK]
  · iframe
  iintro SK
  iapply (wp_st c (upto 3 (I.uk c) f) (fillK ⟨2, by decide⟩ (I.uk c) f (k0_pay13 (k0_pay12 (blk (I.uk c) 2))) fun p q => cast_slot (blk (I.uk c) 2) p q)) $$ [SK]
  · iframe
  iintro SK
  iapply (wp_fillV I c 2 (by decide) rfl rfl k0_pay14 (fun w p q => cast_slot w p q) g) $$ [UV SV]
  · iframe
  iintro ⟨UV, SV⟩
  iapply (wp_fillK I c 3 (by decide) rfl rfl k0_pay15 (fun w p q => cast_slot w p q) f) $$ [UK SK]
  · iframe
  iintro ⟨UK, SK⟩
  iapply (wp_fillV I c 3 (by decide) rfl rfl k0_pay16 (fun w p q => cast_slot w p q) g) $$ [UV SV]
  · iframe
  iintro ⟨UV, SV⟩
  iapply (wp_fillK I c 4 (by decide) rfl rfl k0_pay17 (fun w p q => cast_slot w p q) f) $$ [UK SK]
  · iframe
  iintro ⟨UK, SK⟩
  iapply (wp_fillV I c 4 (by decide) rfl rfl k0_pay18 (fun w p q => cast_slot w p q) g) $$ [UV SV]
  · iframe
  iintro ⟨UV, SV⟩
  rw [wp_ret]; imodintro; iapply Hk; iframe

theorem part5_run (f g : FVec F S8x64x128 .bf16) (Kt : FVec F S64x128 .bf16 → sProp (MT nD τ sig Unit (Elt F) ℕ UU ℕ)) :
    iprop(cuts I c 5 5 f g ∗ (cuts I c 8 7 f g -∗ Kt (k0_pay24 (blk (I.uv c) 7))))
      ⊢ wp frame (wpE (defs₀ (F := F)) 𝒱₀ (c : Thread nD τ) none) Set.univ (app (k0_part5 (F := F))) Kt := by
  simp only [app, k0_part5_eq_skeleton]; unfold k0_part5_skel
  simp only [Prog.lift, Prog.bind_op, Prog.bind_ret, Prog.pure_eq_ret]
  unfold cuts
  iintro ⟨⟨UK, SK, UV, SV⟩, Hk⟩
  iapply (wp_fillK I c 5 (by decide) rfl rfl k0_pay19 (fun w p q => cast_slot w p q) f) $$ [UK SK]
  · iframe
  iintro ⟨UK, SK⟩
  iapply (wp_fillV I c 5 (by decide) rfl rfl k0_pay20 (fun w p q => cast_slot w p q) g) $$ [UV SV]
  · iframe
  iintro ⟨UV, SV⟩
  iapply (wp_fillK I c 6 (by decide) rfl rfl k0_pay21 (fun w p q => cast_slot w p q) f) $$ [UK SK]
  · iframe
  iintro ⟨UK, SK⟩
  iapply (wp_fillV I c 6 (by decide) rfl rfl k0_pay22 (fun w p q => cast_slot w p q) g) $$ [UV SV]
  · iframe
  iintro ⟨UV, SV⟩
  iapply (wp_fillK I c 7 (by decide) rfl rfl k0_pay23 (fun w p q => cast_slot w p q) f) $$ [UK SK]
  · iframe
  iintro ⟨UK, SK⟩
  iapply (wp_ld c (blk (I.uv c) 7) (blk_load (I.uv c) 7)) $$ [UV]
  · iframe
  iintro UV
  rw [wp_ret]; imodintro; iapply Hk; iframe

/-! ## The copies -/

/-- What c's copy of kind b to peer i needs. -/
def sendPre (b : Fin 4) (i : Fin 7) : sProp 𝕄 := iprop(sendTok (F := F) c b i ∗ slot (F := F) c b i ∗ srcPts I c b i)
/-- The copies of the first three kinds to peer i, before and under way. -/
def sendPre3 (i : Fin 7) : sProp 𝕄 := iprop(sendPre I c 0 i ∗ sendPre I c 1 i ∗ sendPre I c 2 i)
@[inherit_doc sendPre3] def flying3 (i : Fin 7) : sProp 𝕄 := iprop(flying (F := F) c 0 i ∗ flying (F := F) c 1 i ∗ flying (F := F) c 2 i)

theorem part6_run (v2 : BitVec 32) (g : FVec F S8x64x128 .bf16) (Kt : BitVec 32 → sProp (MT nD τ sig Unit (Elt F) ℕ UU ℕ)) :
    iprop((recs I K ∗ own (Memref.whole cc0_scratch3) c fullShare (upto 7 (I.uv c) g) ∗ (locTok (F := F) c 0 ∗ locTok (F := F) c 1 ∗ locTok (F := F) c 2)
        ∗ (anyOwn (F := F) (caM c) c ∗ anyOwn (F := F) (kaM c) c ∗ anyOwn (F := F) (vaM c) c) ∗ own clM c rest (CL I c) ∗ own (ksM c) c fullShare (cut (I.uk c)) ∗ sendPre I c 0 0 ∗ Owe c 7)
        ∗ (∀ v, (locFly (F := F) c 0 ∗ locFly (F := F) c 1 ∗ locFly (F := F) c 2) ∗ flying (F := F) c 0 0
          ∗ (bigSep (Finset.univ : Finset (Fin 7)) fun i => own (vsM (peer c i)) c fullShare (cut (I.uv c))) ∗ Owe c 8 -∗ Kt v))
      ⊢ wp frame (wpE (defs₀ (F := F)) 𝒱₀ (c : Thread nD τ) none) Set.univ (app (k0_part6 (F := F)) c v2 (k0_pay24 (blk (I.uv c) 7))) Kt := by
  simp only [app, k0_part6_eq_skeleton]; unfold k0_part6_skel
  simp only [Prog.lift, Prog.bind_op, Prog.bind_ret, Prog.pure_eq_ret]
  unfold sendPre
  iintro ⟨⟨#HR, SV, ⟨L0, L1, L2⟩, ⟨A, B, C⟩, CL, KS, ⟨T, P, S⟩, HO⟩, Hk⟩
  iapply (wp_ld c _ rfl) $$ [SV]
  · iframe
  iintro SV
  iapply (wp_st c (upto 8 (I.uv c) g) (fillV ⟨7, by decide⟩ (I.uv c) g (k0_pay25 (k0_pay24 (blk (I.uv c) 7))) fun p q => cast_slot (blk (I.uv c) 7) p q)) $$ [SV]
  · iframe
  iintro SV
  ihave SV := (Entails.of_eq ((congrArg (fun t => own (Memref.whole cc0_scratch3) c fullShare t) (upto_all (I.uv c) g)).trans (blocks_vs c _ _))) $$ SV
  icases SV with ⟨VS, SV⟩
  iapply (wp_copy0 I K c rfl) $$ [L0 A CL]
  · iframe ∗ #
  iintro L0
  iapply (wp_copy1 I K c rfl) $$ [L1 B KS]
  · iframe ∗ #
  iintro L1
  iapply (wp_copy2 I K c rfl) $$ [L2 C VS]
  · iframe ∗ #
  iintro L2
  iapply (wp_send0 I K c 0 7 rfl (dev8_eq c) rfl rfl) $$ [T P S HO]
  · iframe ∗ #
  iintro ⟨FL, HO⟩
  rw [wp_ret]; imodintro; iapply Hk; iframe

theorem part7_run (v2 v154 : BitVec 32) (Kt : BitVec 32 → sProp (MT nD τ sig Unit (Elt F) ℕ UU ℕ)) :
    iprop((recs I K ∗ sendPre I c 1 0 ∗ sendPre I c 2 0 ∗ Owe c 8) ∗ (∀ v, flying (F := F) c 1 0 ∗ flying (F := F) c 2 0 ∗ Owe c 10 -∗ Kt v))
      ⊢ wp frame (wpE (defs₀ (F := F)) 𝒱₀ (c : Thread nD τ) none) Set.univ (app (k0_part7 (F := F)) c v2 v154) Kt := by
  simp only [app, k0_part7_eq_skeleton]; unfold k0_part7_skel
  simp only [Prog.lift, Prog.bind_op, Prog.bind_ret, Prog.pure_eq_ret]
  unfold sendPre
  iintro ⟨⟨#HR, ⟨T1, L1, S1⟩, ⟨T2, L2, S2⟩, HO⟩, Hk⟩
  iapply (wp_send1 I K c 0 8 rfl (dev9_eq c) rfl rfl (off4_eq c 0)) $$ [T1 L1 S1 HO]
  · iframe ∗ #
  iintro ⟨F1, HO⟩
  iapply (wp_send2 I K c 0 9 rfl (dev10_eq c) rfl rfl (off4_eq c 0)) $$ [T2 L2 S2 HO]
  · iframe ∗ #
  iintro ⟨F2, HO⟩
  rw [wp_ret]; imodintro; iapply Hk; iframe

theorem part8_run (v2 v : BitVec 32) (Kt : BitVec 32 → sProp (MT nD τ sig Unit (Elt F) ℕ UU ℕ)) :
    iprop((recs I K ∗ sendPre3 I c 1 ∗ Owe c 10) ∗ (∀ v, flying3 (F := F) c 1 ∗ Owe c 13 -∗ Kt v))
      ⊢ wp frame (wpE (defs₀ (F := F)) 𝒱₀ (c : Thread nD τ) none) Set.univ (app (k0_part8 (F := F)) c v2 v) Kt := by
  simp only [app, k0_part8_eq_skeleton]; unfold k0_part8_skel
  simp only [Prog.lift, Prog.bind_op, Prog.bind_ret, Prog.pure_eq_ret]
  unfold sendPre3 flying3 sendPre
  iintro ⟨⟨#HR, ⟨⟨T0, L0, S0⟩, ⟨T1, L1, S1⟩, ⟨T2, L2, S2⟩⟩, HO⟩, Hk⟩
  iapply (wp_send0 I K c 1 10 rfl (dev11_eq c) rfl rfl) $$ [T0 L0 S0 HO]
  · iframe ∗ #
  iintro ⟨F0, HO⟩
  iapply (wp_send1 I K c 1 11 rfl (dev12_eq c) rfl rfl (off4_eq c 1)) $$ [T1 L1 S1 HO]
  · iframe ∗ #
  iintro ⟨F1, HO⟩
  iapply (wp_send2 I K c 1 12 rfl (dev13_eq c) rfl rfl (off4_eq c 1)) $$ [T2 L2 S2 HO]
  · iframe ∗ #
  iintro ⟨F2, HO⟩
  rw [wp_ret]; imodintro; iapply Hk; iframe

theorem part9_run (v2 v : BitVec 32) (Kt : BitVec 32 → sProp (MT nD τ sig Unit (Elt F) ℕ UU ℕ)) :
    iprop((recs I K ∗ sendPre3 I c 2 ∗ Owe c 13) ∗ (∀ v, flying3 (F := F) c 2 ∗ Owe c 16 -∗ Kt v))
      ⊢ wp frame (wpE (defs₀ (F := F)) 𝒱₀ (c : Thread nD τ) none) Set.univ (app (k0_part9 (F := F)) c v2 v) Kt := by
  simp only [app, k0_part9_eq_skeleton]; unfold k0_part9_skel
  simp only [Prog.lift, Prog.bind_op, Prog.bind_ret, Prog.pure_eq_ret]
  unfold sendPre3 flying3 sendPre
  iintro ⟨⟨#HR, ⟨⟨T0, L0, S0⟩, ⟨T1, L1, S1⟩, ⟨T2, L2, S2⟩⟩, HO⟩, Hk⟩
  iapply (wp_send0 I K c 2 13 rfl (dev14_eq c) rfl rfl) $$ [T0 L0 S0 HO]
  · iframe ∗ #
  iintro ⟨F0, HO⟩
  iapply (wp_send1 I K c 2 14 rfl (dev15_eq c) rfl rfl (off4_eq c 2)) $$ [T1 L1 S1 HO]
  · iframe ∗ #
  iintro ⟨F1, HO⟩
  iapply (wp_send2 I K c 2 15 rfl (dev16_eq c) rfl rfl (off4_eq c 2)) $$ [T2 L2 S2 HO]
  · iframe ∗ #
  iintro ⟨F2, HO⟩
  rw [wp_ret]; imodintro; iapply Hk; iframe

theorem part10_run (v2 v : BitVec 32) (Kt : (Σ' (v274 : BitVec 32), BitVec 32) → sProp (MT nD τ sig Unit (Elt F) ℕ UU ℕ)) :
    iprop((recs I K ∗ sendPre3 I c 3 ∗ Owe c 16) ∗ (∀ v, flying3 (F := F) c 3 ∗ Owe c 19 -∗ Kt v))
      ⊢ wp frame (wpE (defs₀ (F := F)) 𝒱₀ (c : Thread nD τ) none) Set.univ (app (k0_part10 (F := F)) c v2 v) Kt := by
  simp only [app, k0_part10_eq_skeleton]; unfold k0_part10_skel
  simp only [Prog.lift, Prog.bind_op, Prog.bind_ret, Prog.pure_eq_ret]
  unfold sendPre3 flying3 sendPre
  iintro ⟨⟨#HR, ⟨⟨T0, L0, S0⟩, ⟨T1, L1, S1⟩, ⟨T2, L2, S2⟩⟩, HO⟩, Hk⟩
  iapply (wp_send0 I K c 3 16 rfl (dev17_eq c) rfl rfl) $$ [T0 L0 S0 HO]
  · iframe ∗ #
  iintro ⟨F0, HO⟩
  iapply (wp_send1 I K c 3 17 rfl (dev18_eq c) rfl rfl (off4_eq c 3)) $$ [T1 L1 S1 HO]
  · iframe ∗ #
  iintro ⟨F1, HO⟩
  iapply (wp_send2 I K c 3 18 rfl (dev19_eq c) rfl rfl (off4_eq c 3)) $$ [T2 L2 S2 HO]
  · iframe ∗ #
  iintro ⟨F2, HO⟩
  rw [wp_ret]; imodintro; iapply Hk; iframe

theorem part11_run (v2 v w : BitVec 32) (Kt : BitVec 32 → sProp (MT nD τ sig Unit (Elt F) ℕ UU ℕ)) :
    iprop((recs I K ∗ sendPre3 I c 4 ∗ Owe c 19) ∗ (∀ v, flying3 (F := F) c 4 ∗ Owe c 22 -∗ Kt v))
      ⊢ wp frame (wpE (defs₀ (F := F)) 𝒱₀ (c : Thread nD τ) none) Set.univ (app (k0_part11 (F := F)) c v2 v w) Kt := by
  simp only [app, k0_part11_eq_skeleton]; unfold k0_part11_skel
  simp only [Prog.lift, Prog.bind_op, Prog.bind_ret, Prog.pure_eq_ret]
  unfold sendPre3 flying3 sendPre
  iintro ⟨⟨#HR, ⟨⟨T0, L0, S0⟩, ⟨T1, L1, S1⟩, ⟨T2, L2, S2⟩⟩, HO⟩, Hk⟩
  iapply (wp_send0 I K c 4 19 rfl (dev20_eq c) rfl rfl) $$ [T0 L0 S0 HO]
  · iframe ∗ #
  iintro ⟨F0, HO⟩
  iapply (wp_send1 I K c 4 20 rfl (dev21_eq c) rfl rfl (off4_eq c 4)) $$ [T1 L1 S1 HO]
  · iframe ∗ #
  iintro ⟨F1, HO⟩
  iapply (wp_send2 I K c 4 21 rfl (dev22_eq c) rfl rfl (off4_eq c 4)) $$ [T2 L2 S2 HO]
  · iframe ∗ #
  iintro ⟨F2, HO⟩
  rw [wp_ret]; imodintro; iapply Hk; iframe

theorem part12_run (v2 v : BitVec 32) (Kt : (Σ' (v334 : BitVec 32), BitVec 32) → sProp (MT nD τ sig Unit (Elt F) ℕ UU ℕ)) :
    iprop((recs I K ∗ sendPre3 I c 5 ∗ Owe c 22) ∗ (∀ v, flying3 (F := F) c 5 ∗ Owe c 25 -∗ Kt v))
      ⊢ wp frame (wpE (defs₀ (F := F)) 𝒱₀ (c : Thread nD τ) none) Set.univ (app (k0_part12 (F := F)) c v2 v) Kt := by
  simp only [app, k0_part12_eq_skeleton]; unfold k0_part12_skel
  simp only [Prog.lift, Prog.bind_op, Prog.bind_ret, Prog.pure_eq_ret]
  unfold sendPre3 flying3 sendPre
  iintro ⟨⟨#HR, ⟨⟨T0, L0, S0⟩, ⟨T1, L1, S1⟩, ⟨T2, L2, S2⟩⟩, HO⟩, Hk⟩
  iapply (wp_send0 I K c 5 22 rfl (dev23_eq c) rfl rfl) $$ [T0 L0 S0 HO]
  · iframe ∗ #
  iintro ⟨F0, HO⟩
  iapply (wp_send1 I K c 5 23 rfl (dev24_eq c) rfl rfl (off4_eq c 5)) $$ [T1 L1 S1 HO]
  · iframe ∗ #
  iintro ⟨F1, HO⟩
  iapply (wp_send2 I K c 5 24 rfl (dev25_eq c) rfl rfl (off4_eq c 5)) $$ [T2 L2 S2 HO]
  · iframe ∗ #
  iintro ⟨F2, HO⟩
  rw [wp_ret]; imodintro; iapply Hk; iframe

theorem part13_run (v2 v w : BitVec 32) (Kt : PUnit → sProp (MT nD τ sig Unit (Elt F) ℕ UU ℕ)) :
    iprop((recs I K ∗ sendPre3 I c 6 ∗ Owe c 25) ∗ (flying3 (F := F) c 6 ∗ Owe c 28 -∗ Kt ⟨⟩))
      ⊢ wp frame (wpE (defs₀ (F := F)) 𝒱₀ (c : Thread nD τ) none) Set.univ (app (k0_part13 (F := F)) c v2 v w) Kt := by
  simp only [app, k0_part13_eq_skeleton]; unfold k0_part13_skel
  simp only [Prog.lift, Prog.bind_op, Prog.bind_ret, Prog.pure_eq_ret]
  unfold sendPre3 flying3 sendPre
  iintro ⟨⟨#HR, ⟨⟨T0, L0, S0⟩, ⟨T1, L1, S1⟩, ⟨T2, L2, S2⟩⟩, HO⟩, Hk⟩
  iapply (wp_send0 I K c 6 25 rfl (dev26_eq c) rfl rfl) $$ [T0 L0 S0 HO]
  · iframe ∗ #
  iintro ⟨F0, HO⟩
  iapply (wp_send1 I K c 6 26 rfl (dev27_eq c) rfl rfl (off4_eq c 6)) $$ [T1 L1 S1 HO]
  · iframe ∗ #
  iintro ⟨F1, HO⟩
  iapply (wp_send2 I K c 6 27 rfl (dev28_eq c) rfl rfl (off4_eq c 6)) $$ [T2 L2 S2 HO]
  · iframe ∗ #
  iintro ⟨F2, HO⟩
  rw [wp_ret]; imodintro; iapply Hk; iframe

end Cert.KernelIdeal.Mla

end
-- ==== Proof.I.Body2.lean ====
/-
  The kernel's middle, part by part: projections, the waits for the gathered blocks, attention.
-/
module

public import proofs.«01_k».proof.Proof.I.Body1

@[expose] public section

noncomputable section

namespace Cert.KernelIdeal.Mla

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen
open Idealize.ShloMosaic.ValueIdx

variable {F : FTy → Type} [FloatOps F] [Named F]

local notation "𝕄" => MT nD τ sig Unit (Elt F) ℕ UU ℕ

variable (I : Ins F) (K : GSem nD τ sig → ℕ) (c : Dev nD)

theorem credit_big (M : Memref sig .tc .vmem S512x128 .bf16) : M.view.dmaCredit = nBig := amount_big M.view (sendS 0 0)
theorem credit_small (M : Memref sig .tc .vmem S64x128 .bf16) : M.view.dmaCredit = nSmall := amount_small M.view (sendS 0 0)

/-- Local copy l done, and the copy of kind b from peer i landed. -/
def locGot (l : Fin 3) : sProp 𝕄 := iprop(past (F := F) c (.dma (locS l)) ∗ copied I c l)
@[inherit_doc locGot] def got (b : Fin 4) (i : Fin 7) : sProp 𝕄 := iprop(past (F := F) c (.dma (recvS b i)) ∗ landed I c b i)

/-- The staged projections, and the projections of the device's input and the cast output projection. -/
def staged : sProp 𝕄 := iprop(own (Memref.whole cc0_stg4_0) c fullShare (I.wq c) ∗ own (Memref.whole cc0_stg5_0) c fullShare (I.wqr c)
  ∗ own (Memref.whole cc0_stg6_0) c fullShare (I.wkr c) ∗ own (Memref.whole cc0_stg7_0) c fullShare (I.wo c))
@[inherit_doc staged] def projs : sProp 𝕄 := iprop(own (Memref.whole cc0_scratch8) c fullShare (QB I c) ∗ own (Memref.whole cc0_scratch9) c fullShare (QRB I c)
  ∗ own (Memref.whole cc0_scratch10) c fullShare (KRB I c))
@[inherit_doc staged] def woB : sProp 𝕄 := own (Memref.whole cc0_scratch12) c fullShare (k0_pay29 (I.wo c))

theorem part14_run (f8 : FVec F S512x128 .bf16) (f9 : FVec F S512x64 .bf16) (f10 : FVec F S512x32 .bf16) (f12 : FVec F S8x128x1024 .bf16) (Kt : PUnit → sProp (MT nD τ sig Unit (Elt F) ℕ UU ℕ)) :
    iprop((recs I K ∗ staged I c ∗ own (Memref.whole cc0_scratch8) c fullShare f8 ∗ own (Memref.whole cc0_scratch9) c fullShare f9
        ∗ own (Memref.whole cc0_scratch10) c fullShare f10 ∗ own (Memref.whole cc0_scratch12) c fullShare f12 ∗ locFly (F := F) c 0 ∗ Owe c 28)
        ∗ (staged I c ∗ projs I c ∗ woB I c ∗ locGot I c 0 ∗ Owe c 28 -∗ Kt ⟨⟩))
      ⊢ wp frame (wpE (defs₀ (F := F)) 𝒱₀ (c : Thread nD τ) none) Set.univ (app (k0_part14 (F := F)) c (k0_pay4 (I.x c))) Kt := by
  simp only [app, k0_part14_eq_skeleton]; unfold k0_part14_skel
  simp only [Prog.lift, Prog.bind_op, Prog.bind_ret, Prog.pure_eq_ret]
  unfold staged projs woB locGot
  iintro ⟨⟨#HR, ⟨A, B, C, D⟩, E, G, H, J, L, HO⟩, Hk⟩
  iapply (wp_ld c _ (Memref.read_access_unit_zero _ _ z2 _ _)) $$ [A]
  · iframe
  iintro A
  iapply (wp_ld c _ (Memref.read_access_unit_zero _ _ z2 _ _)) $$ [E]
  · iframe
  iintro E
  iapply (wp_st c (QB I c) (Memref.write_access_unit_zero_univ _ _ z2 _ _ _)) $$ [E]
  · iframe
  iintro E
  iapply (wp_ld c _ (Memref.read_access_unit_zero _ _ z2 _ _)) $$ [B]
  · iframe
  iintro B
  iapply (wp_ld c _ (Memref.read_access_unit_zero _ _ z2 _ _)) $$ [G]
  · iframe
  iintro G
  iapply (wp_st c (QRB I c) (Memref.write_access_unit_zero_univ _ _ z2 _ _ _)) $$ [G]
  · iframe
  iintro G
  iapply (wp_ld c _ (Memref.read_access_unit_zero _ _ z2 _ _)) $$ [C]
  · iframe
  iintro C
  iapply (wp_ld c _ (Memref.read_access_unit_zero _ _ z2 _ _)) $$ [H]
  · iframe
  iintro H
  iapply (wp_st c (KRB I c) (Memref.write_access_unit_zero_univ _ _ z2 _ _ _)) $$ [H]
  · iframe
  iintro H
  iapply (wp_ld c _ (Memref.read_access_unit_zero _ _ z3 _ _)) $$ [D]
  · iframe
  iintro D
  iapply (wp_ld c _ (Memref.read_access_unit_zero _ _ z3 _ _)) $$ [J]
  · iframe
  iintro J
  iapply (wp_st c (k0_pay29 (I.wo c)) (Memref.write_access_unit_zero_univ _ _ z3 _ _ _)) $$ [J]
  · iframe
  iintro J
  iapply (wp_locWait I K c 0 rfl (credit_big _)) $$ [L HO]
  · iframe ∗ #
  iintro ⟨HO, L⟩
  rw [wp_ret]; imodintro; iapply Hk; iframe

theorem part15_run (v2 : BitVec 32) (Kt : PUnit → sProp (MT nD τ sig Unit (Elt F) ℕ UU ℕ)) :
    iprop((recs I K ∗ locFly (F := F) c 1 ∗ locFly (F := F) c 2 ∗ rcvTok (F := F) c 0 0 ∗ rcvTok (F := F) c 1 0 ∗ Owe c 28)
        ∗ (locGot I c 1 ∗ locGot I c 2 ∗ got I c 0 0 ∗ got I c 1 0 ∗ Owe c 28 -∗ Kt ⟨⟩))
      ⊢ wp frame (wpE (defs₀ (F := F)) 𝒱₀ (c : Thread nD τ) none) Set.univ (app (k0_part15 (F := F)) c v2) Kt := by
  simp only [app, k0_part15_eq_skeleton]; unfold k0_part15_skel
  simp only [Prog.lift, Prog.bind_op, Prog.bind_ret, Prog.pure_eq_ret]
  unfold locGot got
  iintro ⟨⟨#HR, L1, L2, R0, R1, HO⟩, Hk⟩
  iapply (wp_locWait I K c 1 rfl (credit_small _)) $$ [L1 HO]
  · iframe ∗ #
  iintro ⟨HO, L1⟩
  iapply (wp_locWait I K c 2 rfl (credit_small _)) $$ [L2 HO]
  · iframe ∗ #
  iintro ⟨HO, L2⟩
  iapply (wp_recvWait I K c 0 (by decide) 0 rfl (credit_big _)) $$ [R0 HO]
  · iframe ∗ #
  iintro ⟨HO, R0⟩
  iapply (wp_recvWait I K c 1 (by decide) 0 rfl (credit_small _)) $$ [R1 HO]
  · iframe ∗ #
  iintro ⟨HO, R1⟩
  rw [wp_ret]; imodintro; iapply Hk; iframe

theorem part16_run (v2 : BitVec 32) (Kt : PUnit → sProp (MT nD τ sig Unit (Elt F) ℕ UU ℕ)) :
    iprop((recs I K ∗ rcvTok (F := F) c 2 0 ∗ rcvTok (F := F) c 0 1 ∗ rcvTok (F := F) c 1 1 ∗ rcvTok (F := F) c 2 1 ∗ Owe c 28)
        ∗ (got I c 2 0 ∗ got I c 0 1 ∗ got I c 1 1 ∗ got I c 2 1 ∗ Owe c 28 -∗ Kt ⟨⟩))
      ⊢ wp frame (wpE (defs₀ (F := F)) 𝒱₀ (c : Thread nD τ) none) Set.univ (app (k0_part16 (F := F)) v2) Kt := by
  simp only [app, k0_part16_eq_skeleton]; unfold k0_part16_skel
  simp only [Prog.lift, Prog.bind_op, Prog.bind_ret, Prog.pure_eq_ret]
  unfold got
  iintro ⟨⟨#HR, R0, R1, R2, R3, HO⟩, Hk⟩
  iapply (wp_recvWait I K c 2 (by decide) 0 rfl (credit_small _)) $$ [R0 HO]
  · iframe ∗ #
  iintro ⟨HO, R0⟩
  iapply (wp_recvWait I K c 0 (by decide) 1 rfl (credit_big _)) $$ [R1 HO]
  · iframe ∗ #
  iintro ⟨HO, R1⟩
  iapply (wp_recvWait I K c 1 (by decide) 1 rfl (credit_small _)) $$ [R2 HO]
  · iframe ∗ #
  iintro ⟨HO, R2⟩
  iapply (wp_recvWait I K c 2 (by decide) 1 rfl (credit_small _)) $$ [R3 HO]
  · iframe ∗ #
  iintro ⟨HO, R3⟩
  rw [wp_ret]; imodintro; iapply Hk; iframe

theorem part17_run (v2 : BitVec 32) (Kt : PUnit → sProp (MT nD τ sig Unit (Elt F) ℕ UU ℕ)) :
    iprop((recs I K ∗ rcvTok (F := F) c 0 2 ∗ rcvTok (F := F) c 1 2 ∗ rcvTok (F := F) c 2 2 ∗ Owe c 28)
        ∗ (got I c 0 2 ∗ got I c 1 2 ∗ got I c 2 2 ∗ Owe c 28 -∗ Kt ⟨⟩))
      ⊢ wp frame (wpE (defs₀ (F := F)) 𝒱₀ (c : Thread nD τ) none) Set.univ (app (k0_part17 (F := F)) v2) Kt := by
  simp only [app, k0_part17_eq_skeleton]; unfold k0_part17_skel
  simp only [Prog.lift, Prog.bind_op, Prog.bind_ret, Prog.pure_eq_ret]
  unfold got
  iintro ⟨⟨#HR, R0, R1, R2, HO⟩, Hk⟩
  iapply (wp_recvWait I K c 0 (by decide) 2 rfl (credit_big _)) $$ [R0 HO]
  · iframe ∗ #
  iintro ⟨HO, R0⟩
  iapply (wp_recvWait I K c 1 (by decide) 2 rfl (credit_small _)) $$ [R1 HO]
  · iframe ∗ #
  iintro ⟨HO, R1⟩
  iapply (wp_recvWait I K c 2 (by decide) 2 rfl (credit_small _)) $$ [R2 HO]
  · iframe ∗ #
  iintro ⟨HO, R2⟩
  rw [wp_ret]; imodintro; iapply Hk; iframe

theorem part18_run (v2 : BitVec 32) (Kt : PUnit → sProp (MT nD τ sig Unit (Elt F) ℕ UU ℕ)) :
    iprop((recs I K ∗ rcvTok (F := F) c 0 3 ∗ rcvTok (F := F) c 1 3 ∗ rcvTok (F := F) c 2 3 ∗ rcvTok (F := F) c 0 4 ∗ Owe c 28)
        ∗ (got I c 0 3 ∗ got I c 1 3 ∗ got I c 2 3 ∗ got I c 0 4 ∗ Owe c 28 -∗ Kt ⟨⟩))
      ⊢ wp frame (wpE (defs₀ (F := F)) 𝒱₀ (c : Thread nD τ) none) Set.univ (app (k0_part18 (F := F)) v2) Kt := by
  simp only [app, k0_part18_eq_skeleton]; unfold k0_part18_skel
  simp only [Prog.lift, Prog.bind_op, Prog.bind_ret, Prog.pure_eq_ret]
  unfold got
  iintro ⟨⟨#HR, R0, R1, R2, R3, HO⟩, Hk⟩
  iapply (wp_recvWait I K c 0 (by decide) 3 rfl (credit_big _)) $$ [R0 HO]
  · iframe ∗ #
  iintro ⟨HO, R0⟩
  iapply (wp_recvWait I K c 1 (by decide) 3 rfl (credit_small _)) $$ [R1 HO]
  · iframe ∗ #
  iintro ⟨HO, R1⟩
  iapply (wp_recvWait I K c 2 (by decide) 3 rfl (credit_small _)) $$ [R2 HO]
  · iframe ∗ #
  iintro ⟨HO, R2⟩
  iapply (wp_recvWait I K c 0 (by decide) 4 rfl (credit_big _)) $$ [R3 HO]
  · iframe ∗ #
  iintro ⟨HO, R3⟩
  rw [wp_ret]; imodintro; iapply Hk; iframe

theorem part19_run (v2 : BitVec 32) (Kt : PUnit → sProp (MT nD τ sig Unit (Elt F) ℕ UU ℕ)) :
    iprop((recs I K ∗ rcvTok (F := F) c 1 4 ∗ rcvTok (F := F) c 2 4 ∗ rcvTok (F := F) c 0 5 ∗ Owe c 28)
        ∗ (got I c 1 4 ∗ got I c 2 4 ∗ got I c 0 5 ∗ Owe c 28 -∗ Kt ⟨⟩))
      ⊢ wp frame (wpE (defs₀ (F := F)) 𝒱₀ (c : Thread nD τ) none) Set.univ (app (k0_part19 (F := F)) v2) Kt := by
  simp only [app, k0_part19_eq_skeleton]; unfold k0_part19_skel
  simp only [Prog.lift, Prog.bind_op, Prog.bind_ret, Prog.pure_eq_ret]
  unfold got
  iintro ⟨⟨#HR, R0, R1, R2, HO⟩, Hk⟩
  iapply (wp_recvWait I K c 1 (by decide) 4 rfl (credit_small _)) $$ [R0 HO]
  · iframe ∗ #
  iintro ⟨HO, R0⟩
  iapply (wp_recvWait I K c 2 (by decide) 4 rfl (credit_small _)) $$ [R1 HO]
  · iframe ∗ #
  iintro ⟨HO, R1⟩
  iapply (wp_recvWait I K c 0 (by decide) 5 rfl (credit_big _)) $$ [R2 HO]
  · iframe ∗ #
  iintro ⟨HO, R2⟩
  rw [wp_ret]; imodintro; iapply Hk; iframe

theorem part20_run (v2 : BitVec 32) (Kt : BitVec 32 → sProp (MT nD τ sig Unit (Elt F) ℕ UU ℕ)) :
    iprop((recs I K ∗ rcvTok (F := F) c 1 5 ∗ rcvTok (F := F) c 2 5 ∗ rcvTok (F := F) c 0 6 ∗ rcvTok (F := F) c 1 6 ∗ Owe c 28)
        ∗ (got I c 1 5 ∗ got I c 2 5 ∗ got I c 0 6 ∗ got I c 1 6 ∗ Owe c 28 -∗ Kt 1#32))
      ⊢ wp frame (wpE (defs₀ (F := F)) 𝒱₀ (c : Thread nD τ) none) Set.univ (app (k0_part20 (F := F)) v2) Kt := by
  simp only [app, k0_part20_eq_skeleton]; unfold k0_part20_skel
  simp only [Prog.lift, Prog.bind_op, Prog.bind_ret, Prog.pure_eq_ret]
  unfold got
  iintro ⟨⟨#HR, R0, R1, R2, R3, HO⟩, Hk⟩
  iapply (wp_recvWait I K c 1 (by decide) 5 rfl (credit_small _)) $$ [R0 HO]
  · iframe ∗ #
  iintro ⟨HO, R0⟩
  iapply (wp_recvWait I K c 2 (by decide) 5 rfl (credit_small _)) $$ [R1 HO]
  · iframe ∗ #
  iintro ⟨HO, R1⟩
  iapply (wp_recvWait I K c 0 (by decide) 6 rfl (credit_big _)) $$ [R2 HO]
  · iframe ∗ #
  iintro ⟨HO, R2⟩
  iapply (wp_recvWait I K c 1 (by decide) 6 rfl (credit_small _)) $$ [R3 HO]
  · iframe ∗ #
  iintro ⟨HO, R3⟩
  rw [wp_ret]; imodintro; iapply Hk; iframe

/-! ## Attention -/

/-- The gathered matrices. -/
def gathered : sProp 𝕄 := iprop(own (Memref.whole cc0_scratch1) c fullShare (CA I) ∗ own (Memref.whole cc0_scratch4) c fullShare (KA I c) ∗ own (Memref.whole cc0_scratch5) c fullShare (VA I c))
/-- The device's keys and values. -/
def kvB : sProp 𝕄 := iprop(own (Memref.whole cc0_scratch6) c fullShare (KB I c) ∗ own (Memref.whole cc0_scratch7) c fullShare (VB I c))

theorem part21_run (v2 w : BitVec 32) (f6 f7 : FVec F S512x128 .bf16)
    (Kt : (Σ' (v542 : Vec F S256x32 .bf16) (v545 : Vec F S256x32 .bf16) (v546 : Vec F S256x64 .bf16) (v547 : FVec F S256x256 .f32), FVec F S256x256 .f32) → sProp (MT nD τ sig Unit (Elt F) ℕ UU ℕ)) :
    iprop((recs I K ∗ rcvTok (F := F) c 2 6 ∗ Owe c 28 ∗ own (Memref.whole cc0_scratch1) c fullShare (CA I) ∗ own (Memref.whole cc0_scratch4) c fullShare (KA I c)
        ∗ (landed I c 2 6 -∗ own (Memref.whole cc0_scratch5) c fullShare (VA I c))
        ∗ own (Memref.whole cc0_scratch6) c fullShare f6 ∗ own (Memref.whole cc0_scratch7) c fullShare f7 ∗ projs I c)
        ∗ (past (F := F) c (.dma (recvS 2 6)) ∗ Owe c 28 ∗ gathered I c ∗ kvB I c ∗ projs I c
          -∗ Kt ⟨at32k (KRB I c) ![0, 0] (by decide), at32q (QRB I c) ![0, 0] (by decide), at64 (VB I c) ![0, 0] (by decide),
              k0_pay32 (at64 (QB I c) ![0, 0] (by decide)) (at64 (KB I c) ![0, 0] (by decide)), constant S256x256 .f32 0x00000000#32⟩))
      ⊢ wp frame (wpE (defs₀ (F := F)) 𝒱₀ (c : Thread nD τ) none) Set.univ (app (k0_part21 (F := F)) v2 w) Kt := by
  simp only [app, k0_part21_eq_skeleton]; unfold k0_part21_skel
  simp only [Prog.lift, Prog.bind_op, Prog.bind_ret, Prog.pure_eq_ret]
  unfold projs gathered kvB
  iintro ⟨⟨#HR, R, HO, CA, KA, V, KB, VB, QB, QR, KR⟩, Hk⟩
  iapply (wp_recvWait I K c 2 (by decide) 6 rfl (credit_small _)) $$ [R HO]
  · iframe ∗ #
  iintro ⟨HO, R⟩
  icases R with ⟨PR, R⟩
  ihave VA := V $$ R
  iapply (wp_ld c _ (Memref.read_access_unit_zero _ _ z2 _ _)) $$ [CA]
  · iframe
  iintro CA
  iapply (wp_ld c _ (Memref.read_access_unit_zero _ _ z2 _ _)) $$ [KA]
  · iframe
  iintro KA
  iapply (wp_ld c _ (Memref.read_access_unit_zero _ _ z2 _ _)) $$ [KB]
  · iframe
  iintro KB
  iapply (wp_st c (KB I c) (Memref.write_access_unit_zero_univ _ _ z2 _ _ _)) $$ [KB]
  · iframe
  iintro KB
  iapply (wp_ld c _ (Memref.read_access_unit_zero _ _ z2 _ _)) $$ [CA]
  · iframe
  iintro CA
  iapply (wp_ld c _ (Memref.read_access_unit_zero _ _ z2 _ _)) $$ [VA]
  · iframe
  iintro VA
  iapply (wp_ld c _ (Memref.read_access_unit_zero _ _ z2 _ _)) $$ [VB]
  · iframe
  iintro VB
  iapply (wp_st c (VB I c) (Memref.write_access_unit_zero_univ _ _ z2 _ _ _)) $$ [VB]
  · iframe
  iintro VB
  iapply (wp_ld c (f := KRB I c) (q := fullShare) (at32k (KRB I c) ![0, 0] (by decide)) rfl) $$ [KR]
  · iframe
  iintro KR
  iapply (wp_ld c (f := QB I c) (q := fullShare) (at64 (QB I c) ![0, 0] (by decide)) rfl) $$ [QB]
  · iframe
  iintro QB
  iapply (wp_ld c (f := KB I c) (q := fullShare) (at64 (KB I c) ![0, 0] (by decide)) rfl) $$ [KB]
  · iframe
  iintro KB
  iapply (wp_ld c (f := QRB I c) (q := fullShare) (at32q (QRB I c) ![0, 0] (by decide)) rfl) $$ [QR]
  · iframe
  iintro QR
  iapply (wp_ld c (f := VB I c) (q := fullShare) (at64 (VB I c) ![0, 0] (by decide)) rfl) $$ [VB]
  · iframe
  iintro VB
  rw [wp_ret]; imodintro; iapply Hk; iframe

/-- A block of 256 x 64 numbers stored at the offsets o of the gathered outputs. -/
abbrev put (f : FVec F S8x512x128 .bf16) (o : Fin 3 → ℕ) (h : ∀ a, o a + S1x256x64.size a ≤ S8x512x128.size a) (v : FVec F S1x256x64 .bf16) : FVec F S8x512x128 .bf16 :=
  ((Memref.whole cc0_scratch11).access (Rect.unit (s := S8x512x128) o S1x256x64.size h)).write (Elt F) f v Finset.univ

/-- The gathered outputs after one, two, three and four of the device's own blocks. -/
def og1 (f : FVec F S8x512x128 .bf16) : FVec F S8x512x128 .bf16 := put f ![0, 0, 0] (by decide) (H00 I c)
@[inherit_doc og1] def og2 (f : FVec F S8x512x128 .bf16) : FVec F S8x512x128 .bf16 := put (og1 I c f) ![0, 0, 64] (by decide) (H01 I c)
@[inherit_doc og1] def og3 (f : FVec F S8x512x128 .bf16) : FVec F S8x512x128 .bf16 := put (og2 I c f) ![0, 256, 0] (by decide) (H10 I c)
@[inherit_doc og1] def og4 (f : FVec F S8x512x128 .bf16) : FVec F S8x512x128 .bf16 := put (og3 I c f) ![0, 256, 64] (by decide) (H11 I c)

theorem write_at {b : Ref sig .tc} (r : Rect b.ty.shape) (f : b.ty.Contents (Elt F)) (v : r.shape.Idx → Elt F b.ty.elt) (x : r.shape.Idx) :
    ((Memref.whole b).access r).write (Elt F) f v Finset.univ (r.emb x) = v x :=
  View.write_emb_of_mem (v := ((Memref.whole b).access r)) f v (Finset.mem_univ x)
theorem write_off {b : Ref sig .tc} (r : Rect b.ty.shape) (f : b.ty.Contents (Elt F)) (v : r.shape.Idx → Elt F b.ty.elt) (i : b.ty.shape.Idx) (h : ∀ x, r.emb x ≠ i) :
    ((Memref.whole b).access r).write (Elt F) f v Finset.univ i = f i := by
  refine View.write_of_not_mem (v := ((Memref.whole b).access r)) f v Finset.univ fun hm => ?_
  obtain ⟨x, -, hx⟩ := Finset.mem_map.mp hm
  exact h x hx

theorem put_in (f : FVec F S8x512x128 .bf16) (a b : ℕ) (h) (v : FVec F S1x256x64 .bf16) (p : Fin 512) (q : Fin 128) (p' : Fin 256) (q' : Fin 64) (hp : p.val = a + p'.val) (hq : q.val = b + q'.val) :
    put f ![0, a, b] h v (ix3 (0 : Fin 8) p q) = v (ix3 (0 : Fin 1) p' q') := by
  have e : (Rect.unit (s := S8x512x128) ![0, a, b] S1x256x64.size h).emb (ix3 (0 : Fin 1) p' q') = ix3 (0 : Fin 8) p q := by
    funext j
    refine Fin.ext ?_
    show (![0, a, b] : Fin 3 → ℕ) j + 1 * (ix3 (0 : Fin 1) p' q' j).val = _
    fin_cases j
    · rfl
    · show a + 1 * p'.val = p.val; omega
    · show b + 1 * q'.val = q.val; omega
  exact (congrArg (put f ![0, a, b] h v) e.symm).trans (write_at (b := cc0_scratch11) (Rect.unit (s := S8x512x128) ![0, a, b] S1x256x64.size h) f v (ix3 (0 : Fin 1) p' q'))
theorem put_out (f : FVec F S8x512x128 .bf16) (a b : ℕ) (h) (v : FVec F S1x256x64 .bf16) (p : Fin 512) (q : Fin 128) (hpq : ∀ (p' : Fin 256) (q' : Fin 64), ¬ (p.val = a + p'.val ∧ q.val = b + q'.val)) :
    put f ![0, a, b] h v (ix3 (0 : Fin 8) p q) = f (ix3 (0 : Fin 8) p q) := by
  refine write_off (b := cc0_scratch11) (Rect.unit (s := S8x512x128) ![0, a, b] S1x256x64.size h) f v (ix3 (0 : Fin 8) p q) fun x hx => ?_
  have h1 : a + 1 * (x 1).val = p.val := congrArg (fun t : S8x512x128.Idx => (t 1).val) hx
  have h2 : b + 1 * (x 2).val = q.val := congrArg (fun t : S8x512x128.Idx => (t 2).val) hx
  exact hpq (x 1) (x 2) ⟨by omega, by omega⟩

/-- All four blocks stored are the device's own attention output. -/
theorem og4_eq (f : FVec F S8x512x128 .bf16) : ∀ i ∈ (ogM 0).view.set, og4 I c f i = OG I c i := by
  intro i hi
  obtain ⟨a, p, q, rfl⟩ : ∃ (a : Fin 8) (p : Fin 512) (q : Fin 128), i = ix3 a p q := ⟨i 0, i 1, i 2, eq_ix3 i⟩
  obtain rfl : a = 0 := (mem_og 0 _).mp hi
  show og4 I c f (ix3 (0 : Fin 8) p q) = OL I (ahead c 0) (ix2 p q)
  rw [ahead_zero]
  have hp := p.isLt
  have hq := q.isLt
  unfold og4 og3 og2 og1 OL
  by_cases h1 : p.val < 256 <;> by_cases h2 : q.val < 64
  · rw [put_out _ _ _ _ _ _ _ (fun p' q' h => by omega), put_out _ _ _ _ _ _ _ (fun p' q' h => by omega), put_out _ _ _ _ _ _ _ (fun p' q' h => by omega),
      put_in _ _ _ _ _ p q ⟨p.val % 256, Nat.mod_lt _ (by decide)⟩ ⟨q.val % 64, Nat.mod_lt _ (by decide)⟩ (by show p.val = 0 + p.val % 256; omega) (by show q.val = 0 + q.val % 64; omega)]
    rw [if_pos (show ((ix2 p q : S512x128.Idx) 0).val < 256 from h1), if_pos (show ((ix2 p q : S512x128.Idx) 1).val < 64 from h2)]
  · rw [put_out _ _ _ _ _ _ _ (fun p' q' h => by omega), put_out _ _ _ _ _ _ _ (fun p' q' h => by omega),
      put_in _ _ _ _ _ p q ⟨p.val % 256, Nat.mod_lt _ (by decide)⟩ ⟨q.val % 64, Nat.mod_lt _ (by decide)⟩ (by show p.val = 0 + p.val % 256; omega) (by show q.val = 64 + q.val % 64; omega)]
    rw [if_pos (show ((ix2 p q : S512x128.Idx) 0).val < 256 from h1), if_neg (show ¬ ((ix2 p q : S512x128.Idx) 1).val < 64 from h2)]
  · rw [put_out _ _ _ _ _ _ _ (fun p' q' h => by omega),
      put_in _ _ _ _ _ p q ⟨p.val % 256, Nat.mod_lt _ (by decide)⟩ ⟨q.val % 64, Nat.mod_lt _ (by decide)⟩ (by show p.val = 256 + p.val % 256; omega) (by show q.val = 0 + q.val % 64; omega)]
    rw [if_neg (show ¬ ((ix2 p q : S512x128.Idx) 0).val < 256 from h1), if_pos (show ((ix2 p q : S512x128.Idx) 1).val < 64 from h2)]
  · rw [put_in _ _ _ _ _ p q ⟨p.val % 256, Nat.mod_lt _ (by decide)⟩ ⟨q.val % 64, Nat.mod_lt _ (by decide)⟩ (by show p.val = 256 + p.val % 256; omega) (by show q.val = 64 + q.val % 64; omega)]
    rw [if_neg (show ¬ ((ix2 p q : S512x128.Idx) 0).val < 256 from h1), if_neg (show ¬ ((ix2 p q : S512x128.Idx) 1).val < 64 from h2)]

/-- A block with first index s lies in slot s. -/
theorem sub_og (s : Fin 8) {o sz : Fin 3 → ℕ} {h : ∀ a, o a + sz a ≤ S8x512x128.size a} (h0 : o 0 = s.val) (h1 : sz 0 = 1) :
    ((Memref.whole cc0_scratch11).access (Rect.unit (s := S8x512x128) o sz h)).set ⊆ (ogM s).view.set := by
  intro i hi
  obtain ⟨x, -, rfl⟩ := Finset.mem_map.mp hi
  refine (mem_og s _).mpr (Fin.ext ?_)
  show o 0 + 1 * (x 0).val = s.val
  have : (x 0).val < sz 0 := (x 0).isLt
  omega

theorem part22_run (f : FVec F S8x512x128 .bf16) (Kt : (Σ' (v570 : Vec F S256x64 .bf16) (v585 : FVec F S256x256 .bf16), FVec F S256x64 .f32) → sProp (MT nD τ sig Unit (Elt F) ℕ UU ℕ)) :
    iprop((own (ogM 0) c fullShare f ∗ kvB I c ∗ projs I c)
        ∗ (own (ogM 0) c fullShare (og1 I c f) ∗ kvB I c ∗ projs I c
          -∗ Kt ⟨at64 (VB I c) ![0, 64] (by decide), k0_pay34 (at32k (KRB I c) ![0, 0] (by decide)) (at64 (QB I c) ![0, 64] (by decide)) (at64 (KB I c) ![0, 64] (by decide)) (at32q (QRB I c) ![0, 32] (by decide)),
              constant S256x64 .f32 0x00000000#32⟩))
      ⊢ wp frame (wpE (defs₀ (F := F)) 𝒱₀ (c : Thread nD τ) none) Set.univ (app (k0_part22 (F := F)) (at32k (KRB I c) ![0, 0] (by decide)) (at32q (QRB I c) ![0, 0] (by decide)) (at64 (VB I c) ![0, 0] (by decide))
              (k0_pay32 (at64 (QB I c) ![0, 0] (by decide)) (at64 (KB I c) ![0, 0] (by decide))) (constant S256x256 .f32 0x00000000#32)) Kt := by
  simp only [app, k0_part22_eq_skeleton]; unfold k0_part22_skel
  simp only [Prog.lift, Prog.bind_op, Prog.bind_ret, Prog.pure_eq_ret]
  unfold projs kvB
  iintro ⟨⟨O, ⟨KB, VB⟩, QB, QR, KR⟩, Hk⟩
  iapply (wp_ldS c (m := Memref.whole cc0_scratch11) (f := f) (q := fullShare) _ (sub_og 0 rfl rfl) rfl) $$ [O]
  · iframe
  iintro O
  iapply (wp_stS c (m := Memref.whole cc0_scratch11) (f := f) (og1 I c f) (sub_og 0 rfl rfl) rfl) $$ [O]
  · iframe
  iintro O
  iapply (wp_ld c (f := QB I c) (q := fullShare) (at64 (QB I c) ![0, 64] (by decide)) rfl) $$ [QB]
  · iframe
  iintro QB
  iapply (wp_ld c (f := KB I c) (q := fullShare) (at64 (KB I c) ![0, 64] (by decide)) rfl) $$ [KB]
  · iframe
  iintro KB
  iapply (wp_ld c (f := QRB I c) (q := fullShare) (at32q (QRB I c) ![0, 32] (by decide)) rfl) $$ [QR]
  · iframe
  iintro QR
  iapply (wp_ld c (f := VB I c) (q := fullShare) (at64 (VB I c) ![0, 64] (by decide)) rfl) $$ [VB]
  · iframe
  iintro VB
  rw [wp_ret]; imodintro; iapply Hk; iframe

theorem part23_run (f : FVec F S8x512x128 .bf16) (Kt : (Σ' (v591 : Vec F S256x32 .bf16) (v616 : Vec F S256x64 .bf16), Vec F S256x64 .bf16) → sProp (MT nD τ sig Unit (Elt F) ℕ UU ℕ)) :
    iprop((own (ogM 0) c fullShare (og1 I c f) ∗ kvB I c ∗ projs I c)
        ∗ (own (ogM 0) c fullShare (og3 I c f) ∗ kvB I c ∗ projs I c
          -∗ Kt ⟨at32k (KRB I c) ![256, 0] (by decide), at64 (QB I c) ![256, 64] (by decide), at64 (KB I c) ![256, 64] (by decide)⟩))
      ⊢ wp frame (wpE (defs₀ (F := F)) 𝒱₀ (c : Thread nD τ) none) Set.univ (app (k0_part23 (F := F)) (at64 (VB I c) ![0, 64] (by decide))
          (k0_pay34 (at32k (KRB I c) ![0, 0] (by decide)) (at64 (QB I c) ![0, 64] (by decide)) (at64 (KB I c) ![0, 64] (by decide)) (at32q (QRB I c) ![0, 32] (by decide)))
          (constant S256x64 .f32 0x00000000#32)) Kt := by
  simp only [app, k0_part23_eq_skeleton]; unfold k0_part23_skel
  simp only [Prog.lift, Prog.bind_op, Prog.bind_ret, Prog.pure_eq_ret]
  unfold projs kvB
  iintro ⟨⟨O, ⟨KB, VB⟩, QB, QR, KR⟩, Hk⟩
  iapply (wp_ldS c (m := Memref.whole cc0_scratch11) (f := og1 I c f) (q := fullShare) _ (sub_og 0 rfl rfl) rfl) $$ [O]
  · iframe
  iintro O
  iapply (wp_stS c (m := Memref.whole cc0_scratch11) (f := og1 I c f) (og2 I c f) (sub_og 0 rfl rfl) rfl) $$ [O]
  · iframe
  iintro O
  iapply (wp_ld c (f := KRB I c) (q := fullShare) (at32k (KRB I c) ![256, 0] (by decide)) rfl) $$ [KR]
  · iframe
  iintro KR
  iapply (wp_ld c (f := QB I c) (q := fullShare) (at64 (QB I c) ![256, 0] (by decide)) rfl) $$ [QB]
  · iframe
  iintro QB
  iapply (wp_ld c (f := KB I c) (q := fullShare) (at64 (KB I c) ![256, 0] (by decide)) rfl) $$ [KB]
  · iframe
  iintro KB
  iapply (wp_ld c (f := QRB I c) (q := fullShare) (at32q (QRB I c) ![256, 0] (by decide)) rfl) $$ [QR]
  · iframe
  iintro QR
  iapply (wp_ld c (f := VB I c) (q := fullShare) (at64 (VB I c) ![256, 0] (by decide)) rfl) $$ [VB]
  · iframe
  iintro VB
  iapply (wp_ldS c (m := Memref.whole cc0_scratch11) (f := og2 I c f) (q := fullShare) _ (sub_og 0 rfl rfl) rfl) $$ [O]
  · iframe
  iintro O
  iapply (wp_stS c (m := Memref.whole cc0_scratch11) (f := og2 I c f) (og3 I c f) (sub_og 0 rfl rfl) rfl) $$ [O]
  · iframe
  iintro O
  iapply (wp_ld c (f := QB I c) (q := fullShare) (at64 (QB I c) ![256, 64] (by decide)) rfl) $$ [QB]
  · iframe
  iintro QB
  iapply (wp_ld c (f := KB I c) (q := fullShare) (at64 (KB I c) ![256, 64] (by decide)) rfl) $$ [KB]
  · iframe
  iintro KB
  rw [wp_ret]; imodintro; iapply Hk; iframe

theorem part24_run (v2 : BitVec 32) (f : FVec F S8x512x128 .bf16) (Kt : PUnit → sProp (MT nD τ sig Unit (Elt F) ℕ UU ℕ)) :
    iprop((own (ogM 0) c fullShare (og3 I c f) ∗ kvB I c ∗ projs I c)
        ∗ (own (ogM 0) c fullShare (OG I c) ∗ kvB I c ∗ projs I c -∗ Kt ⟨⟩))
      ⊢ wp frame (wpE (defs₀ (F := F)) 𝒱₀ (c : Thread nD τ) none) Set.univ (app (k0_part24 (F := F)) v2 (at32k (KRB I c) ![256, 0] (by decide)) (at64 (QB I c) ![256, 64] (by decide)) (at64 (KB I c) ![256, 64] (by decide))) Kt := by
  simp only [app, k0_part24_eq_skeleton]; unfold k0_part24_skel
  simp only [Prog.lift, Prog.bind_op, Prog.bind_ret, Prog.pure_eq_ret]
  unfold projs kvB
  iintro ⟨⟨O, ⟨KB, VB⟩, QB, QR, KR⟩, Hk⟩
  iapply (wp_ld c (f := QRB I c) (q := fullShare) (at32q (QRB I c) ![256, 32] (by decide)) rfl) $$ [QR]
  · iframe
  iintro QR
  iapply (wp_ld c (f := VB I c) (q := fullShare) (at64 (VB I c) ![256, 64] (by decide)) rfl) $$ [VB]
  · iframe
  iintro VB
  iapply (wp_ldS c (m := Memref.whole cc0_scratch11) (f := og3 I c f) (q := fullShare) _ (sub_og 0 rfl rfl) rfl) $$ [O]
  · iframe
  iintro O
  iapply (wp_stS c (m := Memref.whole cc0_scratch11) (f := og3 I c f) (og4 I c f) (sub_og 0 rfl rfl) rfl) $$ [O]
  · iframe
  iintro O
  ihave O := (Entails.of_eq (pointsTo_congr (og4_eq I c f))) $$ O
  rw [wp_ret]; imodintro; iapply Hk; iframe

end Cert.KernelIdeal.Mla

end
-- ==== Proof.I.Body3.lean ====
/-
  The kernel's last part: the exchange of the attention outputs, the output projection, the waits for the copies sent.
-/
module

public import proofs.«01_k».proof.Proof.I.Body2

@[expose] public section

noncomputable section

namespace Cert.KernelIdeal.Mla

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen
open Idealize.ShloMosaic.ValueIdx

variable {F : FTy → Type} [FloatOps F] [Named F]

local notation "𝕄" => MT nD τ sig Unit (Elt F) ℕ UU ℕ

variable (I : Ins F) (K : GSem nD τ sig → ℕ) (c : Dev nD)

/-- The copy of kind b to peer i done: its cell is past its round and the source is back. -/
def back (b : Fin 4) (i : Fin 7) : sProp 𝕄 := iprop(past (F := F) c (.dma (sendS b i)) ∗ srcPts I c b i)
theorem landed3 (i : Fin 7) : landed I c 3 i = own (ogM i.succ) c fullShare (OG I c) := rfl

theorem part25_run (v2 : BitVec 32) (Kt : (Σ' (v676 : BitVec 32), BitVec 32) → sProp (MT nD τ sig Unit (Elt F) ℕ UU ℕ)) :
    iprop((recs I K ∗ sendPre I c 3 0 ∗ sendPre I c 3 1 ∗ sendPre I c 3 2 ∗ Owe c 28)
        ∗ (∀ v, flying (F := F) c 3 0 ∗ flying (F := F) c 3 1 ∗ flying (F := F) c 3 2 ∗ Owe c 31 -∗ Kt v))
      ⊢ wp frame (wpE (defs₀ (F := F)) 𝒱₀ (c : Thread nD τ) none) Set.univ (app (k0_part25 (F := F)) c v2) Kt := by
  simp only [app, k0_part25_eq_skeleton]; unfold k0_part25_skel
  simp only [Prog.lift, Prog.bind_op, Prog.bind_ret, Prog.pure_eq_ret]
  unfold sendPre
  iintro ⟨⟨#HR, ⟨T0, L0, S0⟩, ⟨T1, L1, S1⟩, ⟨T2, L2, S2⟩, HO⟩, Hk⟩
  iapply (wp_send3 I K c 0 28 rfl (dev29_eq c) rfl rfl) $$ [T0 L0 S0 HO]
  · iframe ∗ #
  iintro ⟨F0, HO⟩
  iapply (wp_send3 I K c 1 29 rfl (dev30_eq c) rfl rfl) $$ [T1 L1 S1 HO]
  · iframe ∗ #
  iintro ⟨F1, HO⟩
  iapply (wp_send3 I K c 2 30 rfl (dev31_eq c) rfl rfl) $$ [T2 L2 S2 HO]
  · iframe ∗ #
  iintro ⟨F2, HO⟩
  rw [wp_ret]; imodintro; iapply Hk; iframe

theorem part26_run (v2 v w : BitVec 32) (Kt : BitVec 32 → sProp (MT nD τ sig Unit (Elt F) ℕ UU ℕ)) :
    iprop((recs I K ∗ sendPre I c 3 3 ∗ sendPre I c 3 4 ∗ Owe c 31)
        ∗ (∀ v, flying (F := F) c 3 3 ∗ flying (F := F) c 3 4 ∗ Owe c 33 -∗ Kt v))
      ⊢ wp frame (wpE (defs₀ (F := F)) 𝒱₀ (c : Thread nD τ) none) Set.univ (app (k0_part26 (F := F)) c v2 v w) Kt := by
  simp only [app, k0_part26_eq_skeleton]; unfold k0_part26_skel
  simp only [Prog.lift, Prog.bind_op, Prog.bind_ret, Prog.pure_eq_ret]
  unfold sendPre
  iintro ⟨⟨#HR, ⟨T3, L3, S3⟩, ⟨T4, L4, S4⟩, HO⟩, Hk⟩
  iapply (wp_send3 I K c 3 31 rfl (dev32_eq c) rfl rfl) $$ [T3 L3 S3 HO]
  · iframe ∗ #
  iintro ⟨F3, HO⟩
  iapply (wp_send3 I K c 4 32 rfl (dev33_eq c) rfl rfl) $$ [T4 L4 S4 HO]
  · iframe ∗ #
  iintro ⟨F4, HO⟩
  rw [wp_ret]; imodintro; iapply Hk; iframe

theorem part27_run (v2 v : BitVec 32) (f : FVec F S512x1024 .f32) (Kt : FVec F S512x1024 .f32 → sProp (MT nD τ sig Unit (Elt F) ℕ UU ℕ)) :
    iprop((recs I K ∗ sendPre I c 3 5 ∗ sendPre I c 3 6 ∗ Owe c 33 ∗ own (ogM 0) c rest (OG I c) ∗ woB I c ∗ own (Memref.whole cc0_stg8_0) c fullShare f)
        ∗ (flying (F := F) c 3 5 ∗ flying (F := F) c 3 6 ∗ Owe c 35 ∗ own (ogM 0) c rest (OG I c) ∗ woB I c ∗ own (Memref.whole cc0_stg8_0) c fullShare f -∗ Kt (k0_pay38 (ogAt I c 0) (woAt0 I c))))
      ⊢ wp frame (wpE (defs₀ (F := F)) 𝒱₀ (c : Thread nD τ) none) Set.univ (app (k0_part27 (F := F)) c v2 v) Kt := by
  simp only [app, k0_part27_eq_skeleton]; unfold k0_part27_skel
  simp only [Prog.lift, Prog.bind_op, Prog.bind_ret, Prog.pure_eq_ret]
  unfold sendPre woB
  iintro ⟨⟨#HR, ⟨T5, L5, S5⟩, ⟨T6, L6, S6⟩, HO, O, WO, A⟩, Hk⟩
  iapply (wp_send3 I K c 5 33 rfl (dev34_eq c) rfl rfl) $$ [T5 L5 S5 HO]
  · iframe ∗ #
  iintro ⟨F5, HO⟩
  iapply (wp_send3 I K c 6 34 rfl (dev35_eq c) rfl rfl) $$ [T6 L6 S6 HO]
  · iframe ∗ #
  iintro ⟨F6, HO⟩
  iapply (wp_ldS c (m := Memref.whole cc0_scratch11) (f := OG I c) (q := rest) (S := (ogM 0).view.set) (ogAt I c 0) (sub_og 0 rfl rfl) rfl) $$ [O]
  · iexact O
  iintro O
  iapply (wp_ld c (f := k0_pay29 (I.wo c)) (q := fullShare) (woAt0 I c) rfl) $$ [WO]
  · iframe
  iintro WO
  iapply (wp_ld c _ (Memref.read_access_unit_zero _ _ z2 _ _)) $$ [A]
  · iframe
  iintro A
  rw [wp_ret]; imodintro; iapply Hk; iframe

theorem part28_run (v2 : BitVec 32) (f : FVec F S512x1024 .f32) (Kt : PUnit → sProp (MT nD τ sig Unit (Elt F) ℕ UU ℕ)) :
    iprop((recs I K ∗ rcvTok (F := F) c 3 0 ∗ own (Memref.whole cc0_stg8_0) c fullShare f ∗ woB I c ∗ Owe c 35)
        ∗ (got I c 3 0 ∗ own (Memref.whole cc0_stg8_0) c fullShare (AC1 I c) ∗ woB I c ∗ Owe c 35 -∗ Kt ⟨⟩))
      ⊢ wp frame (wpE (defs₀ (F := F)) 𝒱₀ (c : Thread nD τ) none) Set.univ (app (k0_part28 (F := F)) c v2 (k0_pay38 (ogAt I c 0) (woAt0 I c))) Kt := by
  simp only [app, k0_part28_eq_skeleton]; unfold k0_part28_skel
  simp only [Prog.lift, Prog.bind_op, Prog.bind_ret, Prog.pure_eq_ret]
  unfold got woB
  iintro ⟨⟨#HR, R0, A, WO, HO⟩, Hk⟩
  iapply (wp_st c (AC0 I c) (Memref.write_access_unit_zero_univ _ _ z2 _ _ _)) $$ [A]
  · iframe
  iintro A
  iapply (wp_recvWait3 I K c 0 rfl (credit_big _)) $$ [R0 HO]
  · iframe ∗ #
  iintro ⟨HO, P0, R0⟩
  ihave R0 := (Entails.of_eq (landed3 I c 0)) $$ R0
  iapply (wp_ld c _ (Memref.read_access_unit_zero _ _ z2 _ _)) $$ [A]
  · iframe
  iintro A
  iapply (wp_ldS c (m := Memref.whole cc0_scratch11) (f := OG I c) (q := fullShare) (S := (ogM (Fin.succ 0)).view.set) (ogAt I c (Fin.succ 0)) (sub_og (Fin.succ 0) rfl rfl) rfl) $$ [R0]
  · iexact R0
  iintro R0
  iapply (wp_ld c (f := k0_pay29 (I.wo c)) (q := fullShare) (woAt I c 0) rfl) $$ [WO]
  · iframe
  iintro WO
  iapply (wp_ld c _ (Memref.read_access_unit_zero _ _ z2 _ _)) $$ [A]
  · iframe
  iintro A
  iapply (wp_st c (AC1 I c) (Memref.write_access_unit_zero_univ _ _ z2 _ _ _)) $$ [A]
  · iframe
  iintro A
  ihave R0 := (Entails.of_eq (landed3 I c 0).symm) $$ R0
  rw [wp_ret]; imodintro; iapply Hk; iframe

theorem part29_run (v2 : BitVec 32) (Kt : BitVec 32 → sProp (MT nD τ sig Unit (Elt F) ℕ UU ℕ)) :
    iprop((recs I K ∗ rcvTok (F := F) c 3 1 ∗ rcvTok (F := F) c 3 2 ∗ own (Memref.whole cc0_stg8_0) c fullShare (AC1 I c) ∗ woB I c ∗ Owe c 35)
        ∗ (∀ v, got I c 3 1 ∗ got I c 3 2 ∗ own (Memref.whole cc0_stg8_0) c fullShare (AC2 I c) ∗ woB I c ∗ Owe c 35 -∗ Kt v))
      ⊢ wp frame (wpE (defs₀ (F := F)) 𝒱₀ (c : Thread nD τ) none) Set.univ (app (k0_part29 (F := F)) c v2) Kt := by
  simp only [app, k0_part29_eq_skeleton]; unfold k0_part29_skel
  simp only [Prog.lift, Prog.bind_op, Prog.bind_ret, Prog.pure_eq_ret]
  unfold got woB
  iintro ⟨⟨#HR, R1, R2, A, WO, HO⟩, Hk⟩
  iapply (wp_recvWait3 I K c 1 rfl (credit_big _)) $$ [R1 HO]
  · iframe ∗ #
  iintro ⟨HO, P1, R1⟩
  ihave R1 := (Entails.of_eq (landed3 I c 1)) $$ R1
  iapply (wp_ld c _ (Memref.read_access_unit_zero _ _ z2 _ _)) $$ [A]
  · iframe
  iintro A
  iapply (wp_ldS c (m := Memref.whole cc0_scratch11) (f := OG I c) (q := fullShare) (S := (ogM (Fin.succ 1)).view.set) (ogAt I c (Fin.succ 1)) (sub_og (Fin.succ 1) rfl rfl) rfl) $$ [R1]
  · iexact R1
  iintro R1
  iapply (wp_ld c (f := k0_pay29 (I.wo c)) (q := fullShare) (woAt I c 1) rfl) $$ [WO]
  · iframe
  iintro WO
  iapply (wp_ld c _ (Memref.read_access_unit_zero _ _ z2 _ _)) $$ [A]
  · iframe
  iintro A
  iapply (wp_st c (AC2 I c) (Memref.write_access_unit_zero_univ _ _ z2 _ _ _)) $$ [A]
  · iframe
  iintro A
  ihave R1 := (Entails.of_eq (landed3 I c 1).symm) $$ R1
  iapply (wp_recvWait3 I K c 2 rfl (credit_big _)) $$ [R2 HO]
  · iframe ∗ #
  iintro ⟨HO, P2, R2⟩
  rw [wp_ret]; imodintro; iapply Hk; iframe

theorem part30_run (v2 v : BitVec 32) (Kt : (Σ' (v802 : FVec F S512x1024 .f32), FVec F S512x1024 .f32) → sProp (MT nD τ sig Unit (Elt F) ℕ UU ℕ)) :
    iprop((recs I K ∗ landed I c 3 2 ∗ rcvTok (F := F) c 3 3 ∗ own (Memref.whole cc0_stg8_0) c fullShare (AC2 I c) ∗ woB I c ∗ Owe c 35)
        ∗ (landed I c 3 2 ∗ got I c 3 3 ∗ own (Memref.whole cc0_stg8_0) c fullShare (AC3 I c) ∗ woB I c ∗ Owe c 35 -∗ Kt ⟨k0_pay42 (AC3 I c), k0_pay43 (ogAt I c (Fin.succ 3)) (woAt I c 3)⟩))
      ⊢ wp frame (wpE (defs₀ (F := F)) 𝒱₀ (c : Thread nD τ) none) Set.univ (app (k0_part30 (F := F)) c v2 v) Kt := by
  simp only [app, k0_part30_eq_skeleton]; unfold k0_part30_skel
  simp only [Prog.lift, Prog.bind_op, Prog.bind_ret, Prog.pure_eq_ret]
  unfold got woB
  iintro ⟨⟨#HR, R2, R3, A, WO, HO⟩, Hk⟩
  ihave R2 := (Entails.of_eq (landed3 I c 2)) $$ R2
  iapply (wp_ld c _ (Memref.read_access_unit_zero _ _ z2 _ _)) $$ [A]
  · iframe
  iintro A
  iapply (wp_ldS c (m := Memref.whole cc0_scratch11) (f := OG I c) (q := fullShare) (S := (ogM (Fin.succ 2)).view.set) (ogAt I c (Fin.succ 2)) (sub_og (Fin.succ 2) rfl rfl) rfl) $$ [R2]
  · iexact R2
  iintro R2
  iapply (wp_ld c (f := k0_pay29 (I.wo c)) (q := fullShare) (woAt I c 2) rfl) $$ [WO]
  · iframe
  iintro WO
  iapply (wp_ld c _ (Memref.read_access_unit_zero _ _ z2 _ _)) $$ [A]
  · iframe
  iintro A
  iapply (wp_st c (AC3 I c) (Memref.write_access_unit_zero_univ _ _ z2 _ _ _)) $$ [A]
  · iframe
  iintro A
  ihave R2 := (Entails.of_eq (landed3 I c 2).symm) $$ R2
  iapply (wp_recvWait3 I K c 3 rfl (credit_big _)) $$ [R3 HO]
  · iframe ∗ #
  iintro ⟨HO, P3, R3⟩
  ihave R3 := (Entails.of_eq (landed3 I c 3)) $$ R3
  iapply (wp_ld c _ (Memref.read_access_unit_zero _ _ z2 _ _)) $$ [A]
  · iframe
  iintro A
  iapply (wp_ldS c (m := Memref.whole cc0_scratch11) (f := OG I c) (q := fullShare) (S := (ogM (Fin.succ 3)).view.set) (ogAt I c (Fin.succ 3)) (sub_og (Fin.succ 3) rfl rfl) rfl) $$ [R3]
  · iexact R3
  iintro R3
  iapply (wp_ld c (f := k0_pay29 (I.wo c)) (q := fullShare) (woAt I c 3) rfl) $$ [WO]
  · iframe
  iintro WO
  ihave R3 := (Entails.of_eq (landed3 I c 3).symm) $$ R3
  rw [wp_ret]; imodintro; iapply Hk; iframe

theorem part31_run (v2 : BitVec 32) (Kt : (Σ' (v831 : BitVec 32), BitVec 32) → sProp (MT nD τ sig Unit (Elt F) ℕ UU ℕ)) :
    iprop((recs I K ∗ rcvTok (F := F) c 3 4 ∗ own (Memref.whole cc0_stg8_0) c fullShare (AC3 I c) ∗ woB I c ∗ Owe c 35)
        ∗ (∀ v, got I c 3 4 ∗ own (Memref.whole cc0_stg8_0) c fullShare (AC5 I c) ∗ woB I c ∗ Owe c 35 -∗ Kt v))
      ⊢ wp frame (wpE (defs₀ (F := F)) 𝒱₀ (c : Thread nD τ) none) Set.univ (app (k0_part31 (F := F)) c v2 (k0_pay42 (AC3 I c)) (k0_pay43 (ogAt I c (Fin.succ 3)) (woAt I c 3))) Kt := by
  simp only [app, k0_part31_eq_skeleton]; unfold k0_part31_skel
  simp only [Prog.lift, Prog.bind_op, Prog.bind_ret, Prog.pure_eq_ret]
  unfold got woB
  iintro ⟨⟨#HR, R4, A, WO, HO⟩, Hk⟩
  iapply (wp_ld c _ (Memref.read_access_unit_zero _ _ z2 _ _)) $$ [A]
  · iframe
  iintro A
  iapply (wp_st c (AC4 I c) (Memref.write_access_unit_zero_univ _ _ z2 _ _ _)) $$ [A]
  · iframe
  iintro A
  iapply (wp_recvWait3 I K c 4 rfl (credit_big _)) $$ [R4 HO]
  · iframe ∗ #
  iintro ⟨HO, P4, R4⟩
  ihave R4 := (Entails.of_eq (landed3 I c 4)) $$ R4
  iapply (wp_ld c _ (Memref.read_access_unit_zero _ _ z2 _ _)) $$ [A]
  · iframe
  iintro A
  iapply (wp_ldS c (m := Memref.whole cc0_scratch11) (f := OG I c) (q := fullShare) (S := (ogM (Fin.succ 4)).view.set) (ogAt I c (Fin.succ 4)) (sub_og (Fin.succ 4) rfl rfl) rfl) $$ [R4]
  · iexact R4
  iintro R4
  iapply (wp_ld c (f := k0_pay29 (I.wo c)) (q := fullShare) (woAt I c 4) rfl) $$ [WO]
  · iframe
  iintro WO
  iapply (wp_ld c _ (Memref.read_access_unit_zero _ _ z2 _ _)) $$ [A]
  · iframe
  iintro A
  iapply (wp_st c (AC5 I c) (Memref.write_access_unit_zero_univ _ _ z2 _ _ _)) $$ [A]
  · iframe
  iintro A
  ihave R4 := (Entails.of_eq (landed3 I c 4).symm) $$ R4
  rw [wp_ret]; imodintro; iapply Hk; iframe

theorem part32_run (v2 v w : BitVec 32) (Kt : BitVec 32 → sProp (MT nD τ sig Unit (Elt F) ℕ UU ℕ)) :
    iprop((recs I K ∗ rcvTok (F := F) c 3 5 ∗ rcvTok (F := F) c 3 6 ∗ own (Memref.whole cc0_stg8_0) c fullShare (AC5 I c) ∗ woB I c ∗ Owe c 35)
        ∗ (∀ v, got I c 3 5 ∗ got I c 3 6 ∗ own (Memref.whole cc0_stg8_0) c fullShare (AC6 I c) ∗ woB I c ∗ Owe c 35 -∗ Kt v))
      ⊢ wp frame (wpE (defs₀ (F := F)) 𝒱₀ (c : Thread nD τ) none) Set.univ (app (k0_part32 (F := F)) c v2 v w) Kt := by
  simp only [app, k0_part32_eq_skeleton]; unfold k0_part32_skel
  simp only [Prog.lift, Prog.bind_op, Prog.bind_ret, Prog.pure_eq_ret]
  unfold got woB
  iintro ⟨⟨#HR, R5, R6, A, WO, HO⟩, Hk⟩
  iapply (wp_recvWait3 I K c 5 rfl (credit_big _)) $$ [R5 HO]
  · iframe ∗ #
  iintro ⟨HO, P5, R5⟩
  ihave R5 := (Entails.of_eq (landed3 I c 5)) $$ R5
  iapply (wp_ld c _ (Memref.read_access_unit_zero _ _ z2 _ _)) $$ [A]
  · iframe
  iintro A
  iapply (wp_ldS c (m := Memref.whole cc0_scratch11) (f := OG I c) (q := fullShare) (S := (ogM (Fin.succ 5)).view.set) (ogAt I c (Fin.succ 5)) (sub_og (Fin.succ 5) rfl rfl) rfl) $$ [R5]
  · iexact R5
  iintro R5
  iapply (wp_ld c (f := k0_pay29 (I.wo c)) (q := fullShare) (woAt I c 5) rfl) $$ [WO]
  · iframe
  iintro WO
  iapply (wp_ld c _ (Memref.read_access_unit_zero _ _ z2 _ _)) $$ [A]
  · iframe
  iintro A
  iapply (wp_st c (AC6 I c) (Memref.write_access_unit_zero_univ _ _ z2 _ _ _)) $$ [A]
  · iframe
  iintro A
  ihave R5 := (Entails.of_eq (landed3 I c 5).symm) $$ R5
  iapply (wp_recvWait3 I K c 6 rfl (credit_big _)) $$ [R6 HO]
  · iframe ∗ #
  iintro ⟨HO, P6, R6⟩
  rw [wp_ret]; imodintro; iapply Hk; iframe

theorem part33_run (v : BitVec 32) (Kt : PUnit → sProp (MT nD τ sig Unit (Elt F) ℕ UU ℕ)) :
    iprop((recs I K ∗ landed I c 3 6 ∗ flying (F := F) c 0 0 ∗ flying (F := F) c 1 0 ∗ own (Memref.whole cc0_stg8_0) c fullShare (AC6 I c) ∗ woB I c ∗ Owe c 35)
        ∗ (landed I c 3 6 ∗ back I c 0 0 ∗ back I c 1 0 ∗ own (Memref.whole cc0_stg8_0) c fullShare (AC7 I c) ∗ woB I c ∗ Owe c 35 -∗ Kt ⟨⟩))
      ⊢ wp frame (wpE (defs₀ (F := F)) 𝒱₀ (c : Thread nD τ) none) Set.univ (app (k0_part33 (F := F)) c v) Kt := by
  simp only [app, k0_part33_eq_skeleton]; unfold k0_part33_skel
  simp only [Prog.lift, Prog.bind_op, Prog.bind_ret, Prog.pure_eq_ret]
  unfold back woB
  iintro ⟨⟨#HR, R6, F00, F10, A, WO, HO⟩, Hk⟩
  ihave R6 := (Entails.of_eq (landed3 I c 6)) $$ R6
  iapply (wp_ld c _ (Memref.read_access_unit_zero _ _ z2 _ _)) $$ [A]
  · iframe
  iintro A
  iapply (wp_ldS c (m := Memref.whole cc0_scratch11) (f := OG I c) (q := fullShare) (S := (ogM (Fin.succ 6)).view.set) (ogAt I c (Fin.succ 6)) (sub_og (Fin.succ 6) rfl rfl) rfl) $$ [R6]
  · iexact R6
  iintro R6
  iapply (wp_ld c (f := k0_pay29 (I.wo c)) (q := fullShare) (woAt I c 6) rfl) $$ [WO]
  · iframe
  iintro WO
  iapply (wp_ld c _ (Memref.read_access_unit_zero _ _ z2 _ _)) $$ [A]
  · iframe
  iintro A
  iapply (wp_st c (AC7 I c) (Memref.write_access_unit_zero_univ _ _ z2 _ _ _)) $$ [A]
  · iframe
  iintro A
  ihave R6 := (Entails.of_eq (landed3 I c 6).symm) $$ R6
  iapply (wp_sendWait I K c 0 0 rfl (credit_big _)) $$ [F00 HO]
  · iframe ∗ #
  iintro ⟨HO, F00⟩
  iapply (wp_sendWait I K c 1 0 rfl (credit_small _)) $$ [F10 HO]
  · iframe ∗ #
  iintro ⟨HO, F10⟩
  rw [wp_ret]; imodintro; iapply Hk; iframe

theorem part34_run (Kt : PUnit → sProp (MT nD τ sig Unit (Elt F) ℕ UU ℕ)) :
    iprop((recs I K ∗ flying (F := F) c 2 0 ∗ flying (F := F) c 0 1 ∗ flying (F := F) c 1 1 ∗ flying (F := F) c 2 1 ∗ flying (F := F) c 0 2 ∗ Owe c 35)
        ∗ (back I c 2 0 ∗ back I c 0 1 ∗ back I c 1 1 ∗ back I c 2 1 ∗ back I c 0 2 ∗ Owe c 35 -∗ Kt ⟨⟩))
      ⊢ wp frame (wpE (defs₀ (F := F)) 𝒱₀ (c : Thread nD τ) none) Set.univ (app (k0_part34 (F := F)) c) Kt := by
  simp only [app, k0_part34_eq_skeleton]; unfold k0_part34_skel
  simp only [Prog.lift, Prog.bind_op, Prog.bind_ret, Prog.pure_eq_ret]
  unfold back
  iintro ⟨⟨#HR, F20, F01, F11, F21, F02, HO⟩, Hk⟩
  iapply (wp_sendWait I K c 2 0 rfl (credit_small _)) $$ [F20 HO]
  · iframe ∗ #
  iintro ⟨HO, F20⟩
  iapply (wp_sendWait I K c 0 1 rfl (credit_big _)) $$ [F01 HO]
  · iframe ∗ #
  iintro ⟨HO, F01⟩
  iapply (wp_sendWait I K c 1 1 rfl (credit_small _)) $$ [F11 HO]
  · iframe ∗ #
  iintro ⟨HO, F11⟩
  iapply (wp_sendWait I K c 2 1 rfl (credit_small _)) $$ [F21 HO]
  · iframe ∗ #
  iintro ⟨HO, F21⟩
  iapply (wp_sendWait I K c 0 2 rfl (credit_big _)) $$ [F02 HO]
  · iframe ∗ #
  iintro ⟨HO, F02⟩
  rw [wp_ret]; imodintro; iapply Hk; iframe

theorem part35_run (Kt : PUnit → sProp (MT nD τ sig Unit (Elt F) ℕ UU ℕ)) :
    iprop((recs I K ∗ flying (F := F) c 1 2 ∗ flying (F := F) c 2 2 ∗ flying (F := F) c 0 3 ∗ flying (F := F) c 1 3 ∗ flying (F := F) c 2 3 ∗ Owe c 35)
        ∗ (back I c 1 2 ∗ back I c 2 2 ∗ back I c 0 3 ∗ back I c 1 3 ∗ back I c 2 3 ∗ Owe c 35 -∗ Kt ⟨⟩))
      ⊢ wp frame (wpE (defs₀ (F := F)) 𝒱₀ (c : Thread nD τ) none) Set.univ (app (k0_part35 (F := F)) c) Kt := by
  simp only [app, k0_part35_eq_skeleton]; unfold k0_part35_skel
  simp only [Prog.lift, Prog.bind_op, Prog.bind_ret, Prog.pure_eq_ret]
  unfold back
  iintro ⟨⟨#HR, F12, F22, F03, F13, F23, HO⟩, Hk⟩
  iapply (wp_sendWait I K c 1 2 rfl (credit_small _)) $$ [F12 HO]
  · iframe ∗ #
  iintro ⟨HO, F12⟩
  iapply (wp_sendWait I K c 2 2 rfl (credit_small _)) $$ [F22 HO]
  · iframe ∗ #
  iintro ⟨HO, F22⟩
  iapply (wp_sendWait I K c 0 3 rfl (credit_big _)) $$ [F03 HO]
  · iframe ∗ #
  iintro ⟨HO, F03⟩
  iapply (wp_sendWait I K c 1 3 rfl (credit_small _)) $$ [F13 HO]
  · iframe ∗ #
  iintro ⟨HO, F13⟩
  iapply (wp_sendWait I K c 2 3 rfl (credit_small _)) $$ [F23 HO]
  · iframe ∗ #
  iintro ⟨HO, F23⟩
  rw [wp_ret]; imodintro; iapply Hk; iframe

theorem part36_run (Kt : PUnit → sProp (MT nD τ sig Unit (Elt F) ℕ UU ℕ)) :
    iprop((recs I K ∗ flying (F := F) c 0 4 ∗ flying (F := F) c 1 4 ∗ flying (F := F) c 2 4 ∗ flying (F := F) c 0 5 ∗ flying (F := F) c 1 5 ∗ Owe c 35)
        ∗ (back I c 0 4 ∗ back I c 1 4 ∗ back I c 2 4 ∗ back I c 0 5 ∗ back I c 1 5 ∗ Owe c 35 -∗ Kt ⟨⟩))
      ⊢ wp frame (wpE (defs₀ (F := F)) 𝒱₀ (c : Thread nD τ) none) Set.univ (app (k0_part36 (F := F)) c) Kt := by
  simp only [app, k0_part36_eq_skeleton]; unfold k0_part36_skel
  simp only [Prog.lift, Prog.bind_op, Prog.bind_ret, Prog.pure_eq_ret]
  unfold back
  iintro ⟨⟨#HR, F04, F14, F24, F05, F15, HO⟩, Hk⟩
  iapply (wp_sendWait I K c 0 4 rfl (credit_big _)) $$ [F04 HO]
  · iframe ∗ #
  iintro ⟨HO, F04⟩
  iapply (wp_sendWait I K c 1 4 rfl (credit_small _)) $$ [F14 HO]
  · iframe ∗ #
  iintro ⟨HO, F14⟩
  iapply (wp_sendWait I K c 2 4 rfl (credit_small _)) $$ [F24 HO]
  · iframe ∗ #
  iintro ⟨HO, F24⟩
  iapply (wp_sendWait I K c 0 5 rfl (credit_big _)) $$ [F05 HO]
  · iframe ∗ #
  iintro ⟨HO, F05⟩
  iapply (wp_sendWait I K c 1 5 rfl (credit_small _)) $$ [F15 HO]
  · iframe ∗ #
  iintro ⟨HO, F15⟩
  rw [wp_ret]; imodintro; iapply Hk; iframe

theorem part37_run (Kt : PUnit → sProp (MT nD τ sig Unit (Elt F) ℕ UU ℕ)) :
    iprop((recs I K ∗ flying (F := F) c 2 5 ∗ flying (F := F) c 0 6 ∗ flying (F := F) c 1 6 ∗ flying (F := F) c 2 6 ∗ Owe c 35)
        ∗ (back I c 2 5 ∗ back I c 0 6 ∗ back I c 1 6 ∗ back I c 2 6 ∗ Owe c 35 -∗ Kt ⟨⟩))
      ⊢ wp frame (wpE (defs₀ (F := F)) 𝒱₀ (c : Thread nD τ) none) Set.univ (app (k0_part37 (F := F)) c) Kt := by
  simp only [app, k0_part37_eq_skeleton]; unfold k0_part37_skel
  simp only [Prog.lift, Prog.bind_op, Prog.bind_ret, Prog.pure_eq_ret]
  unfold back
  iintro ⟨⟨#HR, F25, F06, F16, F26, HO⟩, Hk⟩
  iapply (wp_sendWait I K c 2 5 rfl (credit_small _)) $$ [F25 HO]
  · iframe ∗ #
  iintro ⟨HO, F25⟩
  iapply (wp_sendWait I K c 0 6 rfl (credit_big _)) $$ [F06 HO]
  · iframe ∗ #
  iintro ⟨HO, F06⟩
  iapply (wp_sendWait I K c 1 6 rfl (credit_small _)) $$ [F16 HO]
  · iframe ∗ #
  iintro ⟨HO, F16⟩
  iapply (wp_sendWait I K c 2 6 rfl (credit_small _)) $$ [F26 HO]
  · iframe ∗ #
  iintro ⟨HO, F26⟩
  rw [wp_ret]; imodintro; iapply Hk; iframe

theorem part38_run (Kt : PUnit → sProp (MT nD τ sig Unit (Elt F) ℕ UU ℕ)) :
    iprop((recs I K ∗ flying (F := F) c 3 0 ∗ flying (F := F) c 3 1 ∗ flying (F := F) c 3 2 ∗ Owe c 35)
        ∗ (back I c 3 0 ∗ back I c 3 1 ∗ back I c 3 2 ∗ Owe c 35 -∗ Kt ⟨⟩))
      ⊢ wp frame (wpE (defs₀ (F := F)) 𝒱₀ (c : Thread nD τ) none) Set.univ (app (k0_part38 (F := F))) Kt := by
  simp only [app, k0_part38_eq_skeleton]; unfold k0_part38_skel
  simp only [Prog.lift, Prog.bind_op, Prog.bind_ret, Prog.pure_eq_ret]
  unfold back
  iintro ⟨⟨#HR, F30, F31, F32, HO⟩, Hk⟩
  iapply (wp_sendWait I K c 3 0 rfl (credit_big _)) $$ [F30 HO]
  · iframe ∗ #
  iintro ⟨HO, F30⟩
  iapply (wp_sendWait I K c 3 1 rfl (credit_big _)) $$ [F31 HO]
  · iframe ∗ #
  iintro ⟨HO, F31⟩
  iapply (wp_sendWait I K c 3 2 rfl (credit_big _)) $$ [F32 HO]
  · iframe ∗ #
  iintro ⟨HO, F32⟩
  rw [wp_ret]; imodintro; iapply Hk; iframe

end Cert.KernelIdeal.Mla

end
-- ==== Proof.I.Turns.lean ====
/-
  Between the kernel's parts: how what one part leaves becomes what the next one takes.
-/
module

public import proofs.«01_k».proof.Proof.I.Body3

@[expose] public section

noncomputable section

namespace Cert.KernelIdeal.Mla

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen
open Idealize.ShloMosaic.ValueIdx

variable {F : FTy → Type} [FloatOps F] [Named F]

local notation "𝕄" => MT nD τ sig Unit (Elt F) ℕ UU ℕ

variable (I : Ins F) (K : GSem nD τ sig → ℕ) (c : Dev nD)

section
variable (Φ Ψ Θ Υ : Fin 7 → sProp (MT nD τ sig Unit (Elt F) ℕ UU ℕ))

/-- Two families side by side, apart and together. -/
theorem two : (bigSep (Finset.univ : Finset (Fin 7)) fun i => iprop(Φ i ∗ Ψ i)) = iprop((bigSep (Finset.univ : Finset (Fin 7)) fun i => Φ i) ∗ (bigSep (Finset.univ : Finset (Fin 7)) fun i => Ψ i)) := bigSep_sep (s := Finset.univ) (Φ := Φ) (Ψ := Ψ)
/-- Four families side by side, apart and together. -/
theorem four : (bigSep (Finset.univ : Finset (Fin 7)) fun i => iprop(Φ i ∗ Ψ i ∗ Θ i ∗ Υ i)) = iprop((bigSep (Finset.univ : Finset (Fin 7)) fun i => Φ i) ∗ (bigSep (Finset.univ : Finset (Fin 7)) fun i => Ψ i) ∗ (bigSep (Finset.univ : Finset (Fin 7)) fun i => Θ i) ∗ (bigSep (Finset.univ : Finset (Fin 7)) fun i => Υ i)) := by
  rw [two Φ (fun i => iprop(Ψ i ∗ Θ i ∗ Υ i)), two Ψ (fun i => iprop(Θ i ∗ Υ i)), two Θ Υ]
theorem three : (bigSep (Finset.univ : Finset (Fin 7)) fun i => iprop(Φ i ∗ Ψ i ∗ Θ i)) = iprop((bigSep (Finset.univ : Finset (Fin 7)) fun i => Φ i) ∗ (bigSep (Finset.univ : Finset (Fin 7)) fun i => Ψ i) ∗ (bigSep (Finset.univ : Finset (Fin 7)) fun i => Θ i)) := by
  rw [two Φ (fun i => iprop(Ψ i ∗ Θ i)), two Ψ Θ]
end

/-- What c needs for its signals, its copies to the peers, and its waits for the peers' copies. -/
def sigs : sProp 𝕄 := (bigSep (Finset.univ : Finset (Fin 7)) fun i => sigTok (F := F) c i)
@[inherit_doc sigs] def outTok (b : Fin 4) : sProp 𝕄 := (bigSep (Finset.univ : Finset (Fin 7)) fun i => sendTok (F := F) c b i)
@[inherit_doc sigs] def inTok (b : Fin 4) : sProp 𝕄 := (bigSep (Finset.univ : Finset (Fin 7)) fun i => rcvTok (F := F) c b i)

/-- Everything c needs to send the copies of kind b. -/
def ready (b : Fin 4) : sProp 𝕄 := (bigSep (Finset.univ : Finset (Fin 7)) fun i => sendPre I c b i)
/-- The landing places of the copies of kind b. -/
def aim (b : Fin 4) : sProp 𝕄 := (bigSep (Finset.univ : Finset (Fin 7)) fun i => slot (F := F) c b i)
/-- The send cells of kind b past their round, the receive cells, and the local copies' cells. -/
def sentPast (b : Fin 4) : sProp 𝕄 := (bigSep (Finset.univ : Finset (Fin 7)) fun i => past (F := F) c (.dma (sendS b i)))
@[inherit_doc sentPast] def gotPast (b : Fin 4) : sProp 𝕄 := (bigSep (Finset.univ : Finset (Fin 7)) fun i => past (F := F) c (.dma (recvS b i)))
@[inherit_doc sentPast] def locPast : sProp 𝕄 := iprop(past (F := F) c (.dma (locS 0)) ∗ past (F := F) c (.dma (locS 1)) ∗ past (F := F) c (.dma (locS 2)))

theorem sigs_all : sigs (F := F) c = iprop(sigTok (F := F) c 0 ∗ sigTok (F := F) c 1 ∗ sigTok (F := F) c 2 ∗ sigTok (F := F) c 3 ∗ sigTok (F := F) c 4 ∗ sigTok (F := F) c 5 ∗ sigTok (F := F) c 6) := bigSep_fin7 _
theorem inTok_all (b : Fin 4) : inTok (F := F) c b = iprop(rcvTok (F := F) c b 0 ∗ rcvTok (F := F) c b 1 ∗ rcvTok (F := F) c b 2 ∗ rcvTok (F := F) c b 3 ∗ rcvTok (F := F) c b 4 ∗ rcvTok (F := F) c b 5 ∗ rcvTok (F := F) c b 6) := bigSep_fin7 _
theorem ready_all (b : Fin 4) : ready I c b = iprop(sendPre I c b 0 ∗ sendPre I c b 1 ∗ sendPre I c b 2 ∗ sendPre I c b 3 ∗ sendPre I c b 4 ∗ sendPre I c b 5 ∗ sendPre I c b 6) := bigSep_fin7 _

theorem slots_aim : slots (F := F) c = iprop(aim (F := F) c 0 ∗ aim (F := F) c 1 ∗ aim (F := F) c 2 ∗ aim (F := F) c 3) := four _ _ _ _

theorem ready_of (b : Fin 4) (S : Fin 7 → sProp (MT nD τ sig Unit (Elt F) ℕ UU ℕ)) (hS : ∀ i, S i = srcPts I c b i) :
    iprop(outTok (F := F) c b ∗ aim (F := F) c b ∗ (bigSep (Finset.univ : Finset (Fin 7)) fun i => S i)) ⊢ ready I c b := by
  rw [show S = fun i => srcPts I c b i from funext hS]
  exact Entails.of_eq (three _ _ _).symm

/-- The latent block shared among its own use and seven copies. -/
theorem ready0 : iprop(outTok (F := F) c 0 ∗ aim (F := F) c 0 ∗ own clM c fullShare (CL I c)) ⊢ iprop(own clM c rest (CL I c) ∗ ready I c 0) := by
  iintro ⟨T, A, H⟩
  ihave H := (Transfers.pointsTo_toks_split fullShare 7) $$ H
  icases H with ⟨H, HS⟩
  isplitl [H]
  · iexact H
  iapply (ready_of I c 0 (fun i => own clM c (tok i) (CL I c)) fun _ => rfl) $$ [T A HS]
  iframe
/-- The cut key projection: c's own piece, and the pieces for its copies. -/
theorem ready1 : iprop(outTok (F := F) c 1 ∗ aim (F := F) c 1 ∗ own (Memref.whole cc0_scratch2) c fullShare (cut (I.uk c))) ⊢ iprop(own (ksM c) c fullShare (cut (I.uk c)) ∗ ready I c 1) := by
  rw [blocks_ks]
  iintro ⟨T, A, H, HS⟩
  isplitl [H]
  · iexact H
  iapply (ready_of I c 1 (fun i => own (ksM (peer c i)) c fullShare (cut (I.uk c))) fun _ => rfl) $$ [T A HS]
  iframe
theorem ready2 : iprop(outTok (F := F) c 2 ∗ aim (F := F) c 2 ∗ (bigSep (Finset.univ : Finset (Fin 7)) fun i => own (vsM (peer c i)) c fullShare (cut (I.uv c)))) ⊢ ready I c 2 :=
  ready_of I c 2 (fun i => own (vsM (peer c i)) c fullShare (cut (I.uv c))) fun _ => rfl
/-- The device's attention output shared among its own use and seven copies. -/
theorem ready3 : iprop(outTok (F := F) c 3 ∗ aim (F := F) c 3 ∗ own (ogM 0) c fullShare (OG I c)) ⊢ iprop(own (ogM 0) c rest (OG I c) ∗ ready I c 3) := by
  iintro ⟨T, A, H⟩
  ihave H := (Transfers.pointsTo_toks_split fullShare 7) $$ H
  icases H with ⟨H, HS⟩
  isplitl [H]
  · iexact H
  iapply (ready_of I c 3 (fun i => own (ogM 0) c (tok i) (OG I c)) fun _ => rfl) $$ [T A HS]
  iframe

/-- The copies of kind b all landed: their cells, and the places. -/
theorem got_all (b : Fin 4) : iprop(got I c b 0 ∗ got I c b 1 ∗ got I c b 2 ∗ got I c b 3 ∗ got I c b 4 ∗ got I c b 5 ∗ got I c b 6) ⊢ iprop(gotPast (F := F) c b ∗ (bigSep (Finset.univ : Finset (Fin 7)) fun i => landed I c b i)) :=
  Entails.of_eq ((bigSep_fin7 fun i => got I c b i).symm.trans (two _ _))
/-- The copies of kind b all done: their cells, and the sources. -/
theorem back_all (b : Fin 4) : iprop(back I c b 0 ∗ back I c b 1 ∗ back I c b 2 ∗ back I c b 3 ∗ back I c b 4 ∗ back I c b 5 ∗ back I c b 6) ⊢ iprop(sentPast (F := F) c b ∗ (bigSep (Finset.univ : Finset (Fin 7)) fun i => srcPts I c b i)) :=
  Entails.of_eq ((bigSep_fin7 fun i => back I c b i).symm.trans (two _ _))

theorem got2_all : iprop(got I c 2 0 ∗ got I c 2 1 ∗ got I c 2 2 ∗ got I c 2 3 ∗ got I c 2 4 ∗ got I c 2 5)
    ⊢ iprop((past (F := F) c (.dma (recvS 2 6)) -∗ gotPast (F := F) c 2) ∗ (landed I c 2 6 -∗ (bigSep (Finset.univ : Finset (Fin 7)) fun i => landed I c 2 i))) := by
  unfold got gotPast
  rw [bigSep_fin7 (fun i => past (F := F) c (.dma (recvS 2 i))), bigSep_fin7 (fun i => landed I c 2 i)]
  iintro ⟨⟨P0, L0⟩, ⟨P1, L1⟩, ⟨P2, L2⟩, ⟨P3, L3⟩, ⟨P4, L4⟩, P5, L5⟩
  isplitl [P0 P1 P2 P3 P4 P5]
  · iintro P6
    iframe
  iintro L6
  iframe

/-- The gathered latent, whole. -/
theorem whole_ca : iprop(own (caM c) c fullShare (CA I) ∗ (bigSep (Finset.univ : Finset (Fin 7)) fun i => landed I c 0 i)) ⊢ own (Memref.whole cc0_scratch1) c fullShare (CA I) :=
  Entails.of_eq (blocks_ca c fullShare (CA I)).symm

theorem gath_pad (w : Dev nD → FVec F S64x1024 .bf16) (z : FVec F S1024x128 .bf16) (i : S1024x128.Idx) (hi : i ∈ pad) : z i = gath c w z i := by
  unfold gath
  rw [dif_neg (Finset.mem_filter.mp hi).2]

/-- The gathered key projection, whole, with the zero rows no device writes; and the value projection. -/
theorem whole_ka : iprop(((c : Thread nD τ).loc cc0_scratch4 ↦[pad]{fullShare} (k0_pay2 : FVec F S1024x128 .bf16)) ∗ own (kaM c) c fullShare (KA I c) ∗ (bigSep (Finset.univ : Finset (Fin 7)) fun i => landed I c 1 i))
    ⊢ own (Memref.whole cc0_scratch4) c fullShare (KA I c) := by
  rw [blocks_ka c fullShare (KA I c), pointsTo_congr (gath_pad c I.uk k0_pay2)]
  exact Entails.refl _
@[inherit_doc whole_ka] theorem whole_va : iprop(((c : Thread nD τ).loc cc0_scratch5 ↦[pad]{fullShare} (k0_pay3 : FVec F S1024x128 .bf16)) ∗ own (vaM c) c fullShare (VA I c) ∗ (bigSep (Finset.univ : Finset (Fin 7)) fun i => landed I c 2 i))
    ⊢ own (Memref.whole cc0_scratch5) c fullShare (VA I c) := by
  rw [blocks_va c fullShare (VA I c), pointsTo_congr (gath_pad c I.uv k0_pay3)]
  exact Entails.refl _

/-- The sources and the outputs whole again. -/
theorem whole_cl : iprop(own clM c rest (CL I c) ∗ (bigSep (Finset.univ : Finset (Fin 7)) fun i => srcPts I c 0 i)) ⊢ own clM c fullShare (CL I c) := Transfers.pointsTo_toks_join fullShare 7
theorem whole_ks : iprop(own (ksM c) c fullShare (cut (I.uk c)) ∗ (bigSep (Finset.univ : Finset (Fin 7)) fun i => srcPts I c 1 i)) ⊢ own (Memref.whole cc0_scratch2) c fullShare (cut (I.uk c)) :=
  Entails.of_eq (blocks_ks c fullShare (cut (I.uk c))).symm
theorem whole_vs : iprop(own (vsM c) c fullShare (cut (I.uv c)) ∗ (bigSep (Finset.univ : Finset (Fin 7)) fun i => srcPts I c 2 i)) ⊢ own (Memref.whole cc0_scratch3) c fullShare (cut (I.uv c)) :=
  Entails.of_eq (blocks_vs c fullShare (cut (I.uv c))).symm
theorem whole_og : iprop((own (ogM 0) c rest (OG I c) ∗ (bigSep (Finset.univ : Finset (Fin 7)) fun i => srcPts I c 3 i)) ∗ (bigSep (Finset.univ : Finset (Fin 7)) fun i => landed I c 3 i)) ⊢ own (Memref.whole cc0_scratch11) c fullShare (OG I c) := by
  rw [blocks_og c fullShare (OG I c)]
  exact sep_mono_left (Transfers.pointsTo_toks_join fullShare 7)

end Cert.KernelIdeal.Mla

end
-- ==== Proof.I.Body4.lean ====
/-
  The kernel's body on one device, from its parts.
-/
module

public import proofs.«01_k».proof.Proof.I.Turns

@[expose] public section

noncomputable section

namespace Cert.KernelIdeal.Mla

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen
open Idealize.ShloMosaic.ValueIdx

variable {F : FTy → Type} [FloatOps F] [Named F]

local notation "𝕄" => MT nD τ sig Unit (Elt F) ℕ UU ℕ

variable (I : Ins F) (K : GSem nD τ sig → ℕ) (c : Dev nD)

/-- The staged arguments. -/
def insS : sProp 𝕄 := iprop(own (Memref.whole cc0_stg0_0) c fullShare (I.x c) ∗ own (Memref.whole cc0_stg1_0) c fullShare (I.wd c)
  ∗ own (Memref.whole cc0_stg2_0) c fullShare (I.uk c) ∗ own (Memref.whole cc0_stg3_0) c fullShare (I.uv c) ∗ staged I c)

/-- The kernel's own buffers, at contents not chosen. -/
def scratch : sProp 𝕄 := iprop(anyOwn (F := F) (Memref.whole cc0_scratch0) c ∗ anyOwn (F := F) (Memref.whole cc0_scratch1) c ∗ anyOwn (F := F) (Memref.whole cc0_scratch2) c ∗ anyOwn (F := F) (Memref.whole cc0_scratch3) c ∗ anyOwn (F := F) (Memref.whole cc0_scratch4) c ∗ anyOwn (F := F) (Memref.whole cc0_scratch5) c ∗ anyOwn (F := F) (Memref.whole cc0_scratch6) c ∗ anyOwn (F := F) (Memref.whole cc0_scratch7) c ∗ anyOwn (F := F) (Memref.whole cc0_scratch8) c ∗ anyOwn (F := F) (Memref.whole cc0_scratch9) c ∗ anyOwn (F := F) (Memref.whole cc0_scratch10) c ∗ anyOwn (F := F) (Memref.whole cc0_scratch11) c ∗ anyOwn (F := F) (Memref.whole cc0_scratch12) c)

/-- What c holds of the protocol when the body starts. -/
def toks : sProp 𝕄 := iprop(sigs (F := F) c ∗ (cred (tallyAt (barCell c) () 7) ∗ atPos ER (barCell c) 0 ∅ 0)
  ∗ (outTok (F := F) c 0 ∗ outTok (F := F) c 1 ∗ outTok (F := F) c 2 ∗ outTok (F := F) c 3)
  ∗ (inTok (F := F) c 0 ∗ inTok (F := F) c 1 ∗ inTok (F := F) c 2 ∗ inTok (F := F) c 3)
  ∗ (locTok (F := F) c 0 ∗ locTok (F := F) c 1 ∗ locTok (F := F) c 2))
/-- And when it is done: every cell past its round. -/
def pasts : sProp 𝕄 := iprop(past (F := F) c (.reg barS)
  ∗ (sentPast (F := F) c 0 ∗ sentPast (F := F) c 1 ∗ sentPast (F := F) c 2 ∗ sentPast (F := F) c 3)
  ∗ (gotPast (F := F) c 0 ∗ gotPast (F := F) c 1 ∗ gotPast (F := F) c 2 ∗ gotPast (F := F) c 3)
  ∗ locPast (F := F) c)

theorem cuts_in (f g : FVec F S8x64x128 .bf16) : iprop(own (Memref.whole cc0_stg2_0) c fullShare (I.uk c) ∗ own (Memref.whole cc0_scratch2) c fullShare f
    ∗ own (Memref.whole cc0_stg3_0) c fullShare (I.uv c) ∗ own (Memref.whole cc0_scratch3) c fullShare g) ⊢ cuts I c 0 0 f g := by
  unfold cuts
  rw [upto_zero, upto_zero]
theorem cuts_out (f g : FVec F S8x64x128 .bf16) : cuts I c 8 7 f g ⊢ iprop(own (Memref.whole cc0_stg2_0) c fullShare (I.uk c) ∗ own (Memref.whole cc0_scratch2) c fullShare (cut (I.uk c))
    ∗ own (Memref.whole cc0_stg3_0) c fullShare (I.uv c) ∗ own (Memref.whole cc0_scratch3) c fullShare (upto 7 (I.uv c) g)) := by
  unfold cuts
  rw [upto_all]
theorem copied_ca : copied I c 0 = iprop(own (caM c) c fullShare (CA I) ∗ own clM c rest (CL I c)) := rfl
theorem copied_ka : copied I c 1 = iprop(own (kaM c) c fullShare (KA I c) ∗ own (ksM c) c fullShare (cut (I.uk c))) := rfl
theorem copied_va : copied I c 2 = iprop(own (vaM c) c fullShare (VA I c) ∗ own (vsM c) c fullShare (cut (I.uv c))) := rfl
theorem sendPre3_in (i : Fin 7) : iprop(sendPre I c 0 i ∗ sendPre I c 1 i ∗ sendPre I c 2 i) ⊢ sendPre3 I c i := Entails.refl _

set_option maxHeartbeats 2000000 in
/-- The body on device c: what it needs, and that it leaves the device's result in the result's staging buffer. -/
theorem body_run (f8 : FVec F S512x1024 .f32) (Kt : PUnit → sProp (MT nD τ sig Unit (Elt F) ℕ UU ℕ)) :
    iprop((recs I K ∗ toks (F := F) c ∗ insS I c ∗ own (Memref.whole cc0_stg8_0) c fullShare f8 ∗ scratch (F := F) c ∗ Owe c 0)
        ∗ (pasts (F := F) c ∗ insS I c ∗ own (Memref.whole cc0_stg8_0) c fullShare (AC7 I c) ∗ scratch (F := F) c ∗ Owe c 35 -∗ Kt ⟨⟩))
      ⊢ wp frame (wpE (defs₀ (F := F)) 𝒱₀ (c : Thread nD τ) none) Set.univ (app (cc0_body (F := F))) Kt := by
  simp only [app, cc0_body_eq_skeleton]; unfold cc0_body_skel
  simp only [k0_part39_eq_skeleton]; unfold k0_part39_skel
  simp only [Prog.lift, wp_bind, wp_pure]
  unfold toks insS scratch anyOwn
  iintro ⟨⟨#HR, ⟨SG, BAR, ⟨T0, T1, T2, T3⟩, ⟨R0, R1, R2, R3⟩, LT⟩, ⟨X, WD, UK, UV, ST⟩, A, ⟨⟨%g0, M0⟩, ⟨%g1, M1⟩, ⟨%g2, M2⟩, ⟨%g3, M3⟩, ⟨%g4, M4⟩, ⟨%g5, M5⟩, ⟨%g6, M6⟩, ⟨%g7, M7⟩, ⟨%g8, M8⟩, ⟨%g9, M9⟩, ⟨%g10, M10⟩, ⟨%g11, M11⟩, ⟨%g12, M12⟩⟩, HO⟩, Hk⟩
  ihave SG := (Entails.of_eq (sigs_all c)) $$ SG
  icases SG with ⟨SG0, SG1, SG2, SG3, SG4, SG5, SG6⟩
  iapply (part1_run I K c _ _ _ _ _)
  isplitl [M1 M4 M5 M11 SG0 SG1 HO]
  · iframe ∗ #
  iintro %v2 ⟨KP, PL, HO⟩
  iapply (part2_run I K c _ _ _)
  isplitl [PL SG2 SG3 SG4 SG5 SG6 BAR X WD M0 HO]
  · iframe ∗ #
  iintro ⟨PB, SL, X, WD, M0, HO⟩
  ihave CU := (cuts_in I c g2 g3) $$ [UK M2 UV M3]
  · iframe
  iapply (part3_run I c _ _ _)
  isplitl [M0 CU]
  · iframe ∗ #
  iintro ⟨M0, CU⟩
  iapply (part4_run I c _ _ _)
  isplitl [CU]
  · iframe ∗ #
  iintro CU
  iapply (part5_run I c _ _ _)
  isplitl [CU]
  · iframe ∗ #
  iintro CU
  ihave CU := (cuts_out I c g2 g3) $$ CU
  icases CU with ⟨UK, M2, UV, M3⟩
  ihave SL := (Entails.of_eq (slots_aim c)) $$ SL
  icases SL with ⟨A0, A1, A2, A3⟩
  ihave M0 := (ready0 I c) $$ [T0 A0 M0]
  · iframe
  icases M0 with ⟨M0, Z0⟩
  ihave M2 := (ready1 I c) $$ [T1 A1 M2]
  · iframe
  icases M2 with ⟨M2, Z1⟩
  ihave Z0 := (Entails.of_eq (ready_all I c 0)) $$ Z0
  icases Z0 with ⟨Z00, Z01, Z02, Z03, Z04, Z05, Z06⟩
  ihave Z1 := (Entails.of_eq (ready_all I c 1)) $$ Z1
  icases Z1 with ⟨Z10, Z11, Z12, Z13, Z14, Z15, Z16⟩
  unfold kept
  icases KP with ⟨KCA, KKA, KVA, KOG, PK, PV⟩
  iapply (part6_run I K c _ g3 _)
  isplitl [M3 LT KCA KKA KVA M0 M2 Z00 HO]
  · iframe ∗ #
  iintro %w6 ⟨LF, F00, M3, HO⟩
  icases LF with ⟨LF0, LF1, LF2⟩
  ihave Z2 := (ready2 I c) $$ [T2 A2 M3]
  · iframe
  ihave Z2 := (Entails.of_eq (ready_all I c 2)) $$ Z2
  icases Z2 with ⟨Z20, Z21, Z22, Z23, Z24, Z25, Z26⟩
  iapply (part7_run I K c _ _ _)
  isplitl [Z10 Z20 HO]
  · iframe ∗ #
  iintro %w7 ⟨F10, F20, HO⟩
  ihave Y := (sendPre3_in I c 1) $$ [Z01 Z11 Z21]
  · iframe
  iapply (part8_run I K c _ _ _)
  isplitl [Y HO]
  · iframe ∗ #
  iintro %w8 ⟨F1, HO⟩
  ihave Y := (sendPre3_in I c 2) $$ [Z02 Z12 Z22]
  · iframe
  iapply (part9_run I K c _ _ _)
  isplitl [Y HO]
  · iframe ∗ #
  iintro %w9 ⟨F2, HO⟩
  ihave Y := (sendPre3_in I c 3) $$ [Z03 Z13 Z23]
  · iframe
  iapply (part10_run I K c _ _ _)
  isplitl [Y HO]
  · iframe ∗ #
  iintro %w10 ⟨F3, HO⟩
  ihave Y := (sendPre3_in I c 4) $$ [Z04 Z14 Z24]
  · iframe
  iapply (part11_run I K c _ _ _ _)
  isplitl [Y HO]
  · iframe ∗ #
  iintro %w11 ⟨F4, HO⟩
  ihave Y := (sendPre3_in I c 5) $$ [Z05 Z15 Z25]
  · iframe
  iapply (part12_run I K c _ _ _)
  isplitl [Y HO]
  · iframe ∗ #
  iintro %w12 ⟨F5, HO⟩
  ihave Y := (sendPre3_in I c 6) $$ [Z06 Z16 Z26]
  · iframe
  iapply (part13_run I K c _ _ _ _)
  isplitl [Y HO]
  · iframe ∗ #
  iintro ⟨F6, HO⟩
  iapply (part14_run I K c _ _ _ _ _)
  isplitl [ST M8 M9 M10 M12 LF0 HO]
  · iframe ∗ #
  iintro ⟨ST, PR, WO, G0, HO⟩
  ihave R0 := (Entails.of_eq (inTok_all c 0)) $$ R0
  icases R0 with ⟨R00, R01, R02, R03, R04, R05, R06⟩
  ihave R1 := (Entails.of_eq (inTok_all c 1)) $$ R1
  icases R1 with ⟨R10, R11, R12, R13, R14, R15, R16⟩
  ihave R2 := (Entails.of_eq (inTok_all c 2)) $$ R2
  icases R2 with ⟨R20, R21, R22, R23, R24, R25, R26⟩
  ihave R3 := (Entails.of_eq (inTok_all c 3)) $$ R3
  icases R3 with ⟨R30, R31, R32, R33, R34, R35, R36⟩
  iapply (part15_run I K c _ _)
  isplitl [LF1 LF2 R00 R10 HO]
  · iframe ∗ #
  iintro ⟨G1, G2, R00, R10, HO⟩
  iapply (part16_run I K c _ _)
  isplitl [R20 R01 R11 R21 HO]
  · iframe ∗ #
  iintro ⟨R20, R01, R11, R21, HO⟩
  iapply (part17_run I K c _ _)
  isplitl [R02 R12 R22 HO]
  · iframe ∗ #
  iintro ⟨R02, R12, R22, HO⟩
  iapply (part18_run I K c _ _)
  isplitl [R03 R13 R23 R04 HO]
  · iframe ∗ #
  iintro ⟨R03, R13, R23, R04, HO⟩
  iapply (part19_run I K c _ _)
  isplitl [R14 R24 R05 HO]
  · iframe ∗ #
  iintro ⟨R14, R24, R05, HO⟩
  iapply (part20_run I K c _ _)
  isplitl [R15 R25 R06 R16 HO]
  · iframe ∗ #
  iintro ⟨R15, R25, R06, R16, HO⟩
  unfold locGot
  icases G0 with ⟨P0, G0⟩
  icases G1 with ⟨P1, G1⟩
  icases G2 with ⟨P2, G2⟩
  ihave G0 := (Entails.of_eq (copied_ca I c)) $$ G0
  ihave G1 := (Entails.of_eq (copied_ka I c)) $$ G1
  ihave G2 := (Entails.of_eq (copied_va I c)) $$ G2
  icases G0 with ⟨C0, M0⟩
  icases G1 with ⟨C1, M2⟩
  icases G2 with ⟨C2, M3⟩
  ihave G0 := (got_all I c 0) $$ [R00 R01 R02 R03 R04 R05 R06]
  · iframe
  icases G0 with ⟨GP0, G0⟩
  ihave G1 := (got_all I c 1) $$ [R10 R11 R12 R13 R14 R15 R16]
  · iframe
  icases G1 with ⟨GP1, G1⟩
  ihave G2 := (got2_all I c) $$ [R20 R21 R22 R23 R24 R25]
  · iframe
  icases G2 with ⟨GP2, G2⟩
  ihave M1 := (whole_ca I c) $$ [C0 G0]
  · iframe
  ihave M4 := (whole_ka I c) $$ [PK C1 G1]
  · iframe
  iapply (part21_run I K c _ _ _ _ _)
  isplitl [R26 HO M1 M4 PV C2 G2 M6 M7 PR]
  · iframe ∗ #
    iintro L26
    iapply (whole_va I c)
    iframe
    iapply G2 $$ L26
  iintro ⟨R26, HO, GA, KV, PR⟩
  ispecialize GP2 $$ R26
  unfold anyOwn
  icases KOG with ⟨%go, OG⟩
  iapply (part22_run I c _ _)
  isplitl [OG KV PR]
  · iframe ∗ #
  iintro ⟨OG, KV, PR⟩
  iapply (part23_run I c _ _)
  isplitl [OG KV PR]
  · iframe ∗ #
  iintro ⟨OG, KV, PR⟩
  iapply (part24_run I c _ _ _)
  isplitl [OG KV PR]
  · iframe ∗ #
  iintro ⟨OG, KV, PR⟩
  ihave OG := (ready3 I c) $$ [T3 A3 OG]
  · iframe
  icases OG with ⟨OG, Z3⟩
  ihave Z3 := (Entails.of_eq (ready_all I c 3)) $$ Z3
  icases Z3 with ⟨Z30, Z31, Z32, Z33, Z34, Z35, Z36⟩
  iapply (part25_run I K c _ _)
  isplitl [Z30 Z31 Z32 HO]
  · iframe ∗ #
  iintro %w25 ⟨F30, F31, F32, HO⟩
  iapply (part26_run I K c _ _ _ _)
  isplitl [Z33 Z34 HO]
  · iframe ∗ #
  iintro %w26 ⟨F33, F34, HO⟩
  iapply (part27_run I K c _ _ _ _)
  isplitl [Z35 Z36 HO OG WO A]
  · iframe ∗ #
  iintro ⟨F35, F36, HO, OG, WO, A⟩
  iapply (part28_run I K c _ _ _)
  isplitl [R30 A WO HO]
  · iframe ∗ #
  iintro ⟨R30, A, WO, HO⟩
  iapply (part29_run I K c _ _)
  isplitl [R31 R32 A WO HO]
  · iframe ∗ #
  iintro %w29 ⟨R31, R32, A, WO, HO⟩
  unfold got
  icases R32 with ⟨Q2, R32⟩
  iapply (part30_run I K c _ _ _)
  isplitl [R32 R33 A WO HO]
  · iframe ∗ #
  iintro ⟨R32, R33, A, WO, HO⟩
  iapply (part31_run I K c _ _)
  isplitl [R34 A WO HO]
  · iframe ∗ #
  iintro %w31 ⟨R34, A, WO, HO⟩
  iapply (part32_run I K c _ _ _ _)
  isplitl [R35 R36 A WO HO]
  · iframe ∗ #
  iintro %w32 ⟨R35, R36, A, WO, HO⟩
  unfold got
  icases R36 with ⟨Q6, R36⟩
  iapply (part33_run I K c _ _)
  isplitl [R36 F00 F10 A WO HO]
  · iframe ∗ #
  iintro ⟨R36, F00, F10, A, WO, HO⟩
  unfold flying3
  icases F1 with ⟨F01, F11, F21⟩
  icases F2 with ⟨F02, F12, F22⟩
  icases F3 with ⟨F03, F13, F23⟩
  icases F4 with ⟨F04, F14, F24⟩
  icases F5 with ⟨F05, F15, F25⟩
  icases F6 with ⟨F06, F16, F26⟩
  iapply (part34_run I K c _)
  isplitl [F20 F01 F11 F21 F02 HO]
  · iframe ∗ #
  iintro ⟨F20, F01, F11, F21, F02, HO⟩
  iapply (part35_run I K c _)
  isplitl [F12 F22 F03 F13 F23 HO]
  · iframe ∗ #
  iintro ⟨F12, F22, F03, F13, F23, HO⟩
  iapply (part36_run I K c _)
  isplitl [F04 F14 F24 F05 F15 HO]
  · iframe ∗ #
  iintro ⟨F04, F14, F24, F05, F15, HO⟩
  iapply (part37_run I K c _)
  isplitl [F25 F06 F16 F26 HO]
  · iframe ∗ #
  iintro ⟨F25, F06, F16, F26, HO⟩
  iapply (part38_run I K c _)
  isplitl [F30 F31 F32 HO]
  · iframe ∗ #
  iintro ⟨F30, F31, F32, HO⟩
  iapply (wp_sendWait I K c 3 3 rfl (credit_big _)) $$ [F33 HO]
  · iframe ∗ #
  iintro ⟨HO, F33⟩
  rw [wp_ret]; imodintro
  iapply (wp_sendWait I K c 3 4 rfl (credit_big _)) $$ [F34 HO]
  · iframe ∗ #
  iintro ⟨HO, F34⟩
  rw [wp_ret]; imodintro
  imodintro
  iapply (wp_sendWait I K c 3 5 rfl (credit_big _)) $$ [F35 HO]
  · iframe ∗ #
  iintro ⟨HO, F35⟩
  rw [wp_ret]; imodintro
  iapply (wp_sendWait I K c 3 6 rfl (credit_big _)) $$ [F36 HO]
  · iframe ∗ #
  iintro ⟨HO, F36⟩
  rw [wp_ret]; imodintro
  imodintro
  ihave S0 := (back_all I c 0) $$ [F00 F01 F02 F03 F04 F05 F06]
  · unfold back; iframe
  icases S0 with ⟨SP0, S0⟩
  ihave S1 := (back_all I c 1) $$ [F10 F11 F12 F13 F14 F15 F16]
  · unfold back; iframe
  icases S1 with ⟨SP1, S1⟩
  ihave S2 := (back_all I c 2) $$ [F20 F21 F22 F23 F24 F25 F26]
  · unfold back; iframe
  icases S2 with ⟨SP2, S2⟩
  ihave S3 := (back_all I c 3) $$ [F30 F31 F32 F33 F34 F35 F36]
  · unfold back; iframe
  icases S3 with ⟨SP3, S3⟩
  ihave G3 := (got_all I c 3) $$ [Q2 Q6 R30 R31 R32 R33 R34 R35 R36]
  · unfold got; iframe
  icases G3 with ⟨GP3, G3⟩
  ihave M0 := (whole_cl I c) $$ [M0 S0]
  · iframe
  ihave M2 := (whole_ks I c) $$ [M2 S1]
  · iframe
  ihave M3 := (whole_vs I c) $$ [M3 S2]
  · iframe
  ihave M11 := (whole_og I c) $$ [OG S3 G3]
  · iframe
  iapply Hk
  unfold pasts locPast gathered kvB projs woB
  icases GA with ⟨M1, M4, M5⟩
  icases KV with ⟨M6, M7⟩
  icases PR with ⟨M8, M9, M10⟩
  ihave M0 := (own_any c _ _) $$ M0
  ihave M1 := (own_any c _ _) $$ M1
  ihave M2 := (own_any c _ _) $$ M2
  ihave M3 := (own_any c _ _) $$ M3
  ihave M4 := (own_any c _ _) $$ M4
  ihave M5 := (own_any c _ _) $$ M5
  ihave M6 := (own_any c _ _) $$ M6
  ihave M7 := (own_any c _ _) $$ M7
  ihave M8 := (own_any c _ _) $$ M8
  ihave M9 := (own_any c _ _) $$ M9
  ihave M10 := (own_any c _ _) $$ M10
  ihave M11 := (own_any c _ _) $$ M11
  ihave WO := (own_any c _ _) $$ WO
  unfold anyOwn
  iframe

end Cert.KernelIdeal.Mla

end
-- ==== Proof.I.Own.lean ====
/-
  The kernel's own cells as one family: opened together when the call starts, closed together when it ends.
-/
module

public import proofs.«01_k».proof.Proof.I.Body4
public import Idealize.ShloMosaic.Lib.Rounds.Family

@[expose] public section

noncomputable section

namespace Cert.KernelIdeal.Mla

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen
open Idealize.ShloMosaic.ValueIdx

variable {F : FTy → Type} [FloatOps F] [Named F]

local notation "𝕄" => MT nD τ sig Unit (Elt F) ℕ UU ℕ

variable (I : Ins F) (K : GSem nD τ sig → ℕ) (c : Dev nD)

/-- The semaphores the call allocates: of the copies sent, of the copies received, of the local copies. -/
abbrev SK : Type := (Fin 4 × Fin 7) ⊕ (Fin 4 × Fin 7) ⊕ Fin 3
@[inherit_doc SK] abbrev osem : SK → SemLoc sig
  | .inl p => .dma (sendS p.1 p.2)
  | .inr (.inl p) => .dma (recvS p.1 p.2)
  | .inr (.inr l) => .dma (locS l)

/-- Four kinds of seven, one kind after another. -/
theorem fin4_eq (Φ : Fin 4 → sProp (MT nD τ sig Unit (Elt F) ℕ UU ℕ)) : bigSep Finset.univ Φ = iprop(Φ 0 ∗ Φ 1 ∗ Φ 2 ∗ Φ 3) := by
  rw [bigSep_univ_eq_bigSepL [0, 1, 2, 3] (by decide) (by decide)]; rfl
theorem fin3_eq (Φ : Fin 3 → sProp (MT nD τ sig Unit (Elt F) ℕ UU ℕ)) : bigSep Finset.univ Φ = iprop(Φ 0 ∗ Φ 1 ∗ Φ 2) := by
  rw [bigSep_univ_eq_bigSepL [0, 1, 2] (by decide) (by decide)]; rfl

/-- A family over the own semaphores, kind by kind. -/
theorem sk_split (Φ : SemLoc sig → sProp (MT nD τ sig Unit (Elt F) ℕ UU ℕ)) : (bigSep (Finset.univ : Finset SK) fun k => Φ (osem k))
    = iprop((bigSep (Finset.univ : Finset (Fin 4)) fun b => bigSep (Finset.univ : Finset (Fin 7)) fun i => Φ (.dma (sendS b i)))
      ∗ (bigSep (Finset.univ : Finset (Fin 4)) fun b => bigSep (Finset.univ : Finset (Fin 7)) fun i => Φ (.dma (recvS b i)))
      ∗ bigSep (Finset.univ : Finset (Fin 3)) fun l => Φ (.dma (locS l))) := by
  rw [bigSep_univ_sum, bigSep_univ_sum, bigSep_univ_prod, bigSep_univ_prod]
  rfl

theorem inv_own (k : SK) : recs I K ⊢ cellInv ER (sched I) (K ((c : Thread nD τ), osem k)) ((c : Thread nD τ), osem k) := by
  rcases k with ⟨b, i⟩ | ⟨b, i⟩ | l
  · exact (recs_sr I K c b i).trans sep_elim_left
  · exact (recs_sr I K c b i).trans sep_elim_right
  · exact recs_loc I K c l

/-- Every own cell of c, opened at its round. -/
theorem own_open : iprop(recs I K ∗ (bigSep (Finset.univ : Finset SK) fun k => openTok ER ((c : Thread nD τ), osem k)) ∗ Pipeline.ownSems0 osem c)
    ⊢ (|={Set.univ}=> bigSep (Finset.univ : Finset SK) fun k => iprop(atPos ER ((c : Thread nD τ), osem k) 0 ∅ 0 ∗ reached ER ((c : Thread nD τ), osem k) 0) : sProp 𝕄) := by
  unfold Pipeline.ownSems0
  iintro ⟨#HR, HT, HS⟩
  iapply (cells_open ER (sched I) (Finset.univ : Finset SK) (fun k => ((c : Thread nD τ), osem k)) (fun k => K ((c : Thread nD τ), osem k)) (fun _ _ => Set.mem_univ _))
  isplitl [HT]
  · iapply (bigSep_with_persistent (R := recs I K) (Φ := fun k : SK => openTok ER ((c : Thread nD τ), osem k)) fun k _ => sep_mono_left (inv_own I K c k))
    iframe ∗ #
  iexact HS

theorem own_closed : iprop(recs I K ∗ pasts (F := F) c)
    ⊢ (|={Set.univ}=> iprop(semVal (barCell c) 0 ∗ Pipeline.ownSems0 osem c) : sProp 𝕄) := by
  unfold pasts sentPast gotPast locPast Pipeline.ownSems0
  iintro ⟨#HR, HB, HS, HG, HL⟩
  ihave HS := (Entails.of_eq (fin4_eq fun b => bigSep (Finset.univ : Finset (Fin 7)) fun i => past (F := F) c (.dma (sendS b i))).symm) $$ HS
  ihave HG := (Entails.of_eq (fin4_eq fun b => bigSep (Finset.univ : Finset (Fin 7)) fun i => past (F := F) c (.dma (recvS b i))).symm) $$ HG
  ihave HL := (Entails.of_eq (fin3_eq fun l => past (F := F) c (.dma (locS l))).symm) $$ HL
  ihave HA := (Entails.of_eq (sk_split (past (F := F) c)).symm) $$ [HS HG HL]
  · iframe
  ihave #HI := (recs_bar I K c) $$ HR
  icases HI with ⟨HI, -⟩
  imod (Rounds.cell_close ER (sched I) (Set.mem_univ (K (barCell c))) id (duties_later I (barCell c))) $$ [HB] with HB
  · isplitr; · iexact HI
    unfold past
    iexact HB
  imod (cells_close ER (sched I) (Finset.univ : Finset SK) (fun k => ((c : Thread nD τ), osem k)) (fun k => K ((c : Thread nD τ), osem k)) (fun _ _ => Set.mem_univ _)
    (fun _ _ => id) (fun _ => 1) (fun k _ => duties_later I _)) $$ [HA] with HA
  · iapply (bigSep_with_persistent (R := recs I K) (Φ := fun k : SK => past (F := F) c (osem k)) fun k _ => sep_mono_left (inv_own I K c k))
    iframe ∗ #
  imodintro
  iframe

/-- What c holds of the protocol between the launch and the call. -/
def dealt : sProp 𝕄 := iprop((bigSep (Finset.univ : Finset SK) fun k => openTok ER ((c : Thread nD τ), osem k))
  ∗ (cred (tallyAt (barCell c) () 7) ∗ atPos ER (barCell c) 0 ∅ 0)
  ∗ (bigSep (Finset.univ : Finset (Fin 7)) fun i => dutyTok ER (barCell (peer c i)) 0 i)
  ∗ (bigSep (Finset.univ : Finset (Fin 4)) fun b => bigSep (Finset.univ : Finset (Fin 7)) fun i => iprop(dutyTok ER (sendCell c b i) 0 0 ∗ dutyTok ER (recvCell (peer c i) b i.rev) 0 0))
  ∗ (bigSep (Finset.univ : Finset (Fin 3)) fun l => dutyTok ER (locCell c l) 0 0)
  ∗ (bigSep (Finset.univ : Finset (Fin 4)) fun b => bigSep (Finset.univ : Finset (Fin 7)) fun i => cred (tallyAt (recvCell c b i) () (units b))))

theorem sigs_of : iprop((bigSep (Finset.univ : Finset (Fin 7)) fun i => dutyTok ER (barCell (peer c i)) 0 i)
    ∗ (bigSep (Finset.univ : Finset (Fin 4)) fun b => bigSep (Finset.univ : Finset (Fin 7)) fun i => reached ER (recvCell c b i) 0)) ⊢ sigs (F := F) c := by
  rw [fin4_eq, ← four, ← two]
  exact Entails.refl _
theorem sendTok_of (b : Fin 4) (i : Fin 7) : iprop((atPos ER (sendCell c b i) 0 ∅ 0 ∗ reached ER (sendCell c b i) 0) ∗ dutyTok ER (sendCell c b i) 0 0 ∗ dutyTok ER (recvCell (peer c i) b i.rev) 0 0)
    ⊢ sendTok (F := F) c b i := by
  unfold sendTok
  iintro ⟨⟨H1, H2⟩, H3, H4⟩
  iframe
theorem locTok_of1 (l : Fin 3) : iprop((atPos ER (locCell c l) 0 ∅ 0 ∗ reached ER (locCell c l) 0) ∗ dutyTok ER (locCell c l) 0 0) ⊢ locTok (F := F) c l := by
  unfold locTok
  iintro ⟨⟨H1, H2⟩, H3⟩
  iframe
theorem outTok_of : iprop((bigSep (Finset.univ : Finset (Fin 4)) fun b => bigSep (Finset.univ : Finset (Fin 7)) fun i => iprop(atPos ER (sendCell c b i) 0 ∅ 0 ∗ reached ER (sendCell c b i) 0))
    ∗ (bigSep (Finset.univ : Finset (Fin 4)) fun b => bigSep (Finset.univ : Finset (Fin 7)) fun i => iprop(dutyTok ER (sendCell c b i) 0 0 ∗ dutyTok ER (recvCell (peer c i) b i.rev) 0 0)))
    ⊢ iprop(outTok (F := F) c 0 ∗ outTok (F := F) c 1 ∗ outTok (F := F) c 2 ∗ outTok (F := F) c 3) := by
  rw [← fin4_eq, ← bigSep_sep']
  refine bigSep_mono fun b _ => ?_
  rw [← bigSep_sep']
  exact bigSep_mono fun i _ => sendTok_of c b i
theorem inTok_of : iprop((bigSep (Finset.univ : Finset (Fin 4)) fun b => bigSep (Finset.univ : Finset (Fin 7)) fun i => cred (tallyAt (recvCell c b i) () (units b)))
    ∗ (bigSep (Finset.univ : Finset (Fin 4)) fun b => bigSep (Finset.univ : Finset (Fin 7)) fun i => atPos ER (recvCell c b i) 0 ∅ 0))
    ⊢ iprop(inTok (F := F) c 0 ∗ inTok (F := F) c 1 ∗ inTok (F := F) c 2 ∗ inTok (F := F) c 3) := by
  rw [← fin4_eq, ← bigSep_sep']
  refine bigSep_mono fun b _ => ?_
  rw [← bigSep_sep']
  exact Entails.refl _
theorem locTok_of : iprop((bigSep (Finset.univ : Finset (Fin 3)) fun l => iprop(atPos ER (locCell c l) 0 ∅ 0 ∗ reached ER (locCell c l) 0))
    ∗ (bigSep (Finset.univ : Finset (Fin 3)) fun l => dutyTok ER (locCell c l) 0 0))
    ⊢ iprop(locTok (F := F) c 0 ∗ locTok (F := F) c 1 ∗ locTok (F := F) c 2) := by
  rw [← fin3_eq, ← bigSep_sep']
  exact bigSep_mono fun l _ => locTok_of1 c l

/-- With the own cells' counters, what was dealt becomes what the body starts from. -/
theorem dealt_open : iprop(recs I K ∗ dealt (F := F) c ∗ Pipeline.ownSems0 osem c) ⊢ (|={Set.univ}=> toks (F := F) c : sProp 𝕄) := by
  unfold dealt toks
  iintro ⟨#HR, ⟨HT, HB, HD, HS, HL, HC⟩, H0⟩
  imod (own_open I K c) $$ [HT H0] with HA
  · iframe ∗ #
  ihave HA := (Entails.of_eq (sk_split fun sm => iprop(atPos ER ((c : Thread nD τ), sm) 0 ∅ 0 ∗ reached ER ((c : Thread nD τ), sm) 0))) $$ HA
  icases HA with ⟨A1, A2, A3⟩
  ihave A2 := (show (bigSep (Finset.univ : Finset (Fin 4)) fun b => bigSep (Finset.univ : Finset (Fin 7)) fun i => iprop(atPos ER (recvCell c b i) 0 ∅ 0 ∗ reached ER (recvCell c b i) 0))
    ⊢ (iprop((bigSep (Finset.univ : Finset (Fin 4)) fun b => bigSep (Finset.univ : Finset (Fin 7)) fun i => atPos ER (recvCell c b i) 0 ∅ 0)
      ∗ (bigSep (Finset.univ : Finset (Fin 4)) fun b => bigSep (Finset.univ : Finset (Fin 7)) fun i => reached ER (recvCell c b i) 0)) : sProp 𝕄) from by
      rw [← bigSep_sep']
      refine bigSep_mono fun b _ => ?_
      rw [← bigSep_sep']
      exact Entails.refl _) $$ A2
  icases A2 with ⟨A2, R2⟩
  imodintro
  isplitl [HD R2]
  · iapply (sigs_of c); iframe
  isplitl [HB]
  · iexact HB
  isplitl [A1 HS]
  · iapply (outTok_of c); iframe
  isplitl [HC A2]
  · iapply (inTok_of c); iframe
  iapply (locTok_of c); iframe

theorem own_facts : Pipeline.OwnSemFacts spec0 osem := by decide +kernel

end Cert.KernelIdeal.Mla

end
-- ==== Proof.I.Region.lean ====
/-
  The call as the pipeline runs it: its one point, the arrays before and after.
-/
module

public import proofs.«01_k».proof.Proof.I.Own
public import proofs.«01_k».proof.Proof.Gen.KernelIdeal.Points
public import proofs.«01_k».proof.Proof.Gen.KernelIdeal.Regions
public import Idealize.ShloMosaic.Lib.Pipeline.RegionTalk
public import Idealize.ShloMosaic.Lib.Pipeline.Value

@[expose] public section

noncomputable section

namespace Cert.KernelIdeal.Mla

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal Cert.KernelIdeal.Gen
open Idealize.ShloMosaic.ValueIdx

variable {F : FTy → Type} [FloatOps F] [Named F]

local notation "𝕄" => MT nD τ sig Unit (Elt F) ℕ UU ℕ

variable (m : (ℓ : Loc nD τ sig) → Buf (Elt F) ℓ) (c : Dev nD)

/-- The operands of the call, from a starting memory. -/
def ins : Ins F where
  x c := V1 m c main_v5
  wd c := V1 m c main_arg1
  uk c := V1 m c main_arg2
  uv c := V1 m c main_arg3
  wq c := V1 m c main_v10
  wqr c := V1 m c main_v15
  wkr c := V1 m c main_arg6
  wo c := V1 m c main_v16

/-- What the call leaves in the result. -/
def outs : Outs (F := F) := fun _ r c => if h : r = main_v17 then h ▸ (AC7 (ins m) c : FVec F S512x1024 .f32) else V1 m c r

theorem outs_v17 (n : ℕ) : outs m n main_v17 c = AC7 (ins m) c := dif_pos rfl

/-- The proof's data for the call: what each window's array holds before it, what the staging buffers hold after the body, and
    what the device keeps beside them. -/
def dat (c : Dev nD) : Dat τ (Elt F) Unit ℕ UU ℕ cfg0 c where
  A w := V1 m c (Pipeline.arrRef spec0 w)
  after w _ := match w with
    | ⟨0, _⟩ => (ins m).x c
    | ⟨1, _⟩ => (ins m).wd c
    | ⟨2, _⟩ => (ins m).uk c
    | ⟨3, _⟩ => (ins m).uv c
    | ⟨4, _⟩ => (ins m).wq c
    | ⟨5, _⟩ => (ins m).wqr c
    | ⟨6, _⟩ => (ins m).wkr c
    | ⟨7, _⟩ => (ins m).wo c
    | ⟨8, _⟩ => AC7 (ins m) c
  Φ t := if t.val = 0 then iprop((∃ K, recs (ins m) K) ∗ toks (F := F) c ∗ scratch (F := F) c ∗ ∃ r, prngReg c r)
    else iprop(semVal (barCell c) 0 ∗ Pipeline.ownSems0 osem c ∗ scratch (F := F) c ∗ ∃ r, prngReg c r)
  q _ := fullShare
  owed t := if t.val = 0 then owed c 0 else 0

/-- That, for the program's one call. -/
def pdats : (p : Fin 1) → (c : Dev nD) → Dat τ (Elt F) Unit ℕ UU ℕ (cfgs p) c
  | 0 => dat m

theorem phi_first : (dat m c).Φ t0_0.castSucc = iprop((∃ K, recs (ins m) K) ∗ toks (F := F) c ∗ scratch (F := F) c ∗ ∃ r, prngReg c r) := rfl
theorem phi_last : (dat m c).Φ t0_0.succ = iprop(semVal (barCell c) 0 ∗ Pipeline.ownSems0 osem c ∗ scratch (F := F) c ∗ ∃ r, prngReg c r) := rfl

/-- A whole buffer, held. -/
theorem own_whole (b : Ref sig .tc) (q : PosShare TreeShare) (f : Buf (Elt F) ((c : Thread nD τ).loc b)) :
    (own (Memref.whole b) c q f : sProp 𝕄) = ((c : Thread nD τ).loc b ↦{q} f) := by
  unfold own; rw [View.set_whole]

theorem owns_own (b : Ref sig .tc) (f : Buf (Elt F) ((c : Thread nD τ).loc b)) :
    (owns (c : Thread nD τ) (Memref.whole b) fullShare f : sProp 𝕄) = own (Memref.whole b) c fullShare f := by
  rw [own_whole]; exact owns_whole _ _ _ _

theorem anyOwn_whole (b : Ref sig .tc) :
    (anyOwn (F := F) (Memref.whole b) c : sProp 𝕄) = iprop(∃ f : Buf (Elt F) ((c : Thread nD τ).loc b), ((c : Thread nD τ).loc b) ↦{fullShare} f) := by
  unfold anyOwn
  exact congrArg _ (funext fun f => own_whole c b fullShare f)

theorem scratch_eq : (Pipeline.scopedRest (Ix := Unit) (Name := ℕ) (U := UU) (Lvl := ℕ) (Val := Elt F) spec0 c : sProp 𝕄) = scratch (F := F) c := by
  rw [scopedRest0_eq]
  unfold scratch
  rw [anyOwn_whole, anyOwn_whole, anyOwn_whole, anyOwn_whole, anyOwn_whole, anyOwn_whole, anyOwn_whole, anyOwn_whole, anyOwn_whole, anyOwn_whole, anyOwn_whole, anyOwn_whole, anyOwn_whole]

/-- The core's dues, as the pipeline's data state them. -/
theorem owesAt_intro {cfg : Pipeline.Cfg sig Λ₀} {c : Dev nD} (dat : Dat τ (Elt F) Unit ℕ UU ℕ cfg c) (t : Fin (cfg.N + 1))
    (O : CellTallies nD τ sig Unit) (h0 : dat.owed t = O) (W : Waits sig Unit) (hr : dat.recorded t = Set.univ) :
    (owes (c : Thread nD τ) O W : sProp 𝕄) ⊢ (dat.owesAt () t : sProp 𝕄) := by
  unfold Dat.owesAt Pipeline.owesWithin Dat.bound
  rw [h0, hr]
  iintro HO
  iexists W
  isplitr
  · ipureintro; exact fun _ _ => Or.inl trivial
  iexact HO
@[inherit_doc owesAt_intro] theorem owesAt_elim {cfg : Pipeline.Cfg sig Λ₀} {c : Dev nD} (dat : Dat τ (Elt F) Unit ℕ UU ℕ cfg c) (t : Fin (cfg.N + 1))
    (O : CellTallies nD τ sig Unit) (h0 : dat.owed t = O) :
    (dat.owesAt () t : sProp 𝕄) ⊢ iprop(∃ W, owes (c : Thread nD τ) O W) := by
  unfold Dat.owesAt Pipeline.owesWithin
  rw [h0]
  iintro ⟨%W, -, HO⟩
  iexists W
  iexact HO

/-- A rectangle from the origin, of step one, places each of its indices at itself. -/
theorem at_zero {s : Shape} {α : Type} (f : s.Idx → α) (r : Rect s) (h : ∀ a, r.off a = 0) (hs : ∀ a, r.stride a = 1) (j : r.shape.Idx) (i : s.Idx)
    (hi : ∀ a, (i a).val = (j a).val) : f (r.emb j) = f i := by
  refine congrArg f (funext fun a => Fin.ext ?_)
  rw [Rect.emb_apply, h, hs, hi, Nat.zero_add, Nat.one_mul]

/-- What the body finds in each staging buffer: its window's whole array. -/
theorem before0 (d) : (dat m c).before 0 t0_0 d = (ins m).x c :=
  (if_pos (fetch0_0 _)).trans (funext fun j => at_zero (V1 m c main_v5) (win0_0.rect t0_0) (fun _ => Nat.zero_mul _) (fun _ => rfl) j j fun _ => rfl)
@[inherit_doc before0] theorem before1 (d) : (dat m c).before 1 t0_0 d = (ins m).wd c :=
  (if_pos (fetch0_1 _)).trans (funext fun j => at_zero (V1 m c main_arg1) (win0_1.rect t0_0) (fun _ => Nat.zero_mul _) (fun _ => rfl) j j fun _ => rfl)
@[inherit_doc before0] theorem before2 (d) : (dat m c).before 2 t0_0 d = (ins m).uk c :=
  (if_pos (fetch0_2 _)).trans (funext fun j => at_zero (V1 m c main_arg2) (win0_2.rect t0_0) (fun _ => Nat.zero_mul _) (fun _ => rfl) j j fun _ => rfl)
@[inherit_doc before0] theorem before3 (d) : (dat m c).before 3 t0_0 d = (ins m).uv c :=
  (if_pos (fetch0_3 _)).trans (funext fun j => at_zero (V1 m c main_arg3) (win0_3.rect t0_0) (fun _ => Nat.zero_mul _) (fun _ => rfl) j j fun _ => rfl)
@[inherit_doc before0] theorem before4 (d) : (dat m c).before 4 t0_0 d = (ins m).wq c :=
  (if_pos (fetch0_4 _)).trans (funext fun j => at_zero (V1 m c main_v10) (win0_4.rect t0_0) (fun _ => Nat.zero_mul _) (fun _ => rfl) j j fun _ => rfl)
@[inherit_doc before0] theorem before5 (d) : (dat m c).before 5 t0_0 d = (ins m).wqr c :=
  (if_pos (fetch0_5 _)).trans (funext fun j => at_zero (V1 m c main_v15) (win0_5.rect t0_0) (fun _ => Nat.zero_mul _) (fun _ => rfl) j j fun _ => rfl)
@[inherit_doc before0] theorem before6 (d) : (dat m c).before 6 t0_0 d = (ins m).wkr c :=
  (if_pos (fetch0_6 _)).trans (funext fun j => at_zero (V1 m c main_arg6) (win0_6.rect t0_0) (fun _ => Nat.zero_mul _) (fun _ => rfl) j j fun _ => rfl)
@[inherit_doc before0] theorem before7 (d) : (dat m c).before 7 t0_0 d = (ins m).wo c :=
  (if_pos (fetch0_7 _)).trans (funext fun j => at_zero (V1 m c main_v16) (win0_7.rect t0_0) (fun _ => Nat.zero_mul _) (fun _ => rfl) j j fun _ => rfl)

/-- The result's array when the call ends: what the body left in its staging buffer. -/
theorem result_after : (dat m c).arrAt 8 cfg0.N = AC7 (ins m) c := by
  refine (dat m c).arrAt_eq_of_cover 8 (AC7 (ins m) c) (fun t _ => ?_) fun i => ⟨t0_0, flush0_8 _, ?_⟩
  · obtain rfl := fin_N0 t
    refine Eq.trans (b := AC7 (ins m) c) (by unfold Dat.flushed; dsimp only [dat]; rfl) ?_
    exact (funext fun j => at_zero (AC7 (ins m) c) (win0_8.rect t0_0) (fun _ => Nat.zero_mul _) (fun _ => rfl) j j fun _ => rfl).symm
  · have h := ((cfg0.win 8).blk t0_0).view.emb_mem_set i
    rwa [show ((cfg0.win 8).blk t0_0).view.emb i = i from at_zero id (win0_8.rect t0_0) (fun _ => Nat.zero_mul _) (fun _ => rfl) i i fun _ => rfl] at h

/-- The staged arguments, window by window. -/
theorem owns_ins (I : Ins F) : (iprop(owns (c : Thread nD τ) (Memref.whole cc0_stg0_0) fullShare (I.x c) ∗ owns (c : Thread nD τ) (Memref.whole cc0_stg1_0) fullShare (I.wd c) ∗ owns (c : Thread nD τ) (Memref.whole cc0_stg2_0) fullShare (I.uk c) ∗ owns (c : Thread nD τ) (Memref.whole cc0_stg3_0) fullShare (I.uv c) ∗ owns (c : Thread nD τ) (Memref.whole cc0_stg4_0) fullShare (I.wq c) ∗ owns (c : Thread nD τ) (Memref.whole cc0_stg5_0) fullShare (I.wqr c) ∗ owns (c : Thread nD τ) (Memref.whole cc0_stg6_0) fullShare (I.wkr c) ∗ owns (c : Thread nD τ) (Memref.whole cc0_stg7_0) fullShare (I.wo c)) : sProp 𝕄)
    = insS I c := by
  unfold insS staged
  rw [owns_own, owns_own, owns_own, owns_own, owns_own, owns_own, owns_own, owns_own]

/-- The call's one point: the body, between the staging buffers as fetched and as left. -/
theorem body_obl : BodyObligation (dat m c) (defs₀ (F := F)) 𝒱₀ () Set.univ := fun t => by
  obtain rfl := fin_N0 t
  rw [bigSep_W0, bigSep_W0, phi_first, phi_last]
  iintro ⟨⟨⟨%K, #HR⟩, HT, HS, HP⟩, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  ihave HO := (owesAt_elim (dat m c) _ (owed c 0) rfl) $$ HO
  ihave H0 := (Entails.of_eq (congrArg (owns (c : Thread nD τ) (Memref.whole cc0_stg0_0) fullShare) (before0 m c d0))) $$ H0
  ihave H1 := (Entails.of_eq (congrArg (owns (c : Thread nD τ) (Memref.whole cc0_stg1_0) fullShare) (before1 m c d1))) $$ H1
  ihave H2 := (Entails.of_eq (congrArg (owns (c : Thread nD τ) (Memref.whole cc0_stg2_0) fullShare) (before2 m c d2))) $$ H2
  ihave H3 := (Entails.of_eq (congrArg (owns (c : Thread nD τ) (Memref.whole cc0_stg3_0) fullShare) (before3 m c d3))) $$ H3
  ihave H4 := (Entails.of_eq (congrArg (owns (c : Thread nD τ) (Memref.whole cc0_stg4_0) fullShare) (before4 m c d4))) $$ H4
  ihave H5 := (Entails.of_eq (congrArg (owns (c : Thread nD τ) (Memref.whole cc0_stg5_0) fullShare) (before5 m c d5))) $$ H5
  ihave H6 := (Entails.of_eq (congrArg (owns (c : Thread nD τ) (Memref.whole cc0_stg6_0) fullShare) (before6 m c d6))) $$ H6
  ihave H7 := (Entails.of_eq (congrArg (owns (c : Thread nD τ) (Memref.whole cc0_stg7_0) fullShare) (before7 m c d7))) $$ H7
  ihave HI := (Entails.of_eq (owns_ins c (ins m))) $$ [H0 H1 H2 H3 H4 H5 H6 H7]
  · iframe
  ihave H8 := (Entails.of_eq (owns_own c cc0_stg8_0 _)) $$ H8
  iapply (wp_fupd _ _)
  iapply (body_run (ins m) K c _ _)
  isplitl [HT HI H8 HS HO]
  · unfold Owe
    iframe ∗ #
  iintro ⟨HPa, HI, H8, HS, HO⟩
  imod (own_closed (ins m) K c) $$ [HPa] with ⟨HB, HC⟩
  · iframe ∗ #
  imodintro
  unfold Owe
  icases HO with ⟨%W, HO⟩
  ihave HI := (Entails.of_eq (owns_ins c (ins m)).symm) $$ HI
  ihave H8 := (Entails.of_eq (owns_own c cc0_stg8_0 _).symm) $$ H8
  isplitl [HB HC HS HP]
  · iframe
  isplitl [HO]
  · iapply (owesAt_intro (dat m c) t0_0.succ 0 rfl W rfl)
    iexact HO
  icases HI with ⟨H0, H1, H2, H3, H4, H5, H6, H7⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

end Cert.KernelIdeal.Mla

end
-- ==== Proof.I.Record.lean ====
/-
  The call as a step of the program: what a device brings to it, what it takes from it.
-/
module

public import proofs.«01_k».proof.Proof.I.Region

@[expose] public section

noncomputable section

namespace Cert.KernelIdeal.Mla

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]

local notation "𝕄" => MT nD τ sig Unit (Elt F) ℕ UU ℕ

variable (m : (ℓ : Loc nD τ sig) → Buf (Elt F) ℓ) (c : Dev nD)

/-- What a device keeps for the call from the launch on. -/
def carry : sProp 𝕄 := iprop((∃ K, recs (ins m) K) ∗ dealt (F := F) c)
/-- The same with the call's own semaphores put in. -/
def entered : sProp 𝕄 := iprop((∃ K, recs (ins m) K) ∗ toks (F := F) c)

theorem entry : iprop(carry m c ∗ Pipeline.ownSems0 osem c ∗ levAts L lv) ⊢ (|={Set.univ}=> entered m c : sProp 𝕄) := by
  unfold carry entered
  iintro ⟨⟨⟨%K, #HR⟩, HD⟩, H0, -⟩
  imod (dealt_open (ins m) K c) $$ [HD H0] with HT
  · iframe ∗ #
  imodintro
  isplitr
  · iexists K; iexact HR
  iexact HT

theorem enter : iprop(Pipeline.scopedRest spec0 c ∗ (∃ r, prngReg c r) ∗ StableHlo.held (c : Thread nD τ) ∅ (V1 m c) ∗ entered m c) ⊢ (dat m c).Φ 0 := by
  rw [show (dat m c).Φ 0 = iprop((∃ K, recs (ins m) K) ∗ toks (F := F) c ∗ scratch (F := F) c ∗ ∃ r, prngReg c r) from rfl, scratch_eq]
  unfold entered
  iintro ⟨HS, HP, -, HK, HT⟩
  isplitl [HK]; · iexact HK
  isplitl [HT]; · iexact HT
  isplitl [HS] <;> iassumption

theorem leave : (dat m c).Φ (Fin.last cfg0.N) ⊢ iprop(Pipeline.scopedRest spec0 c ∗ (∃ r, prngReg c r) ∗ StableHlo.held (c : Thread nD τ) ∅ (V2 m (outs m) c)
    ∗ Pipeline.ownSems0 osem c ∗ semVal (barCell c) 0) := by
  rw [show (dat m c).Φ (Fin.last cfg0.N) = iprop(semVal (barCell c) 0 ∗ Pipeline.ownSems0 osem c ∗ scratch (F := F) c ∗ ∃ r, prngReg c r) from rfl, scratch_eq,
    show (StableHlo.held (c : Thread nD τ) ∅ (V2 m (outs m) c) : sProp 𝕄) = iprop(emp) from bigSep_empty]
  iintro ⟨HB, HO, HS, HP⟩
  isplitl [HS]; · iexact HS
  isplitl [HP]; · iexact HP
  isplitr; · iempintro
  isplitl [HO] <;> iassumption

theorem stage_idle : ∀ (w : Fin cfg0.W) (s : Fin (cfg0.win w).nbuf), rank (role (.dma ((cfg0.win w).sem s))) ≤ 0 := by decide

theorem pays_above (x : GSem nD τ sig × ℕ) (hx : x ∈ pays c) : 0 < rank (role x.1.2) := by
  simp only [pays, List.mem_cons, List.not_mem_nil, or_false] at hx
  rcases hx with h | h | h | h | h | h | h | h | h | h | h | h | h | h | h | h | h | h | h | h | h | h | h | h | h | h | h | h | h | h | h | h | h | h | h <;>
    (subst h; first | exact Nat.one_pos | (rw [rank_payR]; decide))

/-- Whatever a device owes at either end of the call waits above the staging copies. -/
theorem owed_above (t : Fin (cfg0.N + 1)) (g : GSem nD τ sig) (i : Unit) (h : 0 < (dat m c).owed t g i) : i ∈ L g ∧ 0 < lv g i := by
  rw [show (dat m c).owed t = if t.val = 0 then owed c 0 else 0 from rfl] at h
  split at h
  · obtain ⟨x, hx, rfl⟩ := tal_pos h
    exact ⟨by unfold L; rw [if_pos (pays_tc c x hx)]; exact Finset.mem_singleton_self _, pays_above c x hx⟩
  · exact absurd h (Nat.lt_irrefl _)

theorem arr_before (w : Fin cfg0.W) : (dat m c).arrAt w 0 = V1 m c (Pipeline.arrRef spec0 w) := rfl

theorem arr_kept (w : Fin cfg0.W) (hw : (cfg0.win w).isOut = false) (h : Pipeline.arrRef spec0 w ∉ ([main_v17] : List (Ref sig .tc))) :
    (dat m c).arrAt w cfg0.N = V2 m (outs m) c (Pipeline.arrRef spec0 w) :=
  ((dat m c).arrAt_in w hw _).trans (V2_of m (outs m) c _ h).symm

theorem arr_after : ∀ w : Fin cfg0.W, (dat m c).arrAt w cfg0.N = V2 m (outs m) c (Pipeline.arrRef spec0 w)
  | ⟨0, _⟩ => arr_kept m c 0 rfl (by decide)
  | ⟨1, _⟩ => arr_kept m c 1 rfl (by decide)
  | ⟨2, _⟩ => arr_kept m c 2 rfl (by decide)
  | ⟨3, _⟩ => arr_kept m c 3 rfl (by decide)
  | ⟨4, _⟩ => arr_kept m c 4 rfl (by decide)
  | ⟨5, _⟩ => arr_kept m c 5 rfl (by decide)
  | ⟨6, _⟩ => arr_kept m c 6 rfl (by decide)
  | ⟨7, _⟩ => arr_kept m c 7 rfl (by decide)
  | ⟨8, _⟩ => (result_after m c).trans (by
      rw [← outs_v17 m c 2]
      exact (Function.update_self (f := V1 m c) (Proc.devRef .tc main_v17) (outs m 2 main_v17 c)).symm)

theorem kitP : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

/-- The buffers the call does not touch. -/
abbrev others : Finset (DevRef τ sig) := Pipeline.ucRefs τ sig \ Pipeline.arrRefs spec0

theorem others_kept (b : DevRef τ sig) (hb : b ∈ others \ ∅) : V2 m (outs m) c b = V1 m c b := by
  refine Function.update_of_ne (fun h => ?_) _ _
  subst h
  rw [Finset.sdiff_empty] at hb
  exact (Finset.mem_sdiff.mp hb).2 (Finset.mem_map.mpr ⟨main_v17, Finset.mem_image.mpr ⟨(8 : Fin 9), Finset.mem_univ _, rfl⟩, rfl⟩)

set_option backward.isDefEq.respectTransparency.types false in
/-- The call's record. -/
def reg0 : Pipeline.RegionSeg (pcfgs (F := F)) adm (pdats m) () defs₀ 𝒱₀ L lv 0 :=
  Pipeline.RegionSeg.ofTalk (pcfgs (F := F)) adm (pdats m) () defs₀ 𝒱₀ L lv 0 osem own_facts
    ∅ others (Finset.empty_subset _) kitP rfl (fun c => (body_obl m c).loose)
    (fun _ => 0) (fun c => owed c 0) (fun c => (zero_add _).symm) (fun c => rfl) (fun _ => rfl) (fun c w => (dat m c).share_full (fun _ => rfl) w)
    (V1 m) (V2 m (outs m)) (fun c b hb => others_kept m c b hb)
    (carry m) (fun c => semVal (barCell c) 0) (entered m) (fun c => semVal (barCell c) 0) (entry m) (enter m) (leave m)
    (fun c => by iintro H; imodintro; iexact H)
    (fun _ => 0)
    ⟨fun c _ _ => by rw [L_tc]; exact Finset.mem_singleton_self _, fun _ w s => stage_idle w s, fun c t g i h => owed_above m c t g i h⟩
    (fun _ => iprop(emp))
    (fun c w => arr_before m c w) (fun c w => arr_after m c w)

/-- What a device holds beside the buffers before the call, and after it. -/
def rest0 : sProp 𝕄 := iprop(carry m c ∗ (∃ r, prngReg c r) ∗ ∃ W, owes (c : Thread nD τ) (owed c 0) W)
@[inherit_doc rest0] def rest1 : sProp 𝕄 := iprop(semVal (barCell c) 0 ∗ ∃ W, owes (c : Thread nD τ) (0 : CellTallies nD τ sig Unit) W)

theorem held_split (V : Valuation τ sig (Elt F)) : (StableHlo.held (c : Thread nD τ) (Pipeline.ucRefs τ sig) V : sProp 𝕄)
    = iprop(StableHlo.held (c : Thread nD τ) (Pipeline.arrRefs spec0) V ∗ StableHlo.held (c : Thread nD τ) others V) :=
  StableHlo.held_sub_split (c : Thread nD τ) (Pipeline.arrRefs_sub_ucRefs spec0 (by decide)) V

theorem reg0_pre : iprop(StableHlo.held (c : Thread nD τ) (Pipeline.ucRefs τ sig) (V1 m c) ∗ rest0 m c) ⊢ (reg0 m).pre c := by
  show _ ⊢ iprop(StableHlo.held (c : Thread nD τ) (Pipeline.arrRefs (τ := τ) spec0) (V1 m c) ∗ (∃ r, prngReg c r)
    ∗ (StableHlo.held (c : Thread nD τ) others (V1 m c) ∗ emp) ∗ carry m c ∗ ∃ Wd, owes (c : Thread nD τ) (0 + owed c 0) Wd)
  rw [held_split, zero_add]
  unfold rest0
  iintro ⟨⟨HA, HB⟩, HK, HP, HO⟩
  isplitl [HA]; · iexact HA
  isplitl [HP]; · iexact HP
  isplitl [HB]
  · isplitl [HB]; · iexact HB
    iempintro
  isplitl [HK] <;> iassumption

theorem reg0_post : (reg0 m).post c ⊢ iprop(StableHlo.held (c : Thread nD τ) (Pipeline.ucRefs τ sig) (V2 m (outs m) c) ∗ rest1 (F := F) c) := by
  show iprop(StableHlo.held (c : Thread nD τ) (Pipeline.arrRefs (τ := τ) spec0) (V2 m (outs m) c) ∗ (∃ r, prngReg c r)
    ∗ (StableHlo.held (c : Thread nD τ) others (V2 m (outs m) c) ∗ emp) ∗ semVal (barCell c) 0 ∗ ∃ Wd, owes (c : Thread nD τ) (0 : CellTallies nD τ sig Unit) Wd) ⊢ _
  rw [held_split]
  unfold rest1
  iintro ⟨HA, -, ⟨HB, -⟩, HO⟩
  isplitl [HA HB]
  · isplitl [HA] <;> iassumption
  iexact HO

end Cert.KernelIdeal.Mla

end
-- ==== Proof.I.Deal.lean ====
/-
  What the launch hands out: every cell's invariant, the tokens sent round the ring, each device's credit.
-/
module

public import proofs.«01_k».proof.Proof.I.Record
import Mathlib.Tactic.Abel

@[expose] public section

noncomputable section

namespace Cert.KernelIdeal.Mla

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]

local notation "𝕄" => MT nD τ sig Unit (Elt F) ℕ UU ℕ

/-! ## The cells and the tokens -/

theorem osem_inj : Function.Injective osem := by decide +kernel
theorem osem_ne_bar : ∀ k : SK, osem k ≠ .reg barS
  | .inl _ => fun h => nomatch h
  | .inr (.inl _) => fun h => nomatch h
  | .inr (.inr _) => fun h => nomatch h

def barEmb : Dev nD ↪ GSem nD τ sig := ⟨fun c => barCell c, fun _ _ h => congrArg (fun g : GSem nD τ sig => g.1.1) h⟩
def ownEmb : Dev nD × SK ↪ GSem nD τ sig :=
  ⟨fun x => ((x.1 : Thread nD τ), osem x.2), fun _ _ h =>
    Prod.ext (congrArg (fun g : GSem nD τ sig => g.1.1) h) (osem_inj (congrArg Prod.snd h))⟩

/-- The barrier cells, open from the launch on, and the call's own cells, which the call opens. -/
abbrev barCells : Finset (GSem nD τ sig) := Finset.univ.map barEmb
abbrev ownCells : Finset (GSem nD τ sig) := Finset.univ.map ownEmb

theorem cells_disjoint : Disjoint barCells ownCells := by
  rw [Finset.disjoint_left]
  intro g h₁ h₂
  obtain ⟨c, -, rfl⟩ := Finset.mem_map.mp h₁
  obtain ⟨x, -, h⟩ := Finset.mem_map.mp h₂
  exact osem_ne_bar x.2 (congrArg Prod.snd h)

/-- One duty: seven on a barrier cell, one on every own cell. -/
abbrev duty : Fin 7 ⊕ SK → SemLoc sig × Fin 7
  | .inl d => (.reg barS, d)
  | .inr k => (osem k, 0)
theorem duty_inj : Function.Injective duty
  | .inl d, .inl d', h => congrArg Sum.inl (congrArg Prod.snd h)
  | .inl _, .inr k, h => absurd (congrArg Prod.fst h).symm (osem_ne_bar k)
  | .inr k, .inl _, h => absurd (congrArg Prod.fst h) (osem_ne_bar k)
  | .inr k, .inr k', h => congrArg Sum.inr (osem_inj (congrArg Prod.fst h))

def dutyEmb : Dev nD × (Fin 7 ⊕ SK) ↪ GSem nD τ sig × ℕ × Fin 7 :=
  ⟨fun x => (((x.1 : Thread nD τ), (duty x.2).1), 0, (duty x.2).2), fun _ _ h =>
    Prod.ext (congrArg (fun t : GSem nD τ sig × ℕ × Fin 7 => t.1.1.1) h)
      (duty_inj (Prod.ext (congrArg (fun t : GSem nD τ sig × ℕ × Fin 7 => t.1.2) h) (congrArg (fun t : GSem nD τ sig × ℕ × Fin 7 => t.2.2) h)))⟩

/-- Every duty of every device. -/
abbrev allDuties : Finset (GSem nD τ sig × ℕ × Fin 7) := Finset.univ.map dutyEmb

/-! ## Round the ring -/

theorem swap {A B : Type} [Fintype A] [Fintype B] (Φ : A → B → sProp (MT nD τ sig Unit (Elt F) ℕ UU ℕ)) :
    (bigSep (Finset.univ : Finset A) fun a => bigSep (Finset.univ : Finset B) fun b => Φ a b)
      = bigSep (Finset.univ : Finset B) fun b => bigSep (Finset.univ : Finset A) fun a => Φ a b := by
  rw [← bigSep_univ_prod fun x : A × B => Φ x.1 x.2, ← bigSep_univ_prod fun x : B × A => Φ x.2 x.1]
  exact bigSep_univ_equiv (Equiv.prodComm B A) fun x : A × B => Φ x.1 x.2

/-- A family over devices and peers, read from the other side. -/
theorem around (Φ : Dev nD → Fin 7 → sProp (MT nD τ sig Unit (Elt F) ℕ UU ℕ)) :
    (bigSep (Finset.univ : Finset (Dev nD)) fun c => bigSep (Finset.univ : Finset (Fin 7)) fun i => Φ c i)
      = bigSep (Finset.univ : Finset (Dev nD)) fun c => bigSep (Finset.univ : Finset (Fin 7)) fun i => Φ (peer c i) i := by
  rw [swap, swap (A := Dev nD)]
  exact bigSep_congr fun i _ => bigSep_univ_equiv (peerEquiv i) (fun c => Φ c i)

theorem around_rev (Φ : Dev nD → Fin 7 → sProp (MT nD τ sig Unit (Elt F) ℕ UU ℕ)) :
    (bigSep (Finset.univ : Finset (Dev nD)) fun c => bigSep (Finset.univ : Finset (Fin 7)) fun i => Φ c i)
      = bigSep (Finset.univ : Finset (Dev nD)) fun c => bigSep (Finset.univ : Finset (Fin 7)) fun i => Φ (peer c i) i.rev := by
  rw [← around fun c i => Φ c i.rev]
  exact bigSep_congr fun c _ => bigSep_univ_equiv Fin.revPerm (Φ c)

theorem sum_around {M : Type} [AddCommMonoid M] (f : Dev nD → M) : (∑ c : Dev nD, ∑ i : Fin 7, f (peer c i)) = ∑ c : Dev nD, ∑ _i : Fin 7, f c := by
  rw [Finset.sum_comm, Finset.sum_comm (s := (Finset.univ : Finset (Dev nD)))]
  exact Finset.sum_congr rfl fun i _ => Equiv.sum_comp (peerEquiv i) f

theorem sum_around_rev {M : Type} [AddCommMonoid M] (f : Dev nD → Fin 7 → M) :
    (∑ c : Dev nD, ∑ i : Fin 7, f (peer c i) i.rev) = ∑ c : Dev nD, ∑ i : Fin 7, f c i := by
  rw [Finset.sum_comm, Finset.sum_comm (s := (Finset.univ : Finset (Dev nD)))]
  rw [← Equiv.sum_comp Fin.revPerm fun i => ∑ c : Dev nD, f c i]
  exact Finset.sum_congr rfl fun i _ => Equiv.sum_comp (peerEquiv i) fun c => f c i.rev

/-! ## The credit -/

/-- What the others together owe to c. -/
def waits (c : Dev nD) : CellTallies nD τ sig Unit :=
  tallyAt (barCell c) () 7 + ∑ b : Fin 4, ∑ i : Fin 7, tallyAt (recvCell c b i) () (units b)

/-- The payments in program order, sorted by kind. -/
theorem sort_sum {M : Type} [AddCommMonoid M] (B : Fin 7 → M) (R : Fin 4 → Fin 7 → M) :
    0 + R 3 6 + R 3 5 + R 3 4 + R 3 3 + R 3 2 + R 3 1 + R 3 0 + R 2 6 + R 1 6 + R 0 6 + R 2 5 + R 1 5 + R 0 5 + R 2 4 + R 1 4 + R 0 4 + R 2 3 + R 1 3 + R 0 3 + R 2 2 + R 1 2 + R 0 2 + R 2 1 + R 1 1 + R 0 1 + R 2 0 + R 1 0 + R 0 0 + B 6 + B 5 + B 4 + B 3 + B 2 + B 1 + B 0
      = (∑ i, B i) + ∑ b, ∑ i, R b i := by
  simp only [Fin.sum_univ_seven, Fin.sum_univ_four]
  abel

theorem owed_all (c : Dev nD) : owed c 0 = (∑ i : Fin 7, tallyAt (barCell (peer c i)) () 1)
    + ∑ b : Fin 4, ∑ i : Fin 7, (tallyAt (recvCell (peer c i) b i.rev) () (units b) : CellTallies nD τ sig Unit) :=
  sort_sum (fun i => (tallyAt (barCell (peer c i)) () 1 : CellTallies nD τ sig Unit)) (fun b i => tallyAt (recvCell (peer c i) b i.rev) () (units b))

theorem seven (g : GSem nD τ sig) : (∑ _i : Fin 7, (tallyAt g () 1 : CellTallies nD τ sig Unit)) = tallyAt g () 7 := by
  rw [Fin.sum_univ_seven, tallyAt_add, tallyAt_add, tallyAt_add, tallyAt_add, tallyAt_add, tallyAt_add]

theorem owed_waits : (∑ c : Dev nD, owed c 0) = ∑ c : Dev nD, waits c := by
  unfold waits
  rw [Finset.sum_congr rfl fun c _ => owed_all c, Finset.sum_add_distrib, Finset.sum_add_distrib, sum_around fun c => (tallyAt (barCell c) () 1 : CellTallies nD τ sig Unit),
    Finset.sum_congr rfl fun c _ => seven (barCell c), Finset.sum_comm, Finset.sum_comm (s := (Finset.univ : Finset (Dev nD))) (f := fun c b => ∑ i : Fin 7, (tallyAt (recvCell c b i) () (units b) : CellTallies nD τ sig Unit))]
  exact congrArg _ (Finset.sum_congr rfl fun b _ => sum_around_rev fun c i => (tallyAt (recvCell c b i) () (units b) : CellTallies nD τ sig Unit))

theorem waits_at (c : Dev nD) (g : GSem nD τ sig) (h : waits c g ≠ 0) : g.1 = (c.tc : Thread nD τ) := by
  by_contra hg
  refine h ?_
  unfold waits
  rw [Pi.add_apply, tallyAt_ne_cell (fun e => hg (congrArg Prod.fst e)), zero_add, Finset.sum_apply]
  refine Finset.sum_eq_zero fun b _ => ?_
  rw [Finset.sum_apply]
  exact Finset.sum_eq_zero fun i _ => tallyAt_ne_cell (fun e => hg (congrArg Prod.fst e)) _ _

theorem credit (c : Dev nD) : (Pipeline.launchCred (fun d => owed d 0) c : sProp 𝕄)
    ⊢ iprop(cred (tallyAt (barCell c) () 7) ∗ bigSep (Finset.univ : Finset (Fin 4)) fun b => bigSep (Finset.univ : Finset (Fin 7)) fun i => cred (tallyAt (recvCell c b i) () (units b))) := by
  rw [Pipeline.launchCred_of_sum _ waits owed_waits waits_at c]
  unfold waits
  refine (cred_add _ _).1.trans (sep_mono_right (Entails.of_eq ?_))
  rw [Pipeline.cred_finsetSum]
  exact bigSep_congr fun b _ => Pipeline.cred_finsetSum _ _

/-! ## The tokens and the records -/

theorem duties_eq : bigSep allDuties (fun x => (dutyTok ER x.1 x.2.1 x.2.2 : sProp 𝕄))
    = iprop((bigSep (Finset.univ : Finset (Dev nD)) fun c => bigSep (Finset.univ : Finset (Fin 7)) fun i => dutyTok ER (barCell c) 0 i)
      ∗ bigSep (Finset.univ : Finset (Dev nD)) fun c => bigSep (Finset.univ : Finset SK) fun k => dutyTok ER ((c : Thread nD τ), osem k) 0 0) := by
  rw [bigSep_map, bigSep_univ_prod, ← bigSep_sep']
  refine bigSep_congr fun c _ => ?_
  rw [bigSep_univ_sum]
  rfl

/-- A family over every device's own cells, kind by kind. -/
theorem own_split (Φ : GSem nD τ sig → sProp (MT nD τ sig Unit (Elt F) ℕ UU ℕ)) :
    (bigSep (Finset.univ : Finset (Dev nD)) fun c => bigSep (Finset.univ : Finset SK) fun k => Φ ((c : Thread nD τ), osem k))
      = iprop((bigSep (Finset.univ : Finset (Dev nD)) fun c => bigSep (Finset.univ : Finset (Fin 4)) fun b => bigSep (Finset.univ : Finset (Fin 7)) fun i => Φ (sendCell c b i))
        ∗ (bigSep (Finset.univ : Finset (Dev nD)) fun c => bigSep (Finset.univ : Finset (Fin 4)) fun b => bigSep (Finset.univ : Finset (Fin 7)) fun i => Φ (recvCell c b i))
        ∗ bigSep (Finset.univ : Finset (Dev nD)) fun c => bigSep (Finset.univ : Finset (Fin 3)) fun l => Φ (locCell c l)) := by
  rw [← bigSep_sep', ← bigSep_sep']
  exact bigSep_congr fun c _ => sk_split fun sm => Φ ((c : Thread nD τ), sm)

theorem recv_around : (bigSep (Finset.univ : Finset (Dev nD)) fun c => bigSep (Finset.univ : Finset (Fin 4)) fun b => bigSep (Finset.univ : Finset (Fin 7)) fun i => (dutyTok ER (recvCell c b i) 0 0 : sProp 𝕄))
    = bigSep (Finset.univ : Finset (Dev nD)) fun c => bigSep (Finset.univ : Finset (Fin 4)) fun b => bigSep (Finset.univ : Finset (Fin 7)) fun i => dutyTok ER (recvCell (peer c i) b i.rev) 0 0 := by
  rw [swap, swap (A := Dev nD)]
  exact bigSep_congr fun b _ => around_rev fun c i => dutyTok ER (recvCell c b i) 0 0

/-- The tokens a device holds: those of the duties it pays. -/
def payer (c : Dev nD) : sProp 𝕄 := iprop((bigSep (Finset.univ : Finset (Fin 7)) fun i => dutyTok ER (barCell (peer c i)) 0 i)
  ∗ (bigSep (Finset.univ : Finset (Fin 4)) fun b => bigSep (Finset.univ : Finset (Fin 7)) fun i => iprop(dutyTok ER (sendCell c b i) 0 0 ∗ dutyTok ER (recvCell (peer c i) b i.rev) 0 0))
  ∗ (bigSep (Finset.univ : Finset (Fin 3)) fun l => dutyTok ER (locCell c l) 0 0))

theorem send_recv (c : Dev nD) (Φ Ψ : Fin 4 → Fin 7 → sProp (MT nD τ sig Unit (Elt F) ℕ UU ℕ)) :
    (bigSep (Finset.univ : Finset (Fin 4)) fun b => bigSep (Finset.univ : Finset (Fin 7)) fun i => iprop(Φ b i ∗ Ψ b i))
      = iprop((bigSep (Finset.univ : Finset (Fin 4)) fun b => bigSep (Finset.univ : Finset (Fin 7)) fun i => Φ b i)
        ∗ bigSep (Finset.univ : Finset (Fin 4)) fun b => bigSep (Finset.univ : Finset (Fin 7)) fun i => Ψ b i) := by
  rw [← bigSep_sep']
  exact bigSep_congr fun b _ => bigSep_sep' _ _ _

theorem deal_tokens : bigSep allDuties (fun x => (dutyTok ER x.1 x.2.1 x.2.2 : sProp 𝕄)) ⊢ bigSep (Finset.univ : Finset (Dev nD)) fun c => payer (F := F) c := by
  unfold payer
  rw [duties_eq, around fun c i => dutyTok ER (barCell c) 0 i, own_split fun g => dutyTok ER g 0 0, recv_around, bigSep_sep', bigSep_sep',
    bigSep_congr fun c _ => send_recv c (fun b i => dutyTok ER (sendCell c b i) 0 0) (fun b i => dutyTok ER (recvCell (peer c i) b i.rev) 0 0), bigSep_sep']
  iintro ⟨H1, H2, H3, H4⟩
  isplitl [H1]; · iexact H1
  isplitr [H4]
  · isplitl [H2] <;> iassumption
  iexact H4

variable (I : Ins F) (K : GSem nD τ sig → ℕ)

theorem sr_join : iprop((bigSep (Finset.univ : Finset (Dev nD)) fun c => bigSep (Finset.univ : Finset (Fin 4)) fun b => bigSep (Finset.univ : Finset (Fin 7)) fun i => cellInv ER (sched I) (K (sendCell c b i)) (sendCell c b i))
      ∗ (bigSep (Finset.univ : Finset (Dev nD)) fun c => bigSep (Finset.univ : Finset (Fin 4)) fun b => bigSep (Finset.univ : Finset (Fin 7)) fun i => cellInv ER (sched I) (K (recvCell c b i)) (recvCell c b i)))
    = bigSep (Finset.univ : Finset (Dev nD × Fin 4 × Fin 7)) fun p =>
        iprop(cellInv ER (sched I) (K (sendCell p.1 p.2.1 p.2.2)) (sendCell p.1 p.2.1 p.2.2) ∗ cellInv ER (sched I) (K (recvCell p.1 p.2.1 p.2.2)) (recvCell p.1 p.2.1 p.2.2)) := by
  rw [← bigSep_sep', bigSep_univ_prod (α := Dev nD) (β := Fin 4 × Fin 7)]
  refine bigSep_congr fun c _ => ?_
  rw [bigSep_univ_prod (α := Fin 4) (β := Fin 7)]
  exact (send_recv c _ _).symm

/-- The records, out of what the launch allocates. -/
theorem recs_of : iprop((bigSep (barCells ∪ ownCells) fun g => cellInv ER (sched I) (K g) g) ∗ (bigSep barCells fun g => reached ER g 0) ∗ levAts L lv) ⊢ recs I K := by
  unfold recs
  iintro ⟨HI, HR, HL⟩
  ihave HI := (show (bigSep (barCells ∪ ownCells) fun g => cellInv ER (sched I) (K g) g) ⊢ (iprop((bigSep barCells fun g => cellInv ER (sched I) (K g) g) ∗ (bigSep ownCells fun g => cellInv ER (sched I) (K g) g)) : sProp 𝕄)
    from Entails.of_eq (bigSep_union cells_disjoint)) $$ HI
  icases HI with ⟨HB, HO⟩
  ihave HB := (Entails.of_eq (bigSep_map barEmb)) $$ HB
  ihave HR := (Entails.of_eq (bigSep_map barEmb)) $$ HR
  ihave HO := (Entails.of_eq (((bigSep_map ownEmb).trans (bigSep_univ_prod _)).trans (own_split fun g => cellInv ER (sched I) (K g) g))) $$ HO
  icases HO with ⟨H1, H2, H3⟩
  isplitl [HB HR]
  · iapply (Entails.of_eq (bigSep_sep' (Finset.univ : Finset (Dev nD)) (fun c => cellInv ER (sched I) (K (barCell c)) (barCell c)) (fun c => reached ER (barCell c) 0)).symm)
    isplitl [HB]; · iexact HB
    iexact HR
  isplitl [H1 H2]
  · iapply (Entails.of_eq (sr_join I K))
    isplitl [H1] <;> iassumption
  isplitl [H3]
  · iapply (Entails.of_eq (bigSep_univ_prod fun p : Dev nD × Fin 3 => cellInv ER (sched I) (K (locCell p.1 p.2)) (locCell p.1 p.2)).symm)
    iexact H3
  iexact HL

end Cert.KernelIdeal.Mla

end
-- ==== Proof.I.Launch.lean ====
/-
  The whole program: from any memory with counters at zero it runs, and ends with the arguments as they were, the result at its value and every counter at zero.
-/
module

public import proofs.«01_k».proof.Proof.I.Deal

@[expose] public section

noncomputable section

namespace Cert.KernelIdeal.Mla

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Seg)
open Cert.KernelIdeal Cert.KernelIdeal.Gen

variable {F : FTy → Type} [FloatOps F] [Named F]

local notation "𝕄" => MT nD τ sig Unit (Elt F) ℕ UU ℕ

variable (m : (ℓ : Loc nD τ sig) → Buf (Elt F) ℓ) (ρ : Dev nD → PrngReg)

/-- The protocol's launch element, kept on device 0 until everything is handed out. -/
def parked (c : Dev nD) : sProp 𝕄 := if c = 0 then BI.own (ER (launchOf barCells ownCells allDuties)) else iprop(emp)

theorem parked_all : bigSep (Finset.univ : Finset (Dev nD)) (parked (F := F)) = BI.own (ER (launchOf barCells ownCells allDuties)) := by
  rw [bigSep_univ_at _ (0 : Dev nD), bigSep_congr (s := Finset.univ.erase (0 : Dev nD)) (Ψ := fun _ => (BI.emp : sProp 𝕄))
      fun c hc => by unfold parked; rw [if_neg (Finset.ne_of_mem_erase hc)]; rfl, BI.bigSep_emp_const]
  unfold parked; rw [if_pos rfl]
  exact BI.equiv_iff.mp sep_emp

theorem sems_bar (c : Dev nD) : (unscopedSems0 c : sProp 𝕄) = semVal (barCell c) 0 := by
  unfold unscopedSems0
  rw [show (Finset.univ.filter fun sm : SemLoc sig => ¬ sm.isScoped .tc = true) = {.reg barS} from by decide, bigSep_singleton]

/-- What a device gets at the launch apart from its tokens. -/
def gear (c : Dev nD) : sProp 𝕄 :=
  iprop((bigSep (Finset.univ : Finset (Fin 4)) fun b => bigSep (Finset.univ : Finset (Fin 7)) fun i => cred (tallyAt (recvCell c b i) () (units b)))
    ∗ cred (tallyAt (barCell c) () 7) ∗ owes (c : Thread nD τ) (owed c 0) ∅ ∗ ∃ r, prngReg c r)

theorem gear_of (c : Dev nD) : iprop(unscopedSems0 c ∗ owes (c : Thread nD τ) (owed c 0) ∅ ∗ Pipeline.launchCred (fun d => owed d 0) c ∗ prngReg c (ρ c) ∗ parked (F := F) c)
    ⊢ iprop(gear (F := F) c ∗ semVal (barCell c) 0 ∗ parked (F := F) c) := by
  rw [sems_bar]
  unfold gear
  iintro ⟨HV, HO, HC, HP, HG⟩
  ihave HC := (credit (F := F) c) $$ HC
  icases HC with ⟨H1, H2⟩
  isplitr [HV HG]
  · isplitl [H2]; · iexact H2
    isplitl [H1]; · iexact H1
    isplitl [HO]; · iexact HO
    iexists (ρ c); iexact HP
  isplitl [HV] <;> iassumption

/-- What a device keeps for the call, put together. -/
theorem rest0_of (K : GSem nD τ sig → ℕ) (c : Dev nD) :
    iprop(recs (ins m) K ∗ atPos ER (barCell c) 0 ∅ 0 ∗ (bigSep (Finset.univ : Finset SK) fun k => openTok ER ((c : Thread nD τ), osem k)) ∗ payer (F := F) c ∗ gear (F := F) c) ⊢ rest0 m c := by
  unfold rest0 carry dealt payer gear
  iintro ⟨#HR, HA, HT, ⟨H1, H2, H3⟩, H4, H5, HO, HP⟩
  isplitr [HO HP]
  · isplitr; · iexists K; iexact HR
    isplitl [HT]; · iexact HT
    isplitl [H5 HA]
    · isplitl [H5] <;> iassumption
    isplitl [H1]; · iexact H1
    isplitl [H2]; · iexact H2
    isplitl [H3] <;> iassumption
  isplitl [HP]; · iexact HP
  iexists ∅; iexact HO

/-- The launch: every device gets what it keeps for the call. -/
theorem init : iprop((bigSep (Finset.univ : Finset (Dev nD)) fun c => iprop(unscopedSems0 c ∗ owes (c : Thread nD τ) (owed c 0) ∅ ∗ Pipeline.launchCred (fun d => owed d 0) c ∗ prngReg c (ρ c) ∗ parked (F := F) c)) ∗ levAts L lv)
    ⊢ (|={Set.univ}=> bigSep (Finset.univ : Finset (Dev nD)) (rest0 m) : sProp 𝕄) := by
  iintro ⟨H, #HL⟩
  ihave H := (show (bigSep (Finset.univ : Finset (Dev nD)) fun c => iprop(unscopedSems0 c ∗ owes (c : Thread nD τ) (owed c 0) ∅ ∗ Pipeline.launchCred (fun d => owed d 0) c ∗ prngReg c (ρ c) ∗ parked (F := F) c))
      ⊢ (iprop((bigSep (Finset.univ : Finset (Dev nD)) fun c => gear (F := F) c) ∗ (bigSep (Finset.univ : Finset (Dev nD)) fun c => semVal (barCell c) 0) ∗ bigSep (Finset.univ : Finset (Dev nD)) fun c => parked (F := F) c) : sProp 𝕄) from by
    rw [← bigSep_sep', ← bigSep_sep']
    exact bigSep_mono fun c _ => gear_of ρ c) $$ H
  icases H with ⟨HG, HV, HU⟩
  ihave HU := (Entails.of_eq (parked_all (F := F))) $$ HU
  imod (Rounds.fund_launch ER (sched (ins m)) cells_disjoint (fun g _ h => h) allDuties) $$ [HV HU] with ⟨%K, -, #HI, #HR, HA, HT, HD⟩
  · isplitl [HV]
    · iapply (Entails.of_eq (bigSep_map (s := Finset.univ) barEmb (Φ := fun g : GSem nD τ sig => (semVal g 0 : sProp 𝕄))).symm)
      iexact HV
    iexact HU
  ihave HA := (Entails.of_eq (bigSep_map (s := Finset.univ) barEmb (Φ := fun g : GSem nD τ sig => (atPos ER g 0 ∅ 0 : sProp 𝕄)))) $$ HA
  ihave HT := (Entails.of_eq ((bigSep_map (s := Finset.univ) ownEmb (Φ := fun g : GSem nD τ sig => (openTok ER g : sProp 𝕄))).trans (bigSep_univ_prod _))) $$ HT
  ihave HD := (deal_tokens (F := F)) $$ HD
  ihave #HK := (recs_of (ins m) K) $$ []
  · isplitr; · iexact HI
    isplitr; · iexact HR
    iexact HL
  imodintro
  iapply (bigSep_with_persistent (R := recs (ins m) K) (Φ := fun c => iprop(atPos ER (barCell c) 0 ∅ 0 ∗ (bigSep (Finset.univ : Finset SK) fun k => openTok ER ((c : Thread nD τ), osem k)) ∗ payer (F := F) c ∗ gear (F := F) c))
    fun c _ => rest0_of m K c)
  isplitr; · iexact HK
  rw [bigSep_sep', bigSep_sep', bigSep_sep']
  isplitl [HA]; · iexact HA
  isplitl [HT]; · iexact HT
  isplitl [HD]; · iexact HD
  iexact HG

/-! ## The run -/

/-- The launch element: the staging copies' and the protocol's. -/
def u₀ : UU := (initOf (Pipeline.cells cfgs cellOf_inj) (Pipeline.launchToks cfgs cellOf_inj), launchOf barCells ownCells allDuties)

/-- What the program's steps hold beside the buffers. -/
def rests : Fin 2 → Dev nD → sProp 𝕄
  | 0 => rest0 m
  | 1 => rest1

theorem unscoped_bar : ∀ sm : SemLoc sig, sm.isScoped .tc = false → sm = .reg barS := by decide

/-- An unscoped buffer read off the end. -/
theorem mem_uc (r : Ref sig .tc) (h : ¬ r.isScoped = true) : Proc.devRef (τ := τ) .tc r ∈ Pipeline.ucRefs τ sig :=
  Finset.mem_filter.mpr ⟨StableHlo.devRef_mem_tcRefs r, h⟩

set_option backward.isDefEq.respectTransparency.types false in
/-- The run, with what every unscoped buffer holds at its end. -/
theorem run_all : θ_run defs (onTc (τ := τ) (main (F := F))) ⟨m, fun _ => 0, ρ⟩
    (fun r => (∀ (c : Dev nD) (b : Ref sig .tc), ¬ b.isScoped = true → r.2.mem ((c : Thread nD τ).loc b) = V3 m (outs m) c b) ∧ r.2.sem = fun _ => 0) := by
  refine Pipeline.θ_run_regions_kit_dev_sems (pcfgs (F := F)) adm (pdats m) () cellOf_inj EP defs₀ 𝒱₀ L lv m ρ main
    (segs m (outs m) 𝒱₀ L lv (rests m) () (pdats m) (reg0 m))
    (fun c Q => by
      rewrite [main_chain c, Seg.run_eq_chain,
        show (segs m (outs m) 𝒱₀ L lv (rests m) () (pdats m) (reg0 m) c).map Seg.prog = [
          StableHlo.seq (hostOps0 c),
          Prog.lift (.customCall (Pipeline.entry 0) ()),
          StableHlo.seq hostOps1 ] from rfl]
      dsimp (config := { failIfUnchanged := false }) only
      exact .rfl)
    (fun c => by simp only [segs, Seg.pipes_host, Seg.pipes_region, Seg.pipes_nil]; decide) (fun c => owed c 0) L_of_ne parked u₀
    (by
      unfold u₀
      iintro Hu
      ihave H := (ownU_pair _ _) $$ Hu
      icases H with ⟨HP, HX⟩
      imodintro
      isplitl [HP]; · iexact HP
      iapply (Entails.of_eq (parked_all (F := F)).symm); iexact HX)
    (T₀ := fun c => iprop(StableHlo.held (c : Thread nD τ) (Pipeline.ucRefs τ sig) (V0 m c) ∗ rest0 m c))
    (Tₙ := fun c => iprop(StableHlo.held (c : Thread nD τ) (Pipeline.ucRefs τ sig) (V3 m (outs m) c) ∗ semVal (barCell c) 0))
    (hch := fun c => ⟨.rfl, reg0_pre m c, reg0_post m c, ?_⟩)
    (hinit := ?_)
    (QY := fun c s => (∀ b : Ref sig .tc, ¬ b.isScoped = true → s.mem ((c : Thread nD τ).loc b) = V3 m (outs m) c b) ∧ s.sem (barCell c) = 0)
    (hfin := fun c s' => ?_)
    (hQ := fun s h hs => ⟨fun c => (h c).1, sem_eq_zero hs fun c sm hsm => by
      obtain rfl := unscoped_bar sm hsm
      exact (h c).2⟩)
  · show iprop(StableHlo.held (c : Thread nD τ) (Pipeline.ucRefs τ sig) (V3 m (outs m) c) ∗ rest1 (F := F) c) ⊢ _
    unfold rest1
    iintro ⟨Hh, HB, HO⟩
    isplitr [HO]
    · isplitl [Hh] <;> iassumption
    iexact HO
  · have hsplit : (bigSep (Finset.univ : Finset (Dev nD)) fun c => iprop(unscopedBufs c (fun b => m ((c.tc : Thread nD τ).loc b)) ∗ unscopedSems0 c
          ∗ owes (c.tc : Thread nD τ) (owed c 0) ∅ ∗ Pipeline.launchCred (fun d => owed d 0) c ∗ prngReg c (ρ c) ∗ parked (F := F) c))
        ⊢ (iprop((bigSep (Finset.univ : Finset (Dev nD)) fun c => StableHlo.held (c : Thread nD τ) (Pipeline.ucRefs τ sig) (V0 m c))
            ∗ bigSep (Finset.univ : Finset (Dev nD)) fun c => iprop(unscopedSems0 c ∗ owes (c : Thread nD τ) (owed c 0) ∅ ∗ Pipeline.launchCred (fun d => owed d 0) c ∗ prngReg c (ρ c) ∗ parked (F := F) c))
            : sProp 𝕄) := by
      rw [← bigSep_sep']
      exact bigSep_mono fun c _ => sep_mono_left (Entails.of_eq (Pipeline.unscopedBufs_held (Ix := Unit) (Name := ℕ) (U := UU) (Lvl := ℕ) c (V0 m c)))
    iintro ⟨H, HL⟩
    ihave H := hsplit $$ H
    icases H with ⟨Hh, Hr⟩
    imod (init m ρ) $$ [Hr HL] with HE
    · isplitl [Hr] <;> iassumption
    imodintro
    rw [bigSep_sep']
    isplitl [Hh] <;> iassumption
  · unfold StableHlo.held
    iintro ⟨⟨Hh, HB⟩, HSI⟩
    icombine HSI HB gives %hb
    ihave Hr := (pointsTo_read_all (Pipeline.ucRefs τ sig) (fun b => ((c : Thread nD τ).1, b)) (V3 m (outs m) c) s') $$ [Hh HSI]
    · isplitl [Hh] <;> iassumption
    icases Hr with ⟨%h, HSI⟩
    imodintro
    isplitr
    · ipureintro
      exact ⟨fun b hs => h _ (mem_uc b hs), by simpa using hb⟩
    iexact HSI

end Cert.KernelIdeal.Mla

end
-- ==== Proof.Math.Spec.lean ====
/-
  The attention of the whole arrays over the extended reals, written with plain matrices: rows are the 512 tokens (batch 0,
  then batch 1), columns of queries, keys and values are the 16 heads of 64, of rotary queries the 16 heads of 32. The
  last section says how sums over 1024 columns fall into eight blocks.
-/
module

public import Idealize.ShloMosaic.Lib.ValueIdx

@[expose] public section

noncomputable section

namespace Cert.Mla

open Idealize.ShloMosaic

/-- A matrix of extended reals. -/
abbrev Mat (n k : ℕ) := Fin n → Fin k → EReal

/-- The product of two matrices. -/
def mm {n k p : ℕ} (a : Mat n k) (b : Mat k p) : Mat n p := fun i j => ∑ t, a i t * b t j

/-- The greatest of a row, from minus infinity. -/
def top {n : ℕ} (f : Fin n → EReal) : EReal := Finset.univ.fold max (Ideal.ofBits .f32 0xFF800000#32) f

/-- The scale of the scores: one over the root of 96, the length of a query with its rotary part. -/
def scale : EReal := (((Real.sqrt 96)⁻¹ : ℝ) : EReal)

/-- The word `0x42C00000` is the number 96. -/
theorem ofBits_96 : Ideal.ofBits .f32 0x42C00000#32 = ((96 : ℝ) : EReal) := by
  simp [Ideal.ofBits, Ideal.ieee, -EReal.coe_mul]; norm_num

/-- The word `0x3F800000` is the number 1. -/
theorem ofBits_1 : Ideal.ofBits .f32 0x3F800000#32 = ((1 : ℝ) : EReal) := by
  simp [Ideal.ofBits, Ideal.ieee, -EReal.coe_mul, -EReal.coe_one]; norm_num

/-- The scaled scores of one head of one batch. -/
def score (q k : Mat 256 64) (qr kr : Mat 256 32) : Mat 256 256 := fun s t =>
  ((∑ d, q s d * k t d) + ∑ d, qr s d * kr t d) * scale

/-- The softmax of each row. -/
def soft (a : Mat 256 256) : Mat 256 256 := fun s t =>
  Ideal.div (Ideal.exp (a s t - top (a s))) (∑ u, Ideal.exp (a s u - top (a s)))

/-- One head of one batch. -/
def attn (q k : Mat 256 64) (qr kr : Mat 256 32) (v : Mat 256 64) : Mat 256 64 := mm (soft (score q k qr kr)) v

/-- Token s of batch b. -/
abbrev tok (b : Fin 2) (s : Fin 256) : Fin 512 := ⟨256 * b.val + s.val, by omega⟩
/-- Column d of head h. -/
abbrev hcol (h : Fin 16) (d : Fin 64) : Fin 1024 := ⟨64 * h.val + d.val, by omega⟩
/-- Column d of rotary head h. -/
abbrev rcol (h : Fin 16) (d : Fin 32) : Fin 512 := ⟨32 * h.val + d.val, by omega⟩
/-- The batch of a token, and its place there. -/
abbrev bat (i : Fin 512) : Fin 2 := ⟨i.val / 256, by omega⟩
@[inherit_doc bat] abbrev pos (i : Fin 512) : Fin 256 := ⟨i.val % 256, Nat.mod_lt _ (by decide)⟩
/-- The head of a column, and its place there. -/
abbrev head (j : Fin 1024) : Fin 16 := ⟨j.val / 64, by omega⟩
@[inherit_doc head] abbrev lane (j : Fin 1024) : Fin 64 := ⟨j.val % 64, Nat.mod_lt _ (by decide)⟩

/-- The attention of head h of batch b, of the projections of all tokens. -/
def block (q k v : Mat 512 1024) (qr : Mat 512 512) (kr : Mat 512 32) (b : Fin 2) (h : Fin 16) : Mat 256 64 :=
  attn (fun s d => q (tok b s) (hcol h d)) (fun s d => k (tok b s) (hcol h d)) (fun s d => qr (tok b s) (rcol h d))
    (fun s d => kr (tok b s) d) (fun s d => v (tok b s) (hcol h d))

/-- The heads side by side. -/
def heads (q k v : Mat 512 1024) (qr : Mat 512 512) (kr : Mat 512 32) : Mat 512 1024 := fun i j =>
  block q k v qr kr (bat i) (head j) (pos i) (lane j)

/-- The attention output of all heads, before the output projection. -/
def mixed (x : Mat 512 1024) (wd : Mat 1024 512) (uk uv : Mat 512 1024) (wq : Mat 1024 1024) (wqr : Mat 1024 512) (wkr : Mat 1024 32) : Mat 512 1024 :=
  heads (mm x wq) (mm (mm x wd) uk) (mm (mm x wd) uv) (mm x wqr) (mm x wkr)

/-- The result of the whole arrays. -/
def result (x : Mat 512 1024) (wd : Mat 1024 512) (uk uv : Mat 512 1024) (wq : Mat 1024 1024) (wqr : Mat 1024 512) (wkr : Mat 1024 32)
    (wo : Mat 1024 1024) : Mat 512 1024 := mm (mixed x wd uk uv wq wqr wkr) wo

/-! ## Sums by blocks -/

/-- A sum over 1024 places is the sum over eight blocks of 128. -/
theorem sum_blocks {M : Type} [AddCommMonoid M] (f : Fin 1024 → M) :
    ∑ t, f t = ∑ d : Fin 8, ∑ j : Fin 128, f ⟨128 * d.val + j.val, by omega⟩ := by
  rw [← (finProdFinEquiv (m := 8) (n := 128)).sum_comp, Fintype.sum_prod_type]
  refine Finset.sum_congr rfl fun d _ => Finset.sum_congr rfl fun j _ => congrArg f (Fin.ext ?_)
  exact Nat.add_comm _ _

/-- A sum over 512 places is the sum over eight blocks of 64. -/
theorem sum_blocks64 {M : Type} [AddCommMonoid M] (f : Fin 512 → M) :
    ∑ t, f t = ∑ d : Fin 8, ∑ j : Fin 64, f ⟨64 * d.val + j.val, by omega⟩ := by
  rw [← (finProdFinEquiv (m := 8) (n := 64)).sum_comp, Fintype.sum_prod_type]
  refine Finset.sum_congr rfl fun d _ => Finset.sum_congr rfl fun j _ => congrArg f (Fin.ext ?_)
  exact Nat.add_comm _ _

/-- A sum over 128 places of which the upper 64 are zero. -/
theorem sum_half {M : Type} [AddCommMonoid M] (f : Fin 128 → M) (h : ∀ j : Fin 128, 64 ≤ j.val → f j = 0) :
    ∑ j, f j = ∑ j : Fin 64, f ⟨j.val, by omega⟩ := by
  have e := Fin.sum_univ_add (a := 64) (b := 64) f
  rw [e, Finset.sum_eq_zero (s := Finset.univ) (f := fun i : Fin 64 => f (Fin.natAdd 64 i)) (fun i _ => h _ (by simp)), add_zero]
  rfl

/-- A sum over 1024 places of which each block of 128 holds 64 and then zeros is a sum over 512. -/
theorem sum_packed {M : Type} [AddCommMonoid M] (f : Fin 1024 → M) (g : Fin 512 → M)
    (h : ∀ (d : Fin 8) (j : Fin 64), f ⟨128 * d.val + j.val, by omega⟩ = g ⟨64 * d.val + j.val, by omega⟩)
    (hz : ∀ (d : Fin 8) (j : Fin 128), 64 ≤ j.val → f ⟨128 * d.val + j.val, by omega⟩ = 0) : ∑ t, f t = ∑ t, g t := by
  rw [sum_blocks, sum_blocks64]
  refine Finset.sum_congr rfl fun d _ => ?_
  rw [sum_half _ (hz d)]
  exact Finset.sum_congr rfl fun j _ => h d j

/-- Eight places counted from any of them around are the eight places. -/
theorem sum_around {M : Type} [AddCommMonoid M] (c : Fin 8) (f : Fin 8 → M) :
    ∑ s : Fin 8, f ⟨(c.val + s.val) % 8, Nat.mod_lt _ (by decide)⟩ = ∑ d, f d := by
  refine Fintype.sum_bijective (fun s : Fin 8 => (⟨(c.val + s.val) % 8, Nat.mod_lt _ (by decide)⟩ : Fin 8)) ?_ _ _ (fun _ => rfl)
  revert c; decide

end Cert.Mla

end
-- ==== Proof.Math.Pays.lean ====
/-
  What the kernel's straight-line pieces compute over the extended reals, at an index: the projections, one head's
  attention, and the accumulation of the output projection.
-/
module

public import proofs.«01_k».proof.Proof.Math.Spec
public import proofs.«01_k».proof.Proof.Gen.KernelIdeal.Skeleton
public import Idealize.ShloMosaic.Lib.Pointwise

@[expose] public section

noncomputable section

namespace Cert.KernelIdeal.Mla

open Idealize.ShloMosaic Cert.KernelIdeal Cert.KernelIdeal.Gen Cert.Mla

/-- The matrix that a vector of two axes holds. -/
abbrev mat {n k : ℕ} {φ : FTy} (v : FVec Ideal ⟨2, ![n, k]⟩ φ) : Mat n k := fun i j => v (ValueIdx.ix2 i j)

/-- The latent block: the tokens times the device's columns. -/
theorem pay7_at (x : FVec Ideal S512x1024 .bf16) (w : FVec Ideal S1024x64 .bf16) (i : Fin 512) (j : Fin 64) :
    k0_pay7 (F := Ideal) (k0_pay4 x) (k0_pay6 w) (ValueIdx.ix2 i j) = mm (mat x) (mat w) i j := by
  rw [← ix2_eq_valueIdx]
  unfold_payloads
  pointwise [mm, ix2_eq_valueIdx]

/-- The queries, likewise. -/
theorem pay26_at (x : FVec Ideal S512x1024 .bf16) (w : FVec Ideal S1024x128 .bf16) (i : Fin 512) (j : Fin 128) :
    k0_pay26 (F := Ideal) (k0_pay4 x) w (ValueIdx.ix2 i j) = mm (mat x) (mat w) i j := by
  rw [← ix2_eq_valueIdx]
  unfold_payloads
  pointwise [mm, ix2_eq_valueIdx]

/-- The rotary queries, likewise. -/
theorem pay27_at (x : FVec Ideal S512x1024 .bf16) (w : FVec Ideal S1024x64 .bf16) (i : Fin 512) (j : Fin 64) :
    k0_pay27 (F := Ideal) (k0_pay4 x) w (ValueIdx.ix2 i j) = mm (mat x) (mat w) i j := pay7_at x w i j

/-- The rotary keys, likewise. -/
theorem pay28_at (x : FVec Ideal S512x1024 .bf16) (w : FVec Ideal S1024x32 .bf16) (i : Fin 512) (j : Fin 32) :
    k0_pay28 (F := Ideal) (k0_pay4 x) w (ValueIdx.ix2 i j) = mm (mat x) (mat w) i j := by
  rw [← ix2_eq_valueIdx]
  unfold_payloads
  pointwise [mm, ix2_eq_valueIdx]

/-- Keys (and values): the gathered latents times the gathered up-projection. -/
theorem pay30_at (x : FVec Ideal S512x1024 .bf16) (w : FVec Ideal S1024x128 .bf16) (i : Fin 512) (j : Fin 128) :
    k0_pay30 (F := Ideal) x w (ValueIdx.ix2 i j) = mm (mat x) (mat w) i j := by
  rw [← ix2_eq_valueIdx]
  unfold_payloads
  pointwise [mm, ix2_eq_valueIdx]
@[inherit_doc pay30_at] theorem pay31_at (x : FVec Ideal S512x1024 .bf16) (w : FVec Ideal S1024x128 .bf16) (i : Fin 512) (j : Fin 128) :
    k0_pay31 (F := Ideal) x w (ValueIdx.ix2 i j) = mm (mat x) (mat w) i j := pay30_at x w i j

/-- The kernel's scale is one over the root of 96. -/
theorem named_scale : Named.named (F := Ideal) κ "scale" (φ := .f32) 0x3DD105EC#32 = scale :=
  IdealRules.named_const.ideal_named_scalar _ _ _ _ rfl

/-- One head of one batch is the attention of its blocks. -/
theorem pay36_at (kr : FVec Ideal S256x32 .bf16) (q k : FVec Ideal S256x64 .bf16) (qr : FVec Ideal S256x32 .bf16) (v : FVec Ideal S256x64 .bf16)
    (s : Fin 256) (d : Fin 64) :
    k0_pay36 (F := Ideal) kr q k qr v (ValueIdx.ix3 (0 : Fin 1) s d) = attn (mat q) (mat k) (mat qr) (mat kr) (mat v) s d := by
  rw [← ix3_eq_valueIdx]
  unfold_payloads
  pointwise [attn, mm, soft, score, top, named_scale, ix2_eq_valueIdx]

/-- The three other places where the kernel writes a head hold the same computation. -/
theorem pay33_eq (kr : FVec Ideal S256x32 .bf16) (q k : FVec Ideal S256x64 .bf16) (qr : FVec Ideal S256x32 .bf16) (v : FVec Ideal S256x64 .bf16) :
    k0_pay33 (F := Ideal) kr qr v (k0_pay32 q k) (constant S256x256 .f32 0x00000000#32) = k0_pay36 kr q k qr v := rfl
@[inherit_doc pay33_eq] theorem pay35_eq (kr : FVec Ideal S256x32 .bf16) (q k : FVec Ideal S256x64 .bf16) (qr : FVec Ideal S256x32 .bf16) (v : FVec Ideal S256x64 .bf16) :
    k0_pay35 (F := Ideal) v (k0_pay34 kr q k qr) (constant S256x64 .f32 0x00000000#32) = k0_pay36 kr q k qr v := rfl
@[inherit_doc pay33_eq] theorem pay37_eq (kr : FVec Ideal S256x32 .bf16) (q k : FVec Ideal S256x64 .bf16) (qr : FVec Ideal S256x32 .bf16) (v : FVec Ideal S256x64 .bf16) :
    k0_pay37 (F := Ideal) kr q k qr v = k0_pay36 kr q k qr v := rfl

/-- One block of the output projection. -/
def part (o : FVec Ideal S1x512x128 .bf16) (w : FVec Ideal S1x128x1024 .bf16) : Mat 512 1024 := fun i n =>
  ∑ j : Fin 128, o (ValueIdx.ix3 0 i j) * w (ValueIdx.ix3 0 j n)

/-- The first block of the output projection. -/
theorem pay38_at (o : FVec Ideal S1x512x128 .bf16) (w : FVec Ideal S1x128x1024 .bf16) (i : Fin 512) (n : Fin 1024) :
    k0_pay38 (F := Ideal) o w (ValueIdx.ix2 i n) = part o w i n := by
  rw [← ix2_eq_valueIdx]
  unfold_payloads
  pointwise [part, ix3_eq_valueIdx]

/-- A further block is added. -/
theorem pay39_at (a : FVec Ideal S512x1024 .f32) (o : FVec Ideal S1x512x128 .bf16) (w : FVec Ideal S1x128x1024 .bf16)
    (i : Fin 512) (n : Fin 1024) :
    k0_pay39 (F := Ideal) a o w (ValueIdx.ix2 i n) = a (ValueIdx.ix2 i n) + part o w i n := by
  rw [← ix2_eq_valueIdx]
  unfold_payloads
  pointwise [part, ix3_eq_valueIdx]

/-- The later blocks are added by the same computation. -/
theorem pay40_eq (a : FVec Ideal S512x1024 .f32) (o : FVec Ideal S1x512x128 .bf16) (w : FVec Ideal S1x128x1024 .bf16) :
    k0_pay40 (F := Ideal) a o w = k0_pay39 a o w := rfl
@[inherit_doc pay40_eq] theorem pay41_eq (a : FVec Ideal S512x1024 .f32) (o : FVec Ideal S1x512x128 .bf16) (w : FVec Ideal S1x128x1024 .bf16) :
    k0_pay41 (F := Ideal) a o w = k0_pay39 a o w := rfl
@[inherit_doc pay40_eq] theorem pay44_eq (a : FVec Ideal S512x1024 .f32) (o : FVec Ideal S1x512x128 .bf16) (w : FVec Ideal S1x128x1024 .bf16) :
    k0_pay44 (F := Ideal) (k0_pay42 a) (k0_pay43 o w) = k0_pay39 a o w := rfl
@[inherit_doc pay40_eq] theorem pay45_eq (a : FVec Ideal S512x1024 .f32) (o : FVec Ideal S1x512x128 .bf16) (w : FVec Ideal S1x128x1024 .bf16) :
    k0_pay45 (F := Ideal) a o w = k0_pay39 a o w := rfl
@[inherit_doc pay40_eq] theorem pay46_eq (a : FVec Ideal S512x1024 .f32) (o : FVec Ideal S1x512x128 .bf16) (w : FVec Ideal S1x128x1024 .bf16) :
    k0_pay46 (F := Ideal) a o w = k0_pay39 a o w := rfl
@[inherit_doc pay40_eq] theorem pay47_eq (a : FVec Ideal S512x1024 .f32) (o : FVec Ideal S1x512x128 .bf16) (w : FVec Ideal S1x128x1024 .bf16) :
    k0_pay47 (F := Ideal) a o w = k0_pay39 a o w := rfl

/-- The zeros that lie beside the data. -/
theorem pay5_at (i : S512x128.Idx) : k0_pay5 (F := Ideal) i = 0 := by
  unfold_payloads
  pointwise
@[inherit_doc pay5_at] theorem pay2_at (i : S1024x128.Idx) : k0_pay2 (F := Ideal) i = 0 := by
  unfold_payloads
  pointwise
@[inherit_doc pay5_at] theorem pay3_at (i : S1024x128.Idx) : k0_pay3 (F := Ideal) i = 0 := pay2_at i

/-- The output projection as copied. -/
theorem pay29_eq (w : FVec Ideal S8x128x1024 .bf16) : k0_pay29 (F := Ideal) w = w := by
  funext i
  unfold_payloads
  pointwise

end Cert.KernelIdeal.Mla

end
-- ==== Proof.Math.Local.lean ====
/-
  What each device's buffers hold over the extended reals, where its operands are its parts of the whole arrays: the
  keys, values and queries of its two heads, their attention, and at the end the whole result.
-/
module

public import proofs.«01_k».proof.Proof.Math.Pays
public import proofs.«01_k».proof.Proof.I.Contents

@[expose] public section

noncomputable section

namespace Cert.KernelIdeal.Mla

open Idealize.ShloMosaic hiding ix2 ix3 eq_ix2 eq_ix3
open Cert.KernelIdeal Cert.KernelIdeal.Gen Cert.Mla
open Idealize.ShloMosaic.ValueIdx (ix2 ix3 eq_ix2 eq_ix3)

/-- A column of 512 from a device and one of its 64. -/
abbrev sub (d : Fin 8) (r : Fin 64) : Fin 512 := ⟨64 * d.val + r.val, by omega⟩

/-- The operands on the devices are their parts of the whole arrays. -/
structure Parts (I : Ins Ideal) (x : Mat 512 1024) (wd : Mat 1024 512) (uk uv : Mat 512 1024) (wq : Mat 1024 1024)
    (wqr : Mat 1024 512) (wkr : Mat 1024 32) (wo : Mat 1024 1024) : Prop where
  x : ∀ (c : Dev nD) i k, I.x c (ix2 i k) = x i k
  wd : ∀ (c : Dev nD) k j, I.wd c (ix2 k j) = wd k (sub c j)
  uk : ∀ (c : Dev nD) r n, I.uk c (ix2 r n) = uk (sub c r) n
  uv : ∀ (c : Dev nD) r n, I.uv c (ix2 r n) = uv (sub c r) n
  wq : ∀ (c : Dev nD) k j, I.wq c (ix2 k j) = wq k (col c j)
  wqr : ∀ (c : Dev nD) k j, I.wqr c (ix2 k j) = wqr k (sub c j)
  wkr : ∀ (c : Dev nD) k j, I.wkr c (ix2 k j) = wkr k j
  wo : ∀ (c : Dev nD) d r n, I.wo c (ix3 d r n) = wo (col d r) n

variable {I : Ins Ideal} {x : Mat 512 1024} {wd : Mat 1024 512} {uk uv : Mat 512 1024} {wq : Mat 1024 1024}
  {wqr : Mat 1024 512} {wkr : Mat 1024 32} {wo : Mat 1024 1024} (h : Parts I x wd uk uv wq wqr wkr wo) (c : Dev nD)
include h

/-- The data half of a latent block. -/
theorem CL_low (i : Fin 512) (j : Fin 128) (hj : j.val < 64) : CL I c (ix2 i j) = mm x wd i (sub c ⟨j.val, hj⟩) := by
  unfold CL
  rw [dif_pos (show ((ix2 i j : S512x128.Idx) 1).val < 64 from hj)]
  refine (pay7_at (I.x c) (I.wd c) i ⟨j.val, hj⟩).trans (Finset.sum_congr rfl fun k _ => ?_)
  exact congrArg₂ (· * ·) (h.x c i k) (h.wd c k _)

omit h in
/-- The other half is zero. -/
theorem CL_high (I : Ins Ideal) (i : Fin 512) (j : Fin 128) (hj : ¬ j.val < 64) : CL I c (ix2 i j) = 0 := by
  unfold CL
  rw [dif_neg (show ¬ ((ix2 i j : S512x128.Idx) 1).val < 64 from hj)]
  exact pay5_at _

/-- The gathered latents times a gathered up-projection is the whole latents times the whole up-projection's columns. -/
theorem up_at (w : Dev nD → FVec Ideal S64x1024 .bf16) (u : Mat 512 1024) (hw : ∀ (d : Dev nD) r n, w d (ix2 r n) = u (sub d r) n)
    (z : FVec Ideal S1024x128 .bf16) (i : Fin 512) (j : Fin 128) :
    mm (mat (CA I)) (mat (gath c w z)) i j = mm (mm x wd) u i (col c j) := by
  refine sum_packed (M := EReal) _ _ (fun d r => ?_) (fun d r hr => ?_)
  · refine congrArg₂ (· * ·) ?_ ?_
    · show CA I (ix2 i (col d ⟨r.val, by omega⟩)) = _
      rw [CA_col]
      exact CL_low h d i _ r.isLt
    · exact (gath_row c w z d r j).trans (hw d r _)
  · have e : CA I (ix2 i (col d r)) = 0 := by
      rw [CA_col]
      exact CL_high d I i r (by omega)
    show CA I (ix2 i (col d r)) * _ = (0 : EReal)
    rw [e]
    exact zero_mul _

theorem KB_at (i : Fin 512) (j : Fin 128) : KB I c (ix2 i j) = mm (mm x wd) uk i (col c j) :=
  (pay30_at _ _ i j).trans (up_at h c _ uk h.uk _ i j)
theorem VB_at (i : Fin 512) (j : Fin 128) : VB I c (ix2 i j) = mm (mm x wd) uv i (col c j) :=
  (pay31_at _ _ i j).trans (up_at h c _ uv h.uv _ i j)
theorem QB_at (i : Fin 512) (j : Fin 128) : QB I c (ix2 i j) = mm x wq i (col c j) :=
  (pay26_at _ _ i j).trans (Finset.sum_congr rfl fun k _ => congrArg₂ (· * ·) (h.x c i k) (h.wq c k j))
theorem QRB_at (i : Fin 512) (j : Fin 64) : QRB I c (ix2 i j) = mm x wqr i (sub c j) :=
  (pay27_at _ _ i j).trans (Finset.sum_congr rfl fun k _ => congrArg₂ (· * ·) (h.x c i k) (h.wqr c k j))
theorem KRB_at (i : Fin 512) (j : Fin 32) : KRB I c (ix2 i j) = mm x wkr i j :=
  (pay28_at _ _ i j).trans (Finset.sum_congr rfl fun k _ => congrArg₂ (· * ·) (h.x c i k) (h.wkr c k j))

/-- The blocks that batch b and the device's head g read are those of the whole arrays. -/
theorem head_at (b : Fin 2) (g : Fin 2) (s : Fin 256) (d : Fin 64) (o : Fin 2 → ℕ) (p r : Fin 2 → ℕ)
    (ho : o = ![256 * b.val, 64 * g.val]) (hp : p = ![256 * b.val, 32 * g.val]) (hr : r = ![256 * b.val, 0])
    (h1 : ∀ a, o a + S256x64.size a ≤ S512x128.size a) (h2 : ∀ a, p a + S256x32.size a ≤ S512x64.size a)
    (h3 : ∀ a, r a + S256x32.size a ≤ S512x32.size a) :
    k0_pay36 (F := Ideal) (at32k (KRB I c) r h3) (at64 (QB I c) o h1) (at64 (KB I c) o h1) (at32q (QRB I c) p h2) (at64 (VB I c) o h1) (ix3 (0 : Fin 1) s d)
      = block (mm x wq) (mm (mm x wd) uk) (mm (mm x wd) uv) (mm x wqr) (mm x wkr) b ⟨2 * c.val + g.val, by have := c.isLt; change _ < 8 at this; omega⟩ s d := by
  subst ho hp hr
  have hc : c.val < 8 := c.isLt
  have e64 : ∀ (s : Fin 256) (d : Fin 64), (Rect.unit (s := S512x128) ![256 * b.val, 64 * g.val] S256x64.size h1).emb (ix2 s d)
      = ix2 (tok b s) (⟨64 * g.val + d.val, by omega⟩ : Fin 128) := fun s d => by
    funext a
    refine Fin.ext ?_
    fin_cases a
    · show 256 * b.val + 1 * s.val = 256 * b.val + s.val; omega
    · show 64 * g.val + 1 * d.val = 64 * g.val + d.val; omega
  have e32q : ∀ (s : Fin 256) (d : Fin 32), (Rect.unit (s := S512x64) ![256 * b.val, 32 * g.val] S256x32.size h2).emb (ix2 s d)
      = ix2 (tok b s) (⟨32 * g.val + d.val, by omega⟩ : Fin 64) := fun s d => by
    funext a
    refine Fin.ext ?_
    fin_cases a
    · show 256 * b.val + 1 * s.val = 256 * b.val + s.val; omega
    · show 32 * g.val + 1 * d.val = 32 * g.val + d.val; omega
  have e32k : ∀ (s : Fin 256) (d : Fin 32), (Rect.unit (s := S512x32) ![256 * b.val, 0] S256x32.size h3).emb (ix2 s d)
      = ix2 (tok b s) d := fun s d => by
    funext a
    refine Fin.ext ?_
    fin_cases a
    · show 256 * b.val + 1 * s.val = 256 * b.val + s.val; omega
    · show 0 + 1 * d.val = d.val; omega
  have hcol' : ∀ d : Fin 64, col c (⟨64 * g.val + d.val, by omega⟩ : Fin 128) = hcol ⟨2 * c.val + g.val, by omega⟩ d :=
    fun d => Fin.ext (by show 128 * c.val + (64 * g.val + d.val) = 64 * (2 * c.val + g.val) + d.val; omega)
  have rcol' : ∀ d : Fin 32, sub c (⟨32 * g.val + d.val, by omega⟩ : Fin 64) = rcol ⟨2 * c.val + g.val, by omega⟩ d :=
    fun d => Fin.ext (by show 64 * c.val + (32 * g.val + d.val) = 32 * (2 * c.val + g.val) + d.val; omega)
  rw [pay36_at]
  unfold block
  have q : mat (at64 (QB I c) ![256 * b.val, 64 * g.val] h1) = fun s d => mm x wq (tok b s) (hcol ⟨2 * c.val + g.val, by omega⟩ d) := by
    funext s d; show QB I c _ = _; rw [e64, QB_at h, hcol']
  have k : mat (at64 (KB I c) ![256 * b.val, 64 * g.val] h1) = fun s d => mm (mm x wd) uk (tok b s) (hcol ⟨2 * c.val + g.val, by omega⟩ d) := by
    funext s d; show KB I c _ = _; rw [e64, KB_at h, hcol']
  have v : mat (at64 (VB I c) ![256 * b.val, 64 * g.val] h1) = fun s d => mm (mm x wd) uv (tok b s) (hcol ⟨2 * c.val + g.val, by omega⟩ d) := by
    funext s d; show VB I c _ = _; rw [e64, VB_at h, hcol']
  have qr : mat (at32q (QRB I c) ![256 * b.val, 32 * g.val] h2) = fun s d => mm x wqr (tok b s) (rcol ⟨2 * c.val + g.val, by omega⟩ d) := by
    funext s d; show QRB I c _ = _; rw [e32q, QRB_at h, rcol']
  have kr : mat (at32k (KRB I c) ![256 * b.val, 0] h3) = fun s d => mm x wkr (tok b s) d := by
    funext s d; show KRB I c _ = _; rw [e32k, KRB_at h]
  rw [q, k, v, qr, kr]

/-- The device's attention output is its 128 columns of the whole one. -/
theorem OL_at (i : Fin 512) (j : Fin 128) : OL I c (ix2 i j) = mixed x wd uk uv wq wqr wkr i (col c j) := by
  have hc : c.val < 8 := c.isLt
  have key : ∀ b g : Fin 2, i.val / 256 = b.val → j.val / 64 = g.val →
      block (mm x wq) (mm (mm x wd) uk) (mm (mm x wd) uv) (mm x wqr) (mm x wkr) b ⟨2 * c.val + g.val, by omega⟩ (pos i) ⟨j.val % 64, Nat.mod_lt _ (by decide)⟩
        = mixed x wd uk uv wq wqr wkr i (col c j) := fun b g hb hg => by
    have e1 : bat i = b := Fin.ext hb
    have e2 : head (col c j) = ⟨2 * c.val + g.val, by omega⟩ := Fin.ext (by show (128 * c.val + j.val) / 64 = 2 * c.val + g.val; omega)
    have e3 : lane (col c j) = ⟨j.val % 64, Nat.mod_lt _ (by decide)⟩ := Fin.ext (by show (128 * c.val + j.val) % 64 = j.val % 64; omega)
    unfold mixed heads
    rw [e1, e2, e3]
  unfold OL
  by_cases hi : i.val < 256 <;> by_cases hj : j.val < 64
  · rw [if_pos (show ((ix2 i j : S512x128.Idx) 0).val < 256 from hi), if_pos (show ((ix2 i j : S512x128.Idx) 1).val < 64 from hj)]
    exact (head_at h c 0 0 _ _ _ _ _ rfl rfl rfl _ _ _).trans (key 0 0 (by show i.val / 256 = 0; omega) (by show j.val / 64 = 0; omega))
  · rw [if_pos (show ((ix2 i j : S512x128.Idx) 0).val < 256 from hi), if_neg (show ¬ ((ix2 i j : S512x128.Idx) 1).val < 64 from hj)]
    exact (head_at h c 0 1 _ _ _ _ _ rfl rfl rfl _ _ _).trans (key 0 1 (by show i.val / 256 = 0; omega) (by show j.val / 64 = 1; omega))
  · rw [if_neg (show ¬ ((ix2 i j : S512x128.Idx) 0).val < 256 from hi), if_pos (show ((ix2 i j : S512x128.Idx) 1).val < 64 from hj)]
    exact (head_at h c 1 0 _ _ _ _ _ rfl rfl rfl _ _ _).trans (key 1 0 (by show i.val / 256 = 1; omega) (by show j.val / 64 = 0; omega))
  · rw [if_neg (show ¬ ((ix2 i j : S512x128.Idx) 0).val < 256 from hi), if_neg (show ¬ ((ix2 i j : S512x128.Idx) 1).val < 64 from hj)]
    exact (head_at h c 1 1 _ _ _ _ _ rfl rfl rfl _ _ _).trans (key 1 1 (by show i.val / 256 = 1; omega) (by show j.val / 64 = 1; omega))

/-- Block d of the output projection of the whole attention output. -/
def slab (x : Mat 512 1024) (wd : Mat 1024 512) (uk uv : Mat 512 1024) (wq : Mat 1024 1024) (wqr : Mat 1024 512) (wkr : Mat 1024 32)
    (wo : Mat 1024 1024) (d : Fin 8) : Mat 512 1024 := fun i n =>
  ∑ j : Fin 128, mixed x wd uk uv wq wqr wkr i (col d j) * wo (col d j) n

/-- What slot s adds, with the rows of the projection that belong to it, is the block of the device s places further. -/
theorem part_at (s : Fin 8) (o : Fin 3 → ℕ) (ho : o = ![(ahead c s).val, 0, 0]) (hb : ∀ a, o a + S1x128x1024.size a ≤ S8x128x1024.size a)
    (i : Fin 512) (n : Fin 1024) :
    part (ogAt I c s) (fun y => k0_pay29 (F := Ideal) (I.wo c) ((Rect.unit (s := S8x128x1024) o S1x128x1024.size hb).emb y)) i n
      = slab x wd uk uv wq wqr wkr wo (ahead c s) i n := by
  subst ho
  refine Finset.sum_congr rfl fun j _ => congrArg₂ (· * ·) ?_ ?_
  · have e : (Rect.unit (s := S8x512x128) ![s.val, 0, 0] S1x512x128.size (slot_inb s)).emb (ix3 (0 : Fin 1) i j) = ix3 s i j := by
      funext a
      refine Fin.ext ?_
      fin_cases a
      · show s.val + 1 * 0 = s.val; omega
      · show 0 + 1 * i.val = i.val; omega
      · show 0 + 1 * j.val = j.val; omega
    show OG I c _ = _
    rw [e]
    exact OL_at h (ahead c s) i j
  · have e : (Rect.unit (s := S8x128x1024) ![(ahead c s).val, 0, 0] S1x128x1024.size hb).emb (ix3 (0 : Fin 1) j n) = ix3 (ahead c s) j n := by
      funext a
      refine Fin.ext ?_
      fin_cases a
      · show (ahead c s).val + 1 * 0 = (ahead c s).val; omega
      · show 0 + 1 * j.val = j.val; omega
      · show 0 + 1 * n.val = n.val; omega
    show k0_pay29 (F := Ideal) (I.wo c) _ = _
    rw [e, pay29_eq]
    exact h.wo c (ahead c s) j n

theorem own_at (i : Fin 512) (n : Fin 1024) : part (ogAt I c 0) (woAt0 I c) i n = slab x wd uk uv wq wqr wkr wo (ahead c 0) i n :=
  part_at h c 0 _ (by rw [off5_eq, ahead_zero]) _ i n
theorem peer_at (k : Fin 7) (i : Fin 512) (n : Fin 1024) :
    part (ogAt I c k.succ) (woAt I c k) i n = slab x wd uk uv wq wqr wkr wo (ahead c k.succ) i n :=
  part_at h c k.succ _ (by rw [off6_eq, ahead_succ]) _ i n

omit h in
/-- Eight terms added one after the other. -/
theorem eight (t : Fin 8 → EReal) (a0 a1 a2 a3 a4 a5 a6 a7 : EReal) (h0 : a0 = t 0) (h1 : a1 = t (0 : Fin 7).succ) (h2 : a2 = t (1 : Fin 7).succ)
    (h3 : a3 = t (2 : Fin 7).succ) (h4 : a4 = t (3 : Fin 7).succ) (h5 : a5 = t (4 : Fin 7).succ) (h6 : a6 = t (5 : Fin 7).succ)
    (h7 : a7 = t (6 : Fin 7).succ) : a0 + a1 + a2 + a3 + a4 + a5 + a6 + a7 = ∑ s, t s := by
  subst h0 h1 h2 h3 h4 h5 h6 h7
  exact (Fin.sum_univ_eight t).symm

/-- The accumulated result is the whole one. -/
theorem AC7_at (i : Fin 512) (n : Fin 1024) : AC7 I c (ix2 i n) = result x wd uk uv wq wqr wkr wo i n := by
  have e : AC7 I c (ix2 i n) = ∑ s : Fin 8, slab x wd uk uv wq wqr wkr wo (ahead c s) i n := by
    unfold AC7 AC6 AC5 AC4 AC3 AC2 AC1 AC0
    rw [pay47_eq, pay46_eq, pay45_eq, pay44_eq, pay41_eq, pay40_eq]
    simp only [pay39_at, pay38_at]
    exact eight (fun s => slab x wd uk uv wq wqr wkr wo (ahead c s) i n) _ _ _ _ _ _ _ _ (own_at h c i n) (peer_at h c 0 i n) (peer_at h c 1 i n)
      (peer_at h c 2 i n) (peer_at h c 3 i n) (peer_at h c 4 i n) (peer_at h c 5 i n) (peer_at h c 6 i n)
  rw [e]
  refine (sum_around (M := EReal) c (fun d => slab x wd uk uv wq wqr wkr wo d i n)).trans ?_
  exact (sum_blocks (M := EReal) (fun t => mixed x wd uk uv wq wqr wkr i t * wo t n)).symm

end Cert.KernelIdeal.Mla

end
-- ==== Proof.Math.Host.lean ====
/-
  The host lines around the kernel: what the operands hold of the arguments, and the reshape of the result.
-/
module

public import proofs.«01_k».proof.Proof.Math.Local
public import proofs.«01_k».proof.Proof.I.Region
public import Idealize.ShloMosaic.Lib.StableHlo.Run
public import Idealize.ShloMosaic.Lib.WordCmp

@[expose] public section

noncomputable section

namespace Cert.KernelIdeal.Mla

open Idealize.ShloMosaic hiding ix2 ix3 eq_ix2 eq_ix3
open Idealize.ShloMosaic.TcCoe
open Cert.KernelIdeal Cert.KernelIdeal.Gen Cert.Mla
open Idealize.ShloMosaic.ValueIdx (ix2 ix3 eq_ix2 eq_ix3)

variable (m : (ℓ : Loc nD τ sig) → Buf (Elt Ideal) ℓ) (c : Dev nD)

/-- The tokens each device hands its kernel: the two batches one after the other. -/
theorem v5_eq : V1 m c main_v5 =
    shapeCast S512x1024 (m ((c : Thread nD τ).loc main_arg0)) shapeCasts_S2x256x1024_S512x1024 := by
  after_results_simp <;> rfl

/-- The output weight each device hands its kernel: its rows cut into eight blocks. -/
theorem v16_eq : V1 m c main_v16 =
    shapeCast S8x128x1024 (m ((c : Thread nD τ).loc main_arg7)) shapeCasts_S1024x1024_S8x128x1024 := by
  after_results_simp <;> rfl

/-- Device `c`'s 128 columns lie inside the whole array. -/
theorem fits10 : S1024x1024.Slices ![0, 128 * c.val] S1024x128 := by revert c; decide

/-- The start of the slice, computed from the device's number, is `128 * c`. -/
theorem word10 : BitVec.toInt ((select
    (cmpi CmpIPredicate.slt
      (muli (id (Host.remui (Host.divui (constantI S_ 32 c.word) (constantI S_ 32 1#32)) (constantI S_ 32 8#32)))
        (constantI S_ 32 128#32)) (constantI S_ 32 0#32))
    (addi (muli (id (Host.remui (Host.divui (constantI S_ 32 c.word) (constantI S_ 32 1#32)) (constantI S_ 32 8#32)))
        (constantI S_ 32 128#32)) (constantI S_ 32 1024#32))
    (muli (id (Host.remui (Host.divui (constantI S_ 32 c.word) (constantI S_ 32 1#32)) (constantI S_ 32 8#32)))
        (constantI S_ 32 128#32))) (Shape.Idx.first h_S_)) = (((128 * c.val : Nat)) : Int) := by
  revert c
  decide +kernel

/-- The query weight each device hands its kernel: its own 128 columns. -/
theorem v10_eq : V1 m c main_v10 =
    extractStridedSlice S1024x128 ![0, 128 * c.val] (m ((c : Thread nD τ).loc main_arg4)) (fits10 c) := by
  after_results_simp
  refine WordCmp.dynamicSlice_eq_extract _ _ _ _ _ (fits10 c) fun a => ?_
  revert a
  rw [Fin.forall_fin_two]
  constructor
  · simp only [Matrix.cons_val_zero, Matrix.cons_val_one]
    after_results_simp
    rfl
  · simp only [Matrix.cons_val_zero, Matrix.cons_val_one]
    after_results_simp
    exact word10 c

/-- Device `c`'s 64 columns lie inside the whole array. -/
theorem fits15 : S1024x512.Slices ![0, 64 * c.val] S1024x64 := by revert c; decide

/-- The start of the slice, computed from the device's number, is `64 * c`. -/
theorem word15 : BitVec.toInt ((select
    (cmpi CmpIPredicate.slt
      (muli (id (Host.remui (Host.divui (constantI S_ 32 c.word) (constantI S_ 32 1#32)) (constantI S_ 32 8#32)))
        (constantI S_ 32 64#32)) (constantI S_ 32 0#32))
    (addi (muli (id (Host.remui (Host.divui (constantI S_ 32 c.word) (constantI S_ 32 1#32)) (constantI S_ 32 8#32)))
        (constantI S_ 32 64#32)) (constantI S_ 32 512#32))
    (muli (id (Host.remui (Host.divui (constantI S_ 32 c.word) (constantI S_ 32 1#32)) (constantI S_ 32 8#32)))
        (constantI S_ 32 64#32))) (Shape.Idx.first h_S_)) = (((64 * c.val : Nat)) : Int) := by
  revert c
  decide +kernel

/-- The rotary query weight each device hands its kernel: its own 64 columns. -/
theorem v15_eq : V1 m c main_v15 =
    extractStridedSlice S1024x64 ![0, 64 * c.val] (m ((c : Thread nD τ).loc main_arg5)) (fits15 c) := by
  after_results_simp
  refine WordCmp.dynamicSlice_eq_extract _ _ _ _ _ (fits15 c) fun a => ?_
  revert a
  rw [Fin.forall_fin_two]
  constructor
  · simp only [Matrix.cons_val_zero, Matrix.cons_val_one]
    after_results_simp
    rfl
  · simp only [Matrix.cons_val_zero, Matrix.cons_val_one]
    after_results_simp
    exact word15 c

/-- The two batches laid one after the other, at an index. -/
theorem flat_at (x : S2x256x1024.Idx → EReal) (i : Fin 512) (k : Fin 1024) :
    shapeCast S512x1024 x shapeCasts_S2x256x1024_S512x1024 (ix2 i k) = x (ix3 (bat i) (pos i) k) := by
  simp only [← ix2_eq_valueIdx, ← ix3_eq_valueIdx]
  pointwise [bat, pos]

/-- The rows cut into eight blocks, at an index. -/
theorem blocks_at (x : S1024x1024.Idx → EReal) (d : Fin 8) (r : Fin 128) (n : Fin 1024) :
    shapeCast S8x128x1024 x shapeCasts_S1024x1024_S8x128x1024 (ix3 d r n) = x (ix2 (col d r) n) := by
  simp only [← ix2_eq_valueIdx, ← ix3_eq_valueIdx]
  pointwise [col]
  simp only [Nat.mul_comm]

/-- The flat rows split into two batches, at an index. -/
theorem unflat_at (x : S512x1024.Idx → EReal) (b : Fin 2) (s : Fin 256) (n : Fin 1024) :
    shapeCast S2x256x1024 x shapeCasts_S512x1024_S2x256x1024 (ix3 b s n) = x (ix2 (Cert.Mla.tok b s) n) := by
  simp only [← ix2_eq_valueIdx, ← ix3_eq_valueIdx]
  pointwise [Cert.Mla.tok]
  simp only [Nat.mul_comm]

/-- A block of 128 columns, at an index. -/
theorem cols128_at (x : S1024x1024.Idx → EReal) (k : Fin 1024) (j : Fin 128) :
    extractStridedSlice S1024x128 ![0, 128 * c.val] x (fits10 c) (ix2 k j) = x (ix2 k (col c j)) := by
  refine congrArg x (funext fun a => Fin.ext ?_)
  fin_cases a
  · simp [ix2]
  · simp [ix2, col]

/-- A block of 64 columns, at an index. -/
theorem cols64_at (x : S1024x512.Idx → EReal) (k : Fin 1024) (j : Fin 64) :
    extractStridedSlice S1024x64 ![0, 64 * c.val] x (fits15 c) (ix2 k j) = x (ix2 k (sub c j)) := by
  refine congrArg x (funext fun a => Fin.ext ?_)
  fin_cases a
  · simp [ix2]
  · simp [ix2, sub]

/-- Tokens, at an index. -/
theorem v5_at (i : Fin 512) (k : Fin 1024) :
    V1 m c main_v5 (ix2 i k) = m ((c : Thread nD τ).loc main_arg0) (ix3 (bat i) (pos i) k) :=
  (congrFun (v5_eq m c) _).trans (flat_at _ i k)

/-- Output weight, at an index. -/
theorem v16_at (d : Fin 8) (r : Fin 128) (n : Fin 1024) :
    V1 m c main_v16 (ix3 d r n) = m ((c : Thread nD τ).loc main_arg7) (ix2 (col d r) n) :=
  (congrFun (v16_eq m c) _).trans (blocks_at _ d r n)

/-- Query weight, at an index. -/
theorem v10_at (k : Fin 1024) (j : Fin 128) :
    V1 m c main_v10 (ix2 k j) = m ((c : Thread nD τ).loc main_arg4) (ix2 k (col c j)) :=
  (congrFun (v10_eq m c) _).trans (cols128_at c _ k j)

/-- Rotary query weight, at an index. -/
theorem v15_at (k : Fin 1024) (j : Fin 64) :
    V1 m c main_v15 (ix2 k j) = m ((c : Thread nD τ).loc main_arg5) (ix2 k (sub c j)) :=
  (congrFun (v15_eq m c) _).trans (cols64_at c _ k j)

/-- Device `c`'s columns of the whole down projection, at an index. -/
theorem wdown_at (w : S1024x512.Idx → EReal) (k : Fin 1024) (j : Fin 64) :
    Layout.block ⟨2, ![1024, 64]⟩ ⟨2, ![1024, 512]⟩ 1 8 c w (by decide) (ix2 k j) = w (ix2 k (sub c j)) := by
  rw [Layout.block_apply]
  refine congrArg w (funext fun a => Fin.ext ?_)
  rw [Layout.Tiles.idx_val]
  fin_cases a
  · rfl
  · exact congrArg (· + j.val) (Nat.mul_comm _ _)

/-- Device `c`'s rows of a whole up projection, at an index. -/
theorem wup_at (w : S512x1024.Idx → EReal) (r : Fin 64) (n : Fin 1024) :
    Layout.block ⟨2, ![64, 1024]⟩ ⟨2, ![512, 1024]⟩ 0 8 c w (by decide) (ix2 r n) = w (ix2 (sub c r) n) := by
  rw [Layout.block_apply]
  refine congrArg w (funext fun a => Fin.ext ?_)
  rw [Layout.Tiles.idx_val]
  fin_cases a
  · exact congrArg (· + r.val) (Nat.mul_comm _ _)
  · rfl

/-- If each device's arguments are its parts of the whole arrays, the operands of the call are the parts the kernel's
    arithmetic takes. -/
theorem parts (a0 : S2x256x1024.Idx → EReal) (a1 : S1024x512.Idx → EReal) (a2 a3 : S512x1024.Idx → EReal)
    (a4 : S1024x1024.Idx → EReal) (a5 : S1024x512.Idx → EReal) (a6 : S1024x32.Idx → EReal) (a7 : S1024x1024.Idx → EReal)
    (h0 : ∀ c : Dev nD, m ((c : Thread nD τ).loc main_arg0) = a0)
    (h1 : ∀ c : Dev nD, m ((c : Thread nD τ).loc main_arg1) = Layout.block ⟨2, ![1024, 64]⟩ ⟨2, ![1024, 512]⟩ 1 8 c a1)
    (h2 : ∀ c : Dev nD, m ((c : Thread nD τ).loc main_arg2) = Layout.block ⟨2, ![64, 1024]⟩ ⟨2, ![512, 1024]⟩ 0 8 c a2)
    (h3 : ∀ c : Dev nD, m ((c : Thread nD τ).loc main_arg3) = Layout.block ⟨2, ![64, 1024]⟩ ⟨2, ![512, 1024]⟩ 0 8 c a3)
    (h4 : ∀ c : Dev nD, m ((c : Thread nD τ).loc main_arg4) = a4) (h5 : ∀ c : Dev nD, m ((c : Thread nD τ).loc main_arg5) = a5)
    (h6 : ∀ c : Dev nD, m ((c : Thread nD τ).loc main_arg6) = a6) (h7 : ∀ c : Dev nD, m ((c : Thread nD τ).loc main_arg7) = a7) :
    Parts (ins m) (fun i k => a0 (ix3 (bat i) (pos i) k)) (fun i j => a1 (ix2 i j)) (fun i j => a2 (ix2 i j))
      (fun i j => a3 (ix2 i j)) (fun i j => a4 (ix2 i j)) (fun i j => a5 (ix2 i j)) (fun i j => a6 (ix2 i j))
      (fun i j => a7 (ix2 i j)) where
  x c i k := (v5_at m c i k).trans (congrFun (h0 c) _)
  wd c k j := (congrFun ((V1_of m c main_arg1 (by decide)).trans (h1 c)) (ix2 k j)).trans (wdown_at c a1 k j)
  uk c r n := (congrFun ((V1_of m c main_arg2 (by decide)).trans (h2 c)) (ix2 r n)).trans (wup_at c a2 r n)
  uv c r n := (congrFun ((V1_of m c main_arg3 (by decide)).trans (h3 c)) (ix2 r n)).trans (wup_at c a3 r n)
  wq c k j := (v10_at m c k j).trans (congrFun (h4 c) _)
  wqr c k j := (v15_at m c k j).trans (congrFun (h5 c) _)
  wkr c k j := congrFun ((V1_of m c main_arg6 (by decide)).trans (h6 c)) (ix2 k j)
  wo c d r n := (v16_at m c d r n).trans (congrFun (h7 c) _)

/-- The host line after the call: it splits the call's result into the two batches. -/
theorem after_call (W : Valuation τ sig (Elt Ideal)) : StableHlo.after hostOps1 W main_v18
    = shapeCast S2x256x1024 (W main_v17) shapeCasts_S512x1024_S2x256x1024 := by
  after_results_simp <;> rfl

/-- The program's result on a device, at an index: what the call leaves at the token's flat row. -/
theorem v18_at (b : Fin 2) (s : Fin 256) (n : Fin 1024) :
    V3 m (outs m) c main_v18 (ix3 b s n) = AC7 (ins m) c (ix2 (Cert.Mla.tok b s) n) := by
  have e : V2 m (outs m) c main_v17 = AC7 (ins m) c := (Function.update_self ..).trans (outs_v17 m c 2)
  have h := congrFun (after_call (V2 m (outs m) c)) (ix3 b s n)
  rw [e] at h
  exact h.trans (unflat_at _ b s n)

end Cert.KernelIdeal.Mla

end
-- ==== Proof.Math.Ref.lean ====
/-
  What the reference computes over the extended reals: stage by stage, the attention of the whole arrays of Spec.lean.
-/
module

public import proofs.«01_k».proof.Proof.Math.Spec
public import proofs.«01_k».proof.Proof.Gen.ReferenceIdeal.Read
public import Idealize.ShloMosaic.Lib.Pointwise

@[expose] public section

noncomputable section

namespace Cert.ReferenceIdeal.Mla

open Idealize.ShloMosaic hiding ix2 ix3 ix4
open Cert.ReferenceIdeal Cert.ReferenceIdeal.Gen Cert.ReferenceIdeal.Read Cert.Mla
open Idealize.ShloMosaic.ValueIdx (ix2 ix3 ix4)

variable (x0 : (⟨S2x256x1024, .bf16⟩ : BufTy).Contents (Elt Ideal)) (x1 : (⟨S1024x512, .bf16⟩ : BufTy).Contents (Elt Ideal))
  (x2 x3 : (⟨S512x1024, .bf16⟩ : BufTy).Contents (Elt Ideal)) (x4 : (⟨S1024x1024, .bf16⟩ : BufTy).Contents (Elt Ideal))
  (x5 : (⟨S1024x512, .bf16⟩ : BufTy).Contents (Elt Ideal)) (x6 : (⟨S1024x32, .bf16⟩ : BufTy).Contents (Elt Ideal))
  (x7 : (⟨S1024x1024, .bf16⟩ : BufTy).Contents (Elt Ideal))

/-- The tokens of both batches, one below the other. -/
abbrev toks : Mat 512 1024 := fun i k => x0 (ix3 (bat i) (pos i) k)
/-- The matrix that a two-axis array holds. -/
abbrev arr {n k : ℕ} (v : (⟨⟨2, ![n, k]⟩, .bf16⟩ : BufTy).Contents (Elt Ideal)) : Mat n k := fun i j => v (ix2 i j)

theorem bat_tok (b : Fin 2) (s : Fin 256) : bat (tok b s) = b := Fin.ext (by show (256 * b.val + s.val) / 256 = b.val; omega)
theorem pos_tok (b : Fin 2) (s : Fin 256) : pos (tok b s) = s := Fin.ext (by show (256 * b.val + s.val) % 256 = s.val; omega)

theorem toks_tok (b : Fin 2) (s : Fin 256) (k : Fin 1024) : toks x0 (tok b s) k = x0 (ix3 b s k) := by
  show x0 (ix3 (bat (tok b s)) (pos (tok b s)) k) = _
  rw [bat_tok, pos_tok]

/-- The latents. -/
theorem v8_at (b : Fin 2) (s : Fin 256) (t : Fin 512) : val_main_v8 (F := Ideal) x0 x1 (ix3 b s t) = mm (toks x0) (arr x1) (tok b s) t := by
  rw [val_main_v8_apply]
  refine Finset.sum_congr rfl fun k _ => congrArg₂ (· * ·) ?_ ?_
  · rw [toks_tok]
    exact congrArg x0 (funext fun a => by fin_cases a <;> rfl)
  · exact congrArg x1 (funext fun a => by fin_cases a <;> rfl)

/-- The keys. -/
theorem v9_at (b : Fin 2) (s : Fin 256) (n : Fin 1024) :
    val_main_v9 (F := Ideal) x0 x1 x2 (ix3 b s n) = mm (mm (toks x0) (arr x1)) (arr x2) (tok b s) n := by
  rw [val_main_v9_apply]
  refine Finset.sum_congr rfl fun k _ => congrArg₂ (· * ·) ?_ ?_
  · exact (congrArg (val_main_v8 (F := Ideal) x0 x1) (funext fun a => by fin_cases a <;> rfl)).trans (v8_at x0 x1 b s k)
  · exact congrArg x2 (funext fun a => by fin_cases a <;> rfl)

/-- The values. -/
theorem v11_at (b : Fin 2) (s : Fin 256) (n : Fin 1024) :
    val_main_v11 (F := Ideal) x0 x1 x3 (ix3 b s n) = mm (mm (toks x0) (arr x1)) (arr x3) (tok b s) n := by
  rw [val_main_v11_apply]
  refine Finset.sum_congr rfl fun k _ => congrArg₂ (· * ·) ?_ ?_
  · exact (congrArg (val_main_v8 (F := Ideal) x0 x1) (funext fun a => by fin_cases a <;> rfl)).trans (v8_at x0 x1 b s k)
  · exact congrArg x3 (funext fun a => by fin_cases a <;> rfl)

/-- The queries. -/
theorem v13_at (b : Fin 2) (s : Fin 256) (n : Fin 1024) : val_main_v13 (F := Ideal) x0 x4 (ix3 b s n) = mm (toks x0) (arr x4) (tok b s) n := by
  rw [val_main_v13_apply]
  refine Finset.sum_congr rfl fun k _ => congrArg₂ (· * ·) ?_ ?_
  · rw [toks_tok]
    exact congrArg x0 (funext fun a => by fin_cases a <;> rfl)
  · exact congrArg x4 (funext fun a => by fin_cases a <;> rfl)

/-- The rotary queries. -/
theorem v15_at (b : Fin 2) (s : Fin 256) (n : Fin 512) : val_main_v15 (F := Ideal) x0 x5 (ix3 b s n) = mm (toks x0) (arr x5) (tok b s) n := by
  rw [val_main_v15_apply]
  refine Finset.sum_congr rfl fun k _ => congrArg₂ (· * ·) ?_ ?_
  · rw [toks_tok]
    exact congrArg x0 (funext fun a => by fin_cases a <;> rfl)
  · exact congrArg x5 (funext fun a => by fin_cases a <;> rfl)

/-- The rotary keys. -/
theorem v17_at (b : Fin 2) (s : Fin 256) (n : Fin 32) : val_main_v17 (F := Ideal) x0 x6 (ix3 b s n) = mm (toks x0) (arr x6) (tok b s) n := by
  rw [val_main_v17_apply]
  refine Finset.sum_congr rfl fun k _ => congrArg₂ (· * ·) ?_ ?_
  · rw [toks_tok]
    exact congrArg x0 (funext fun a => by fin_cases a <;> rfl)
  · exact congrArg x6 (funext fun a => by fin_cases a <;> rfl)

/-- The columns of a head, cut out of the columns of all. -/
theorem cut64 (b : Fin 2) (s : Fin 256) (h : Fin 16) (d : Fin 64) : idx_main_v10 (ix4 b s h d) = ix3 b s (hcol h d) := by
  funext a
  refine Fin.ext ?_
  fin_cases a
  · show (((b.val * 256 + s.val) * 16 + h.val) * 64 + d.val) / 262144 = b.val; omega
  · show (((b.val * 256 + s.val) * 16 + h.val) * 64 + d.val) / 1024 % 256 = s.val; omega
  · show (((b.val * 256 + s.val) * 16 + h.val) * 64 + d.val) % 1024 = 64 * h.val + d.val; omega
@[inherit_doc cut64] theorem cut32 (b : Fin 2) (s : Fin 256) (h : Fin 16) (d : Fin 32) : idx_main_v16 (ix4 b s h d) = ix3 b s (rcol h d) := by
  funext a
  refine Fin.ext ?_
  fin_cases a
  · show (((b.val * 256 + s.val) * 16 + h.val) * 32 + d.val) / 131072 = b.val; omega
  · show (((b.val * 256 + s.val) * 16 + h.val) * 32 + d.val) / 512 % 256 = s.val; omega
  · show (((b.val * 256 + s.val) * 16 + h.val) * 32 + d.val) % 512 = 32 * h.val + d.val; omega
@[inherit_doc cut64] theorem cut1 (b : Fin 2) (s : Fin 256) (d : Fin 32) : idx_main_v18 (ix4 b s (0 : Fin 1) d) = ix3 b s d := by
  funext a
  refine Fin.ext ?_
  fin_cases a
  · show (((b.val * 256 + s.val) * 1 + 0) * 32 + d.val) / 8192 = b.val; omega
  · show (((b.val * 256 + s.val) * 1 + 0) * 32 + d.val) / 32 % 256 = s.val; omega
  · show (((b.val * 256 + s.val) * 1 + 0) * 32 + d.val) % 32 = d.val; omega

variable (b : Fin 2) (h : Fin 16)

theorem v10_at (s : Fin 256) (d : Fin 64) :
    val_main_v10 (F := Ideal) x0 x1 x2 (ix4 b s h d) = mm (mm (toks x0) (arr x1)) (arr x2) (tok b s) (hcol h d) := by
  rw [val_main_v10_apply, cut64, v9_at]
theorem v12_at (s : Fin 256) (d : Fin 64) :
    val_main_v12 (F := Ideal) x0 x1 x3 (ix4 b s h d) = mm (mm (toks x0) (arr x1)) (arr x3) (tok b s) (hcol h d) := by
  rw [val_main_v12_apply, show idx_main_v12 (ix4 b s h d) = _ from cut64 b s h d, v11_at]
theorem v14_at (s : Fin 256) (d : Fin 64) :
    val_main_v14 (F := Ideal) x0 x4 (ix4 b s h d) = mm (toks x0) (arr x4) (tok b s) (hcol h d) := by
  rw [val_main_v14_apply, show idx_main_v14 (ix4 b s h d) = _ from cut64 b s h d, v13_at]
theorem v16_at (s : Fin 256) (d : Fin 32) :
    val_main_v16 (F := Ideal) x0 x5 (ix4 b s h d) = mm (toks x0) (arr x5) (tok b s) (rcol h d) := by
  rw [val_main_v16_apply, cut32, v15_at]
theorem v22_at (s : Fin 256) (d : Fin 32) :
    val_main_v22 (F := Ideal) x0 x6 (ix4 b s h d) = mm (toks x0) (arr x6) (tok b s) d := by
  rw [val_main_v22_apply, show idx_main_v22 (ix4 b s h d) = ix4 b s (0 : Fin 1) d from funext fun a => by fin_cases a <;> rfl,
    val_main_v18_apply, cut1, v17_at]

/-- The whole projections, of one head of one batch. -/
abbrev qh : Mat 256 64 := fun s d => mm (toks x0) (arr x4) (tok b s) (hcol h d)
@[inherit_doc qh] abbrev kh : Mat 256 64 := fun s d => mm (mm (toks x0) (arr x1)) (arr x2) (tok b s) (hcol h d)
@[inherit_doc qh] abbrev vh : Mat 256 64 := fun s d => mm (mm (toks x0) (arr x1)) (arr x3) (tok b s) (hcol h d)
@[inherit_doc qh] abbrev qrh : Mat 256 32 := fun s d => mm (toks x0) (arr x5) (tok b s) (rcol h d)
@[inherit_doc qh] abbrev krh : Mat 256 32 := fun s d => mm (toks x0) (arr x6) (tok b s) d
/-- The scores of that head. -/
abbrev sh : Mat 256 256 := score (qh x0 x4 b h) (kh x0 x1 x2 b h) (qrh x0 x5 b h) (krh x0 x6 b)

/-- The reference's scale, one over the root of 96. -/
theorem scale_at (i : S_.Idx) : val_main_v20 (F := Ideal) i = scale := by
  unfold val_main_v20 val_main_v19 val_main_cst val_main_cst_0
  simp only [Host.divf, Host.sqrt, constant, Ideal.hostDivf_def, Ideal.hostUnary_sqrt_def, Ideal.ofBits_def, ofBits_96, ofBits_1,
    Ideal.sqrt_coe, show ¬(96 : ℝ) < 0 from by norm_num, ↓reduceIte,
    Ideal.div_coe (show Real.sqrt 96 ≠ 0 from (Real.sqrt_pos.mpr (by norm_num)).ne'), one_div, EReal.coe_one, one_mul]
  rfl

theorem v26_at (s t : Fin 256) : val_main_v26 (F := Ideal) x0 x1 x2 x4 x5 x6 (ix4 b h s t) = sh x0 x1 x2 x4 x5 x6 b h s t := by
  rw [val_main_v26_apply, val_main_v24_apply, val_main_v21_apply, val_main_v23_apply]
  refine congrArg₂ (fun a c : EReal => a * c) (congrArg₂ (fun a c : EReal => a + c) ?_ ?_) ?_
  · refine Finset.sum_congr rfl fun d _ => congrArg₂ (· * ·) ?_ ?_
    · exact (congrArg (val_main_v14 (F := Ideal) x0 x4) (funext fun a => by fin_cases a <;> rfl)).trans (v14_at x0 x4 b h s d)
    · exact (congrArg (val_main_v10 (F := Ideal) x0 x1 x2) (funext fun a => by fin_cases a <;> rfl)).trans (v10_at x0 x1 x2 b h t d)
  · refine Finset.sum_congr rfl fun d _ => congrArg₂ (· * ·) ?_ ?_
    · exact (congrArg (val_main_v16 (F := Ideal) x0 x5) (funext fun a => by fin_cases a <;> rfl)).trans (v16_at x0 x5 b h s d)
    · exact (congrArg (val_main_v22 (F := Ideal) x0 x6) (funext fun a => by fin_cases a <;> rfl)).trans (v22_at x0 x6 b h t d)
  · rw [val_main_v25_apply]
    exact scale_at _

/-- The greatest score of each row. -/
theorem v27_at (s : Fin 256) : val_main_v27 (F := Ideal) x0 x1 x2 x4 x5 x6 (ix3 b h s) = top (sh x0 x1 x2 x4 x5 x6 b h s) := by
  have e : ∀ t, sh x0 x1 x2 x4 x5 x6 b h s t = val_main_v26 (F := Ideal) x0 x1 x2 x4 x5 x6 (ix4 b h s t) := fun t => (v26_at x0 x1 x2 x4 x5 x6 b h s t).symm
  rw [show sh x0 x1 x2 x4 x5 x6 b h s = fun t => val_main_v26 (F := Ideal) x0 x1 x2 x4 x5 x6 (ix4 b h s t) from funext e]
  unfold val_main_v27
  generalize val_main_v26 (F := Ideal) x0 x1 x2 x4 x5 x6 = y
  unfold val_main_cst_1
  rw [← ix3_eq_valueIdx]
  pointwise [top, ix4_eq_valueIdx]

theorem v31_at (s t : Fin 256) : val_main_v31 (F := Ideal) x0 x1 x2 x4 x5 x6 (ix4 b h s t)
    = Ideal.exp (sh x0 x1 x2 x4 x5 x6 b h s t - top (sh x0 x1 x2 x4 x5 x6 b h s)) := by
  rw [val_main_v31_apply, val_main_v30_apply, v26_at, val_main_v29_apply, val_main_v28_apply,
    show idx_main_v28 (idx_main_v29 (ix4 b h s t)) = ix3 b h s from funext fun a => by fin_cases a <;> rfl, v27_at]
  rfl

theorem v35_at (s t : Fin 256) : val_main_v35 (F := Ideal) x0 x1 x2 x4 x5 x6 (ix4 b h s t) = soft (sh x0 x1 x2 x4 x5 x6 b h) s t := by
  rw [val_main_v35_apply, v31_at, val_main_v34_apply, val_main_v33_apply,
    show idx_main_v33 (idx_main_v34 (ix4 b h s t)) = ix3 b h s from funext fun a => by fin_cases a <;> rfl, val_main_v32_apply]
  refine congrArg (Ideal.div _) ?_
  rw [show (val_main_cst_2 (F := Ideal)) (Shape.Idx.first h_S_) = (0 : EReal) from by unfold val_main_cst_2; pointwise]
  refine (zero_add _).trans (Finset.sum_congr rfl fun u _ => ?_)
  exact (congrArg (val_main_v31 (F := Ideal) x0 x1 x2 x4 x5 x6) (funext fun a => by fin_cases a <;> rfl)).trans (v31_at x0 x1 x2 x4 x5 x6 b h s u)

/-- One head's attention. -/
theorem v36_at (s : Fin 256) (d : Fin 64) : val_main_v36 (F := Ideal) x0 x1 x2 x3 x4 x5 x6 (ix4 b h d s)
    = block (mm (toks x0) (arr x4)) (mm (mm (toks x0) (arr x1)) (arr x2)) (mm (mm (toks x0) (arr x1)) (arr x3)) (mm (toks x0) (arr x5)) (mm (toks x0) (arr x6)) b h s d := by
  rw [val_main_v36_apply]
  show _ = ∑ t, soft (sh x0 x1 x2 x4 x5 x6 b h) s t * vh x0 x1 x3 b h t d
  refine Finset.sum_congr rfl fun t _ => (mul_comm (G := EReal) _ _).trans (congrArg₂ (· * ·) ?_ ?_)
  · exact (congrArg (val_main_v35 (F := Ideal) x0 x1 x2 x4 x5 x6) (funext fun a => by fin_cases a <;> rfl)).trans (v35_at x0 x1 x2 x4 x5 x6 b h s t)
  · exact (congrArg (val_main_v12 (F := Ideal) x0 x1 x3) (funext fun a => by fin_cases a <;> rfl)).trans (v12_at x0 x1 x3 b h t d)

omit h in
/-- The heads side by side. -/
theorem v38_at (s : Fin 256) (n : Fin 1024) : val_main_v38 (F := Ideal) x0 x1 x2 x3 x4 x5 x6 (ix3 b s n)
    = mixed (toks x0) (arr x1) (arr x2) (arr x3) (arr x4) (arr x5) (arr x6) (tok b s) n := by
  have e : idx_main_v37 (idx_main_v38 (ix3 b s n)) = ix4 b (head n) (lane n) s := by
    funext a
    refine Fin.ext ?_
    fin_cases a
    · show ((b.val * 256 + s.val) * 1024 + n.val) / 262144 = b.val; omega
    · show ((b.val * 256 + s.val) * 1024 + n.val) / 64 % 16 = n.val / 64; omega
    · show ((b.val * 256 + s.val) * 1024 + n.val) % 64 = n.val % 64; omega
    · show ((b.val * 256 + s.val) * 1024 + n.val) / 1024 % 256 = s.val; omega
  rw [val_main_v38_apply, val_main_v37_apply, e, v36_at]
  unfold mixed heads
  rw [bat_tok, pos_tok]

omit h in
/-- The reference's result is the whole attention. -/
theorem v39_at (s : Fin 256) (n : Fin 1024) : val_main_v39 (F := Ideal) x0 x1 x2 x3 x4 x5 x6 x7 (ix3 b s n)
    = result (toks x0) (arr x1) (arr x2) (arr x3) (arr x4) (arr x5) (arr x6) (arr x7) (tok b s) n := by
  rw [val_main_v39_apply]
  show _ = ∑ k, mixed (toks x0) (arr x1) (arr x2) (arr x3) (arr x4) (arr x5) (arr x6) (tok b s) k * arr x7 k n
  refine Finset.sum_congr rfl fun k _ => congrArg₂ (· * ·) ?_ ?_
  · exact (congrArg (val_main_v38 (F := Ideal) x0 x1 x2 x3 x4 x5 x6) (funext fun a => by fin_cases a <;> rfl)).trans (v38_at x0 x1 x2 x3 x4 x5 x6 b s k)
  · exact congrArg x7 (funext fun a => by fin_cases a <;> rfl)

end Cert.ReferenceIdeal.Mla

end
-- ==== Proof.Math.Equal.lean ====
/-
  The two results agree: what every device's run leaves is what the reference leaves on the whole arrays.
-/
module

public import proofs.«01_k».proof.Proof.Math.Host
public import proofs.«01_k».proof.Proof.Math.Ref

@[expose] public section

noncomputable section

namespace Cert.KernelIdeal.Mla

open Idealize.ShloMosaic hiding ix2 ix3 eq_ix2 eq_ix3
open Idealize.ShloMosaic.TcCoe
open Cert.KernelIdeal Cert.KernelIdeal.Gen Cert.Mla
open Idealize.ShloMosaic.ValueIdx (ix2 ix3 eq_ix2 eq_ix3)

/-- If each device's arguments are its parts of the whole arrays, its result array is the reference's result on the whole
    arrays. -/
theorem v18_eq_ref (m : (ℓ : Loc nD τ sig) → Buf (Elt Ideal) ℓ) (c : Dev nD) (a0 : S2x256x1024.Idx → EReal)
    (a1 : S1024x512.Idx → EReal) (a2 a3 : S512x1024.Idx → EReal) (a4 : S1024x1024.Idx → EReal) (a5 : S1024x512.Idx → EReal)
    (a6 : S1024x32.Idx → EReal) (a7 : S1024x1024.Idx → EReal)
    (h0 : ∀ c : Dev nD, m ((c : Thread nD τ).loc main_arg0) = a0)
    (h1 : ∀ c : Dev nD, m ((c : Thread nD τ).loc main_arg1) = Layout.block ⟨2, ![1024, 64]⟩ ⟨2, ![1024, 512]⟩ 1 8 c a1)
    (h2 : ∀ c : Dev nD, m ((c : Thread nD τ).loc main_arg2) = Layout.block ⟨2, ![64, 1024]⟩ ⟨2, ![512, 1024]⟩ 0 8 c a2)
    (h3 : ∀ c : Dev nD, m ((c : Thread nD τ).loc main_arg3) = Layout.block ⟨2, ![64, 1024]⟩ ⟨2, ![512, 1024]⟩ 0 8 c a3)
    (h4 : ∀ c : Dev nD, m ((c : Thread nD τ).loc main_arg4) = a4) (h5 : ∀ c : Dev nD, m ((c : Thread nD τ).loc main_arg5) = a5)
    (h6 : ∀ c : Dev nD, m ((c : Thread nD τ).loc main_arg6) = a6) (h7 : ∀ c : Dev nD, m ((c : Thread nD τ).loc main_arg7) = a7) :
    V3 m (outs m) c main_v18 = Cert.ReferenceIdeal.Read.val_main_v39 (F := Ideal) a0 a1 a2 a3 a4 a5 a6 a7 := by
  have hp := parts m a0 a1 a2 a3 a4 a5 a6 a7 h0 h1 h2 h3 h4 h5 h6 h7
  refine funext fun (i : S2x256x1024.Idx) => ?_
  rw [eq_ix3 i]
  exact ((v18_at m c (i 0) (i 1) (i 2)).trans (AC7_at hp c (Cert.Mla.tok (i 0) (i 1)) (i 2))).trans
    (Cert.ReferenceIdeal.Mla.v39_at a0 a1 a2 a3 a4 a5 a6 a7 (i 0) (i 1) (i 2)).symm

end Cert.KernelIdeal.Mla

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Gen.ReferenceIdeal.Read
public import proofs.«01_k».proof.Proof.K.Launch
public import proofs.«01_k».proof.Proof.I.Launch
public import proofs.«01_k».proof.Proof.Math.Equal
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The kernel as written, at the bits: it runs on the eight devices, its argument arrays end unchanged, and every
    semaphore counter ends at zero. -/
theorem frame_k : Cert.quiescent_Kernel := by
  intro m ρ _
  refine (θ_run Cert.Kernel.defs _ _).mono (fun r h => ⟨fun c => ?_, h.2⟩) (Cert.Kernel.Mla.run_all (F := Bits) m ρ)
  exact ⟨(h.1 c main_arg0 (by decide)).trans (Gen.V3_main_arg0 m _ c), (h.1 c main_arg1 (by decide)).trans (Gen.V3_main_arg1 m _ c),
    (h.1 c main_arg2 (by decide)).trans (Gen.V3_main_arg2 m _ c), (h.1 c main_arg3 (by decide)).trans (Gen.V3_main_arg3 m _ c),
    (h.1 c main_arg4 (by decide)).trans (Gen.V3_main_arg4 m _ c), (h.1 c main_arg5 (by decide)).trans (Gen.V3_main_arg5 m _ c),
    (h.1 c main_arg6 (by decide)).trans (Gen.V3_main_arg6 m _ c), (h.1 c main_arg7 (by decide)).trans (Gen.V3_main_arg7 m _ c)⟩

/-- The same of the kernel over the extended reals. -/
theorem frame_i : Cert.quiescent_KernelIdeal := by
  intro m ρ _
  refine (θ_run Cert.KernelIdeal.defs _ _).mono (fun r h => ⟨fun c => ?_, h.2⟩) (Cert.KernelIdeal.Mla.run_all (F := Ideal) m ρ)
  open Cert.KernelIdeal in
  exact ⟨(h.1 c Cert.KernelIdeal.main_arg0 (by decide)).trans (Cert.KernelIdeal.Gen.V3_main_arg0 m _ c),
    (h.1 c Cert.KernelIdeal.main_arg1 (by decide)).trans (Cert.KernelIdeal.Gen.V3_main_arg1 m _ c),
    (h.1 c Cert.KernelIdeal.main_arg2 (by decide)).trans (Cert.KernelIdeal.Gen.V3_main_arg2 m _ c),
    (h.1 c Cert.KernelIdeal.main_arg3 (by decide)).trans (Cert.KernelIdeal.Gen.V3_main_arg3 m _ c),
    (h.1 c Cert.KernelIdeal.main_arg4 (by decide)).trans (Cert.KernelIdeal.Gen.V3_main_arg4 m _ c),
    (h.1 c Cert.KernelIdeal.main_arg5 (by decide)).trans (Cert.KernelIdeal.Gen.V3_main_arg5 m _ c),
    (h.1 c Cert.KernelIdeal.main_arg6 (by decide)).trans (Cert.KernelIdeal.Gen.V3_main_arg6 m _ c),
    (h.1 c Cert.KernelIdeal.main_arg7 (by decide)).trans (Cert.KernelIdeal.Gen.V3_main_arg7 m _ c)⟩

/-- The same of the reference: one device, no semaphore. -/
theorem frame_r : Cert.quiescent_ReferenceIdeal := by
  intro m ρ _
  exact (θ_run Cert.ReferenceIdeal.defs _ _).mono (fun r h => ⟨fun c => (h c).2, sem_eq_zero_of_no_sems (by decide) r.2⟩)
    (Cert.ReferenceIdeal.Value.run (F := Ideal) m ρ)

/-- Over the extended reals, where each device starts with its part of the whole arrays, every device ends with the
    reference's result, and both programs leave their arguments unchanged. -/
theorem value : Cert.algebraic_KernelIdeal_ReferenceIdeal := by
  intro m ρ m' ρ' _ hm
  refine ⟨Cert.ReferenceIdeal.Value.res_main_v39 m' 0, ?_, ?_⟩
  · refine (θ_run Cert.KernelIdeal.defs _ _).mono (fun r h c => ?_) (Cert.KernelIdeal.Mla.run_all (F := Ideal) m ρ)
    have e := Cert.KernelIdeal.Mla.v18_eq_ref m c _ _ _ _ _ _ _ _ (fun c => (hm c).1) (fun c => (hm c).2.1) (fun c => (hm c).2.2.1)
      (fun c => (hm c).2.2.2.1) (fun c => (hm c).2.2.2.2.1) (fun c => (hm c).2.2.2.2.2.1) (fun c => (hm c).2.2.2.2.2.2.1)
      (fun c => (hm c).2.2.2.2.2.2.2)
    open Cert.KernelIdeal in
    exact ⟨(h.1 c Cert.KernelIdeal.main_v18 (by decide)).trans (e.trans (Cert.ReferenceIdeal.Read.val_main_v39_eq m' 0).symm),
      (h.1 c Cert.KernelIdeal.main_arg0 (by decide)).trans (Cert.KernelIdeal.Gen.V3_main_arg0 m _ c),
      (h.1 c Cert.KernelIdeal.main_arg1 (by decide)).trans (Cert.KernelIdeal.Gen.V3_main_arg1 m _ c),
      (h.1 c Cert.KernelIdeal.main_arg2 (by decide)).trans (Cert.KernelIdeal.Gen.V3_main_arg2 m _ c),
      (h.1 c Cert.KernelIdeal.main_arg3 (by decide)).trans (Cert.KernelIdeal.Gen.V3_main_arg3 m _ c),
      (h.1 c Cert.KernelIdeal.main_arg4 (by decide)).trans (Cert.KernelIdeal.Gen.V3_main_arg4 m _ c),
      (h.1 c Cert.KernelIdeal.main_arg5 (by decide)).trans (Cert.KernelIdeal.Gen.V3_main_arg5 m _ c),
      (h.1 c Cert.KernelIdeal.main_arg6 (by decide)).trans (Cert.KernelIdeal.Gen.V3_main_arg6 m _ c),
      (h.1 c Cert.KernelIdeal.main_arg7 (by decide)).trans (Cert.KernelIdeal.Gen.V3_main_arg7 m _ c)⟩
  · exact (θ_run Cert.ReferenceIdeal.defs _ _).mono (fun r h => h 0) (Cert.ReferenceIdeal.Value.run (F := Ideal) m' ρ')

/-- The one constant that is named: the kernel's scale, whose word is the rounded one over the root of 96. -/
theorem preserves : Cert.preserves_Kernel_KernelIdeal :=
  IdealRules.named_const.statement Cert.KernelIdeal.κ "scale" .f32 0x3DD105EC#32 (((Real.sqrt 96)⁻¹ : ℝ) : EReal) rfl

/-- The certificate's claim. -/
theorem claim : Cert.Claim :=
  ⟨Cert.Kernel.Gen.facts, Cert.KernelIdeal.Gen.facts, Cert.ReferenceIdeal.Gen.facts, frame_k, frame_i, frame_r, preserves, value⟩

end Cert.Proof

end
